-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def preserves_Kernel_KernelIdeal : Prop :=
  IdealRules.named_const.Statement Cert.KernelIdeal.κ "scale" .f32 0x3E0293EE#32 (((Real.sqrt 128)⁻¹ * (Real.log 2)⁻¹ : ℝ) : EReal)
  ∧ IdealRules.named_const.Statement Cert.KernelIdeal.κ "log2_e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v43) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Mlp (hMlp := hMlp)
    ∧ quiescent_MlpIdeal (hMlpIdeal := hMlpIdeal)
    ∧ quiescent_MlpReferenceIdeal (hMlpReferenceIdeal := hMlpReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Mlp_MlpIdeal
    ∧ algebraic_MlpIdeal_MlpReferenceIdeal (hMlpIdeal := hMlpIdeal) (hMlpReferenceIdeal := hMlpReferenceIdeal)
-- ==== Pre_finite_scores.lean ====
abbrev S4x4096x3072 : Shape := ⟨3, ![4, 4096, 3072]⟩
abbrev S4x4096x2048 : Shape := ⟨3, ![4, 4096, 2048]⟩
abbrev S2x4x2048 : Shape := ⟨3, ![2, 4, 2048]⟩
abbrev S1x3x1024 : Shape := ⟨3, ![1, 3, 1024]⟩
abbrev S1x8x320 : Shape := ⟨3, ![1, 8, 320]⟩
abbrev S1x2048x2048 : Shape := ⟨3, ![1, 2048, 2048]⟩
abbrev S_ : Shape := ⟨0, ![]⟩

class Facts : Prop where
  slices_S4x4096x3072_S4x4096x2048_0_0_0 : S4x4096x3072.Slices ![0, 0, 0] S4x4096x2048
  bitsLt_bf16_f32 : FTy.bits .bf16 < FTy.bits .f32
  bcast_S_S4x4096x2048 : S_.BroadcastsInDim S4x4096x2048 (![] : Fin 0 → Fin S4x4096x2048.rank)
  bcast_S_S1x8x320 : S_.BroadcastsInDim S1x8x320 (![] : Fin 0 → Fin S1x8x320.rank)

variable [Facts]

def fn {F : FTy → Type} [FloatOps F] (main_arg0 : FVec F S4x4096x3072 .f32) (main_arg1 : FVec F S4x4096x3072 .bf16) (main_arg2 : FVec F S4x4096x2048 .f32) (main_arg3 : FVec F S2x4x2048 .f32) (main_arg4 : FVec F S1x3x1024 .f32) (main_arg5 : FVec F S1x8x320 .f32) (main_arg6 : FVec F S1x2048x2048 .f32) : IVec S4x4096x2048 1 × IVec S1x8x320 1 :=
  let main_v0 : FVec F S4x4096x2048 .bf16 := (extractStridedSlice S4x4096x2048 ![0, 0, 0] · slices_S4x4096x3072_S4x4096x2048_0_0_0) main_arg1
  let main_v1 : FVec F S4x4096x2048 .f32 := (extf .f32 · bitsLt_bf16_f32) main_v0
  let main_v2 : FVec F S4x4096x2048 .f32 := Host.absf main_v1
  let main_cst : FVec F S_ .f32 := constant S_ .f32 0x7F800000#32
  let main_v3 : FVec F S4x4096x2048 .f32 := broadcastInDim S4x4096x2048 ![] bcast_S_S4x4096x2048 main_cst
  let main_v4 : IVec S4x4096x2048 1 := cmpf .olt main_v2 main_v3
  let main_v5 : FVec F S1x8x320 .f32 := Host.absf main_arg5
  let main_cst_0 : FVec F S_ .f32 := constant S_ .f32 0x7F800000#32
  let main_v6 : FVec F S1x8x320 .f32 := broadcastInDim S1x8x320 ![] bcast_S_S1x8x320 main_cst_0
  let main_v7 : IVec S1x8x320 1 := cmpf .olt main_v5 main_v6
  (main_v4, main_v7)
-- ==== Kernel.lean ====
abbrev S4x4096x3072 : Shape := ⟨3, ![4, 4096, 3072]⟩
abbrev S4x4096x2048 : Shape := ⟨3, ![4, 4096, 2048]⟩
abbrev S2x4x2048 : Shape := ⟨3, ![2, 4, 2048]⟩
abbrev S1x3x1024 : Shape := ⟨3, ![1, 3, 1024]⟩
abbrev S1x8x320 : Shape := ⟨3, ![1, 8, 320]⟩
abbrev S1x2048x2048 : Shape := ⟨3, ![1, 2048, 2048]⟩
abbrev S1x768 : Shape := ⟨2, ![1, 768]⟩
abbrev S16384x2048 : Shape := ⟨2, ![16384, 2048]⟩
abbrev S1x4x2048 : Shape := ⟨3, ![1, 4, 2048]⟩
abbrev S4x2048 : Shape := ⟨2, ![4, 2048]⟩
abbrev S4x1x2048 : Shape := ⟨3, ![4, 1, 2048]⟩
abbrev S16384x3072 : Shape := ⟨2, ![16384, 3072]⟩
abbrev S3x1024 : Shape := ⟨2, ![3, 1024]⟩
abbrev S8x320 : Shape := ⟨2, ![8, 320]⟩
abbrev S1x1x2048 : Shape := ⟨3, ![1, 1, 2048]⟩
abbrev S1x2048 : Shape := ⟨2, ![1, 2048]⟩
abbrev S8x1 : Shape := ⟨2, ![8, 1]⟩
abbrev S8x319 : Shape := ⟨2, ![8, 319]⟩
abbrev S8x639 : Shape := ⟨2, ![8, 639]⟩
abbrev S8x576 : Shape := ⟨2, ![8, 576]⟩
abbrev S8x1x576 : Shape := ⟨3, ![8, 1, 576]⟩
abbrev S8x16x576 : Shape := ⟨3, ![8, 16, 576]⟩
abbrev S8x64x576 : Shape := ⟨3, ![8, 64, 576]⟩
abbrev S_ : Shape := ⟨0, ![]⟩
abbrev S8x64x0 : Shape := ⟨3, ![8, 64, 0]⟩
abbrev S8x64x192 : Shape := ⟨3, ![8, 64, 192]⟩
abbrev S8x64x768 : Shape := ⟨3, ![8, 64, 768]⟩
abbrev S8x64x64 : Shape := ⟨3, ![8, 64, 64]⟩
abbrev S8x64x128 : Shape := ⟨3, ![8, 64, 128]⟩
abbrev S8x256x768 : Shape := ⟨3, ![8, 256, 768]⟩
abbrev S1x8x256x768 : Shape := ⟨4, ![1, 8, 256, 768]⟩
abbrev S3x8x256x768 : Shape := ⟨4, ![3, 8, 256, 768]⟩
abbrev S256x1024 : Shape := ⟨2, ![256, 1024]⟩
abbrev S8x1024 : Shape := ⟨2, ![8, 1024]⟩
abbrev S256x2048 : Shape := ⟨2, ![256, 2048]⟩
abbrev S2x256x2048 : Shape := ⟨3, ![2, 256, 2048]⟩
abbrev S264x1024 : Shape := ⟨2, ![264, 1024]⟩
abbrev S1x256x2048 : Shape := ⟨3, ![1, 256, 2048]⟩
abbrev S2048x2048 : Shape := ⟨2, ![2048, 2048]⟩
abbrev S256 : Shape := ⟨1, ![256]⟩
abbrev S256x1 : Shape := ⟨2, ![256, 1]⟩
abbrev S1x1024 : Shape := ⟨2, ![1, 1024]⟩
abbrev S1x256x1024 : Shape := ⟨3, ![1, 256, 1024]⟩
abbrev S256x128 : Shape := ⟨2, ![256, 128]⟩
abbrev S768x128 : Shape := ⟨2, ![768, 128]⟩
abbrev S256x768 : Shape := ⟨2, ![256, 768]⟩
abbrev S1x1x256x768 : Shape := ⟨4, ![1, 1, 256, 768]⟩
abbrev S768x256 : Shape := ⟨2, ![768, 256]⟩
abbrev S256x256 : Shape := ⟨2, ![256, 256]⟩
abbrev S1x256x128 : Shape := ⟨3, ![1, 256, 128]⟩

abbrev nBuf : Space → Nat
  | .hbm => 200
  | .vmem => 35
  | .smem => 0
  | _ => 0

abbrev hbmTy0_0 (i : Nat) : BufTy := match i % 128 with
  | 0 => ⟨S4x4096x3072, .f32⟩
  | 1 => ⟨S4x4096x3072, .bf16⟩
  | 2 => ⟨S4x4096x2048, .f32⟩
  | 3 => ⟨S2x4x2048, .f32⟩
  | 4 => ⟨S1x3x1024, .f32⟩
  | 5 => ⟨S1x8x320, .f32⟩
  | 6 => ⟨S1x2048x2048, .f32⟩
  | 7 => ⟨S1x768, .i1⟩
  | 8 => ⟨S1x768, .i1⟩
  | 9 => ⟨S1x768, .i1⟩
  | 10 => ⟨S1x2048x2048, .bf16⟩
  | 11 => ⟨S16384x2048, .f32⟩
  | 12 => ⟨S1x4x2048, .f32⟩
  | 13 => ⟨S4x2048, .f32⟩
  | 14 => ⟨S4x1x2048, .f32⟩
  | 15 => ⟨S16384x3072, .f32⟩
  | 16 => ⟨S16384x3072, .bf16⟩
  | 17 => ⟨S3x1024, .f32⟩
  | 18 => ⟨S8x320, .f32⟩
  | 19 => ⟨S1x1x2048, .f32⟩
  | 20 => ⟨S1x2048, .f32⟩
  | 21 => ⟨S8x1, .f32⟩
  | 22 => ⟨S8x320, .f32⟩
  | 23 => ⟨S8x320, .f32⟩
  | 24 => ⟨S8x319, .f32⟩
  | 25 => ⟨S8x639, .f32⟩
  | 26 => ⟨S8x576, .f32⟩
  | 27 => ⟨S8x576, .f32⟩
  | 28 => ⟨S8x576, .f32⟩
  | 29 => ⟨S8x576, .f32⟩
  | 30 => ⟨S8x576, .f32⟩
  | 31 => ⟨S8x576, .f32⟩
  | 32 => ⟨S8x576, .f32⟩
  | 33 => ⟨S8x576, .f32⟩
  | 34 => ⟨S8x576, .f32⟩
  | 35 => ⟨S8x576, .f32⟩
  | 36 => ⟨S8x576, .f32⟩
  | 37 => ⟨S8x576, .f32⟩
  | 38 => ⟨S8x576, .f32⟩
  | 39 => ⟨S8x576, .f32⟩
  | 40 => ⟨S8x576, .f32⟩
  | 41 => ⟨S8x576, .f32⟩
  | 42 => ⟨S8x576, .f32⟩
  | 43 => ⟨S8x576, .f32⟩
  | 44 => ⟨S8x576, .f32⟩
  | 45 => ⟨S8x576, .f32⟩
  | 46 => ⟨S8x576, .f32⟩
  | 47 => ⟨S8x576, .f32⟩
  | 48 => ⟨S8x576, .f32⟩
  | 49 => ⟨S8x576, .f32⟩
  | 50 => ⟨S8x576, .f32⟩
  | 51 => ⟨S8x576, .f32⟩
  | 52 => ⟨S8x576, .f32⟩
  | 53 => ⟨S8x576, .f32⟩
  | 54 => ⟨S8x576, .f32⟩
  | 55 => ⟨S8x576, .f32⟩
  | 56 => ⟨S8x576, .f32⟩
  | 57 => ⟨S8x576, .f32⟩
  | 58 => ⟨S8x576, .f32⟩
  | 59 => ⟨S8x576, .f32⟩
  | 60 => ⟨S8x576, .f32⟩
  | 61 => ⟨S8x576, .f32⟩
  | 62 => ⟨S8x576, .f32⟩
  | 63 => ⟨S8x576, .f32⟩
  | 64 => ⟨S8x576, .f32⟩
  | 65 => ⟨S8x576, .f32⟩
  | 66 => ⟨S8x576, .f32⟩
  | 67 => ⟨S8x576, .f32⟩
  | 68 => ⟨S8x576, .f32⟩
  | 69 => ⟨S8x576, .f32⟩
  | 70 => ⟨S8x576, .f32⟩
  | 71 => ⟨S8x576, .f32⟩
  | 72 => ⟨S8x576, .f32⟩
  | 73 => ⟨S8x576, .f32⟩
  | 74 => ⟨S8x576, .f32⟩
  | 75 => ⟨S8x576, .f32⟩
  | 76 => ⟨S8x576, .f32⟩
  | 77 => ⟨S8x576, .f32⟩
  | 78 => ⟨S8x576, .f32⟩
  | 79 => ⟨S8x576, .f32⟩
  | 80 => ⟨S8x576, .f32⟩
  | 81 => ⟨S8x576, .f32⟩
  | 82 => ⟨S8x576, .f32⟩
  | 83 => ⟨S8x576, .f32⟩
  | 84 => ⟨S8x576, .f32⟩
  | 85 => ⟨S8x576, .f32⟩
  | 86 => ⟨S8x576, .f32⟩
  | 87 => ⟨S8x576, .f32⟩
  | 88 => ⟨S8x576, .f32⟩
  | 89 => ⟨S8x576, .f32⟩
  | 90 => ⟨S8x1x576, .f32⟩
  | 91 => ⟨S8x1x576, .f32⟩
  | 92 => ⟨S8x1x576, .f32⟩
  | 93 => ⟨S8x1x576, .f32⟩
  | 94 => ⟨S8x1x576, .f32⟩
  | 95 => ⟨S8x1x576, .f32⟩
  | 96 => ⟨S8x1x576, .f32⟩
  | 97 => ⟨S8x1x576, .f32⟩
  | 98 => ⟨S8x1x576, .f32⟩
  | 99 => ⟨S8x1x576, .f32⟩
  | 100 => ⟨S8x1x576, .f32⟩
  | 101 => ⟨S8x1x576, .f32⟩
  | 102 => ⟨S8x1x576, .f32⟩
  | 103 => ⟨S8x1x576, .f32⟩
  | 104 => ⟨S8x1x576, .f32⟩
  | 105 => ⟨S8x1x576, .f32⟩
  | 106 => ⟨S8x1x576, .f32⟩
  | 107 => ⟨S8x1x576, .f32⟩
  | 108 => ⟨S8x1x576, .f32⟩
  | 109 => ⟨S8x1x576, .f32⟩
  | 110 => ⟨S8x1x576, .f32⟩
  | 111 => ⟨S8x1x576, .f32⟩
  | 112 => ⟨S8x1x576, .f32⟩
  | 113 => ⟨S8x1x576, .f32⟩
  | 114 => ⟨S8x1x576, .f32⟩
  | 115 => ⟨S8x1x576, .f32⟩
  | 116 => ⟨S8x1x576, .f32⟩
  | 117 => ⟨S8x1x576, .f32⟩
  | 118 => ⟨S8x1x576, .f32⟩
  | 119 => ⟨S8x1x576, .f32⟩
  | 120 => ⟨S8x1x576, .f32⟩
  | 121 => ⟨S8x1x576, .f32⟩
  | 122 => ⟨S8x1x576, .f32⟩
  | 123 => ⟨S8x1x576, .f32⟩
  | 124 => ⟨S8x1x576, .f32⟩
  | 125 => ⟨S8x1x576, .f32⟩
  | 126 => ⟨S8x1x576, .f32⟩
  | 127 => ⟨S8x1x576, .f32⟩
  | _ => ⟨S4x4096x3072, .f32⟩

abbrev hbmTy0_1 (i : Nat) : BufTy := match i % 128 with
  | 0 => ⟨S8x1x576, .f32⟩
  | 1 => ⟨S8x1x576, .f32⟩
  | 2 => ⟨S8x1x576, .f32⟩
  | 3 => ⟨S8x1x576, .f32⟩
  | 4 => ⟨S8x1x576, .f32⟩
  | 5 => ⟨S8x1x576, .f32⟩
  | 6 => ⟨S8x1x576, .f32⟩
  | 7 => ⟨S8x1x576, .f32⟩
  | 8 => ⟨S8x1x576, .f32⟩
  | 9 => ⟨S8x1x576, .f32⟩
  | 10 => ⟨S8x1x576, .f32⟩
  | 11 => ⟨S8x1x576, .f32⟩
  | 12 => ⟨S8x1x576, .f32⟩
  | 13 => ⟨S8x1x576, .f32⟩
  | 14 => ⟨S8x1x576, .f32⟩
  | 15 => ⟨S8x1x576, .f32⟩
  | 16 => ⟨S8x1x576, .f32⟩
  | 17 => ⟨S8x1x576, .f32⟩
  | 18 => ⟨S8x1x576, .f32⟩
  | 19 => ⟨S8x1x576, .f32⟩
  | 20 => ⟨S8x1x576, .f32⟩
  | 21 => ⟨S8x1x576, .f32⟩
  | 22 => ⟨S8x1x576, .f32⟩
  | 23 => ⟨S8x1x576, .f32⟩
  | 24 => ⟨S8x1x576, .f32⟩
  | 25 => ⟨S8x1x576, .f32⟩
  | 26 => ⟨S8x16x576, .f32⟩
  | 27 => ⟨S8x16x576, .f32⟩
  | 28 => ⟨S8x16x576, .f32⟩
  | 29 => ⟨S8x16x576, .f32⟩
  | 30 => ⟨S8x64x576, .f32⟩
  | 31 => ⟨S_, .f32⟩
  | 32 => ⟨S8x64x0, .f32⟩
  | 33 => ⟨S_, .f32⟩
  | 34 => ⟨S8x64x192, .f32⟩
  | 35 => ⟨S8x64x768, .f32⟩
  | 36 => ⟨S_, .f32⟩
  | 37 => ⟨S8x64x64, .f32⟩
  | 38 => ⟨S_, .f32⟩
  | 39 => ⟨S8x64x128, .f32⟩
  | 40 => ⟨S8x64x768, .f32⟩
  | 41 => ⟨S_, .f32⟩
  | 42 => ⟨S8x64x128, .f32⟩
  | 43 => ⟨S_, .f32⟩
  | 44 => ⟨S8x64x64, .f32⟩
  | 45 => ⟨S8x64x768, .f32⟩
  | 46 => ⟨S_, .f32⟩
  | 47 => ⟨S8x64x192, .f32⟩
  | 48 => ⟨S_, .f32⟩
  | 49 => ⟨S8x64x0, .f32⟩
  | 50 => ⟨S8x64x768, .f32⟩
  | 51 => ⟨S8x256x768, .f32⟩
  | 52 => ⟨S_, .f32⟩
  | 53 => ⟨S_, .f32⟩
  | 54 => ⟨S8x256x768, .i1⟩
  | 55 => ⟨S8x256x768, .f32⟩
  | 56 => ⟨S8x256x768, .f32⟩
  | 57 => ⟨S_, .f32⟩
  | 58 => ⟨S_, .f32⟩
  | 59 => ⟨S8x256x768, .i1⟩
  | 60 => ⟨S8x256x768, .f32⟩
  | 61 => ⟨S8x256x768, .f32⟩
  | 62 => ⟨S_, .f32⟩
  | 63 => ⟨S_, .f32⟩
  | 64 => ⟨S8x256x768, .i1⟩
  | 65 => ⟨S8x256x768, .f32⟩
  | 66 => ⟨S8x256x768, .f32⟩
  | 67 => ⟨S1x8x256x768, .f32⟩
  | 68 => ⟨S1x8x256x768, .f32⟩
  | 69 => ⟨S1x8x256x768, .f32⟩
  | 70 => ⟨S3x8x256x768, .f32⟩
  | 71 => ⟨S16384x2048, .f32⟩
  | _ => ⟨S4x4096x3072, .f32⟩

abbrev hbmTy (i : Nat) : BufTy := match i / 128 with
  | 0 => hbmTy0_0 i
  | 1 => hbmTy0_1 i
  | _ => ⟨S4x4096x3072, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x8x256x768, .f32⟩
  | .local _ .vmem, ⟨15, _⟩ => ⟨S1x8x256x768, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | .local _ .vmem, ⟨25, _⟩ => ⟨S8x1024, .f32⟩
  | .local _ .vmem, ⟨26, _⟩ => ⟨S3x1024, .f32⟩
  | .local _ .vmem, ⟨27, _⟩ => ⟨S1x2048x2048, .bf16⟩
  | .local _ .vmem, ⟨28, _⟩ => ⟨S256x2048, .f32⟩
  | .local _ .vmem, ⟨29, _⟩ => ⟨S256x2048, .f32⟩
  | .local _ .vmem, ⟨30, _⟩ => ⟨S1x2048, .f32⟩
  | .local _ .vmem, ⟨31, _⟩ => ⟨S256x2048, .f32⟩
  | .local _ .vmem, ⟨32, _⟩ => ⟨S256x2048, .f32⟩
  | .local _ .vmem, ⟨33, _⟩ => ⟨S2x256x2048, .bf16⟩
  | .local _ .vmem, ⟨34, _⟩ => ⟨S264x1024, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_cst : Ref sig .tc := ⟨.hbm, 159, rfl⟩
abbrev main_v149 : Ref sig .tc := ⟨.hbm, 160, rfl⟩
abbrev main_cst_2 : Ref sig .tc := ⟨.hbm, 161, rfl⟩
abbrev main_v150 : Ref sig .tc := ⟨.hbm, 162, rfl⟩
abbrev main_v151 : Ref sig .tc := ⟨.hbm, 163, rfl⟩
abbrev main_cst_3 : Ref sig .tc := ⟨.hbm, 164, rfl⟩
abbrev main_v152 : Ref sig .tc := ⟨.hbm, 165, rfl⟩
abbrev main_cst_4 : Ref sig .tc := ⟨.hbm, 166, rfl⟩
abbrev main_v153 : Ref sig .tc := ⟨.hbm, 167, rfl⟩
abbrev main_v154 : Ref sig .tc := ⟨.hbm, 168, rfl⟩
abbrev main_cst_5 : Ref sig .tc := ⟨.hbm, 169, rfl⟩
abbrev main_v155 : Ref sig .tc := ⟨.hbm, 170, rfl⟩
abbrev main_cst_6 : Ref sig .tc := ⟨.hbm, 171, rfl⟩
abbrev main_v156 : Ref sig .tc := ⟨.hbm, 172, rfl⟩
abbrev main_v157 : Ref sig .tc := ⟨.hbm, 173, rfl⟩
abbrev main_cst_7 : Ref sig .tc := ⟨.hbm, 174, rfl⟩
abbrev main_v158 : Ref sig .tc := ⟨.hbm, 175, rfl⟩
abbrev main_cst_8 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_cst_9 : Ref sig .tc := ⟨.hbm, 180, rfl⟩
abbrev main_call0_v0 : Ref sig .tc := ⟨.hbm, 181, rfl⟩
abbrev main_call0_v1 : Ref sig .tc := ⟨.hbm, 182, rfl⟩
abbrev main_call0_v2 : Ref sig .tc := ⟨.hbm, 183, rfl⟩
abbrev main_v162 : Ref sig .tc := ⟨.hbm, 184, rfl⟩
abbrev main_cst_10 : Ref sig .tc := ⟨.hbm, 185, rfl⟩
abbrev main_call1_v0 : Ref sig .tc := ⟨.hbm, 186, rfl⟩
abbrev main_call1_v1 : Ref sig .tc := ⟨.hbm, 187, rfl⟩
abbrev main_call1_v2 : Ref sig .tc := ⟨.hbm, 188, rfl⟩
abbrev main_v163 : Ref sig .tc := ⟨.hbm, 189, rfl⟩
abbrev main_cst_11 : Ref sig .tc := ⟨.hbm, 190, rfl⟩
abbrev main_call2_v0 : Ref sig .tc := ⟨.hbm, 191, rfl⟩
abbrev main_call2_v1 : Ref sig .tc := ⟨.hbm, 192, rfl⟩
abbrev main_call2_v2 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg17_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let c1_i32_5 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13 : BitVec 32 := Scalar.subi c1_i32_5 v12
  let v14 : Index := Scalar.indexCast v13
  let c0 : Index := 0#32
  let c0_6 : Index := 0#32
  ![v14.toNat, 0, 0]
def k0_off2 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v88 : Index := Scalar.indexCast v12
  let c0_45 : Index := 0#32
  let c0_46 : Index := 0#32
  ![v88.toNat, 0, 0]
def k0_off3 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v265 : Index := Scalar.indexCast v12
  let c0_164 : Index := 0#32
  let c1024 : Index := 1024#32
  ![v265.toNat, 0, 1024]
def k0_off4 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v290 : Index := Scalar.indexCast v12
  let c0_174 : Index := 0#32
  let c1152 : Index := 1152#32
  ![v290.toNat, 0, 1152]
def k0_off5 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v315 : Index := Scalar.indexCast v12
  let c0_184 : Index := 0#32
  let c1280 : Index := 1280#32
  ![v315.toNat, 0, 1280]
def k0_off6 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v340 : Index := Scalar.indexCast v12
  let c0_194 : Index := 0#32
  let c1408 : Index := 1408#32
  ![v340.toNat, 0, 1408]
def k0_off7 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v365 : Index := Scalar.indexCast v12
  let c0_204 : Index := 0#32
  let c1536 : Index := 1536#32
  ![v365.toNat, 0, 1536]
def k0_off8 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v390 : Index := Scalar.indexCast v12
  let c0_214 : Index := 0#32
  let c1664 : Index := 1664#32
  ![v390.toNat, 0, 1664]
def k0_off9 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v415 : Index := Scalar.indexCast v12
  let c0_224 : Index := 0#32
  let c1792 : Index := 1792#32
  ![v415.toNat, 0, 1792]
def k0_off10 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v440 : Index := Scalar.indexCast v12
  let c0_234 : Index := 0#32
  let c1920 : Index := 1920#32
  ![v440.toNat, 0, 1920]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c63_i32_3 : BitVec 32 := 63#32
  let v11 : BitVec 32 := Scalar.minsi arg0 c63_i32_3
  let v12 : BitVec 32 := Scalar.subi v11 v10
  let c2_i32 : BitVec 32 := 2#32
  let v13 : BitVec 32 := Scalar.subi v10 c2_i32
  let c0_i32_4 : BitVec 32 := 0#32
  let v14 : BitVec 32 := Scalar.addi v13 c0_i32_4
  let c0_i32_5 : BitVec 32 := 0#32
  let v15 : BitVec 32 := Scalar.maxsi v14 c0_i32_5
  let v16 : BitVec 32 := Scalar.addi v12 v15
  let c1_i32_6 : BitVec 32 := 1#32
  let c0_i32_7 : BitVec 32 := 0#32
  ![v16.toNat, c1_i32_6.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c63_i32_3 : BitVec 32 := 63#32
  let v11 : BitVec 32 := Scalar.minsi arg0 c63_i32_3
  let v12 : BitVec 32 := Scalar.subi v11 v10
  let c2_i32 : BitVec 32 := 2#32
  let v13 : BitVec 32 := Scalar.subi v10 c2_i32
  let c1_i32_4 : BitVec 32 := 1#32
  let v14 : BitVec 32 := Scalar.addi v13 c1_i32_4
  let c0_i32_5 : BitVec 32 := 0#32
  let v15 : BitVec 32 := Scalar.maxsi v14 c0_i32_5
  let v16 : BitVec 32 := Scalar.addi v12 v15
  let c1_i32_6 : BitVec 32 := 1#32
  let c0_i32_7 : BitVec 32 := 0#32
  ![v16.toNat, c1_i32_6.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c63_i32_3 : BitVec 32 := 63#32
  let v11 : BitVec 32 := Scalar.minsi arg0 c63_i32_3
  let v12 : BitVec 32 := Scalar.subi v11 v10
  let c2_i32 : BitVec 32 := 2#32
  let v13 : BitVec 32 := Scalar.subi v10 c2_i32
  let c2_i32_4 : BitVec 32 := 2#32
  let v14 : BitVec 32 := Scalar.addi v13 c2_i32_4
  let c0_i32_5 : BitVec 32 := 0#32
  let v15 : BitVec 32 := Scalar.maxsi v14 c0_i32_5
  let v16 : BitVec 32 := Scalar.addi v12 v15
  let c1_i32_6 : BitVec 32 := 1#32
  let c0_i32_7 : BitVec 32 := 0#32
  ![v16.toNat, c1_i32_6.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c63_i32_3 : BitVec 32 := 63#32
  let v11 : BitVec 32 := Scalar.minsi arg0 c63_i32_3
  let v12 : BitVec 32 := Scalar.subi v11 v10
  let c2_i32 : BitVec 32 := 2#32
  let v13 : BitVec 32 := Scalar.subi v10 c2_i32
  let c0_i32_4 : BitVec 32 := 0#32
  let v14 : BitVec 32 := Scalar.addi v13 c0_i32_4
  let c0_i32_5 : BitVec 32 := 0#32
  let v15 : BitVec 32 := Scalar.maxsi v14 c0_i32_5
  let v16 : BitVec 32 := Scalar.addi v12 v15
  let c2_i32_6 : BitVec 32 := 2#32
  let c0_i32_7 : BitVec 32 := 0#32
  ![v16.toNat, c2_i32_6.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c63_i32_3 : BitVec 32 := 63#32
  let v11 : BitVec 32 := Scalar.minsi arg0 c63_i32_3
  let v12 : BitVec 32 := Scalar.subi v11 v10
  let c2_i32 : BitVec 32 := 2#32
  let v13 : BitVec 32 := Scalar.subi v10 c2_i32
  let c1_i32_4 : BitVec 32 := 1#32
  let v14 : BitVec 32 := Scalar.addi v13 c1_i32_4
  let c0_i32_5 : BitVec 32 := 0#32
  let v15 : BitVec 32 := Scalar.maxsi v14 c0_i32_5
  let v16 : BitVec 32 := Scalar.addi v12 v15
  let c2_i32_6 : BitVec 32 := 2#32
  let c0_i32_7 : BitVec 32 := 0#32
  ![v16.toNat, c2_i32_6.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c63_i32_3 : BitVec 32 := 63#32
  let v11 : BitVec 32 := Scalar.minsi arg0 c63_i32_3
  let v12 : BitVec 32 := Scalar.subi v11 v10
  let c2_i32 : BitVec 32 := 2#32
  let v13 : BitVec 32 := Scalar.subi v10 c2_i32
  let c2_i32_4 : BitVec 32 := 2#32
  let v14 : BitVec 32 := Scalar.addi v13 c2_i32_4
  let c0_i32_5 : BitVec 32 := 0#32
  let v15 : BitVec 32 := Scalar.maxsi v14 c0_i32_5
  let v16 : BitVec 32 := Scalar.addi v12 v15
  let c2_i32_6 : BitVec 32 := 2#32
  let c0_i32_7 : BitVec 32 := 0#32
  ![v16.toNat, c2_i32_6.toNat]

def cc0_transform_7 (i : grid0.Coords) : Fin 4 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.minsi v10 c2_i32
  let c0_i32_3 : BitVec 32 := 0#32
  let c0_i32_4 : BitVec 32 := 0#32
  let c0_i32_5 : BitVec 32 := 0#32
  let c0_i32_6 : BitVec 32 := 0#32
  ![v11.toNat, c0_i32_3.toNat, c0_i32_4.toNat, c0_i32_5.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c2_i32 : BitVec 32 := 2#32
  let c0_i32 : BitVec 32 := 0#32
  ![v0.toNat, c2_i32.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "log2_e" => some (((Real.log 2)⁻¹ : ℝ) : EReal)
  | "scale" => some (((Real.sqrt 128)⁻¹ * (Real.log 2)⁻¹ : ℝ) : EReal)
  | _ => none
-- ==== ReferenceIdeal.lean ====
abbrev S4x4096x3072 : Shape := ⟨3, ![4, 4096, 3072]⟩
abbrev S4x4096x2048 : Shape := ⟨3, ![4, 4096, 2048]⟩
abbrev S2x4x2048 : Shape := ⟨3, ![2, 4, 2048]⟩
abbrev S1x3x1024 : Shape := ⟨3, ![1, 3, 1024]⟩
abbrev S1x8x320 : Shape := ⟨3, ![1, 8, 320]⟩
abbrev S1x2048x2048 : Shape := ⟨3, ![1, 2048, 2048]⟩
abbrev S4x4096x1024 : Shape := ⟨3, ![4, 4096, 1024]⟩
abbrev S3x1024 : Shape := ⟨2, ![3, 1024]⟩
abbrev S_ : Shape := ⟨0, ![]⟩
abbrev S4x4098x1024 : Shape := ⟨3, ![4, 4098, 1024]⟩
abbrev S1x1024 : Shape := ⟨2, ![1, 1024]⟩
abbrev S1024 : Shape := ⟨1, ![1024]⟩
abbrev S1x1x1024 : Shape := ⟨3, ![1, 1, 1024]⟩
abbrev S4x4096x8x128 : Shape := ⟨4, ![4, 4096, 8, 128]⟩
abbrev S8x320 : Shape := ⟨2, ![8, 320]⟩
abbrev S4x4608x8x128 : Shape := ⟨4, ![4, 4608, 8, 128]⟩
abbrev S4x72x64x8x128 : Shape := ⟨5, ![4, 72, 64, 8, 128]⟩
abbrev S4x64x64x8x128 : Shape := ⟨5, ![4, 64, 64, 8, 128]⟩
abbrev S4x64x576x8x128 : Shape := ⟨5, ![4, 64, 576, 8, 128]⟩
abbrev S4x8x64x64x576 : Shape := ⟨5, ![4, 8, 64, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x8x1x64x576 : Shape := ⟨5, ![1, 8, 1, 64, 576]⟩
abbrev S1x1x64x1x576 : Shape := ⟨5, ![1, 1, 64, 1, 576]⟩
abbrev S4x8x64x64 : Shape := ⟨4, ![4, 8, 64, 64]⟩
abbrev S4x8x64x64x1 : Shape := ⟨5, ![4, 8, 64, 64, 1]⟩
abbrev S4x64x8x128x64 : Shape := ⟨5, ![4, 64, 8, 128, 64]⟩
abbrev S2048x2048 : Shape := ⟨2, ![2048, 2048]⟩
abbrev S1x4x2048 : Shape := ⟨3, ![1, 4, 2048]⟩
abbrev S4x2048 : Shape := ⟨2, ![4, 2048]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 185
  | .vmem => 0
  | .smem => 0
  | _ => 0

abbrev hbmTy0_0 (i : Nat) : BufTy := match i % 128 with
  | 0 => ⟨S4x4096x3072, .f32⟩
  | 1 => ⟨S4x4096x3072, .bf16⟩
  | 2 => ⟨S4x4096x2048, .f32⟩
  | 3 => ⟨S2x4x2048, .f32⟩
  | 4 => ⟨S1x3x1024, .f32⟩
  | 5 => ⟨S1x8x320, .f32⟩
  | 6 => ⟨S1x2048x2048, .f32⟩
  | 7 => ⟨S4x4096x3072, .f32⟩
  | 8 => ⟨S4x4096x1024, .f32⟩
  | 9 => ⟨S4x4096x1024, .f32⟩
  | 10 => ⟨S4x4096x1024, .f32⟩
  | 11 => ⟨S4x4096x1024, .f32⟩
  | 12 => ⟨S4x4096x1024, .f32⟩
  | 13 => ⟨S4x4096x1024, .f32⟩
  | 14 => ⟨S3x1024, .f32⟩
  | 15 => ⟨S4x4096x1024, .f32⟩
  | 16 => ⟨S_, .i32⟩
  | 17 => ⟨S_, .f32⟩
  | 18 => ⟨S4x4098x1024, .f32⟩
  | 19 => ⟨S1x1024, .f32⟩
  | 20 => ⟨S1024, .f32⟩
  | 21 => ⟨S4x4096x1024, .f32⟩
  | 22 => ⟨S1x1x1024, .f32⟩
  | 23 => ⟨S4x4096x1024, .f32⟩
  | 24 => ⟨S4x4096x1024, .f32⟩
  | 25 => ⟨S1x1024, .f32⟩
  | 26 => ⟨S1024, .f32⟩
  | 27 => ⟨S4x4096x1024, .f32⟩
  | 28 => ⟨S1x1x1024, .f32⟩
  | 29 => ⟨S4x4096x1024, .f32⟩
  | 30 => ⟨S4x4096x1024, .f32⟩
  | 31 => ⟨S4x4096x1024, .f32⟩
  | 32 => ⟨S1x1024, .f32⟩
  | 33 => ⟨S1024, .f32⟩
  | 34 => ⟨S4x4096x1024, .f32⟩
  | 35 => ⟨S1x1x1024, .f32⟩
  | 36 => ⟨S4x4096x1024, .f32⟩
  | 37 => ⟨S4x4096x1024, .f32⟩
  | 38 => ⟨S4x4096x1024, .f32⟩
  | 39 => ⟨S4x4096x1024, .f32⟩
  | 40 => ⟨S4x4096x8x128, .f32⟩
  | 41 => ⟨S4x4096x8x128, .f32⟩
  | 42 => ⟨S4x4096x8x128, .f32⟩
  | 43 => ⟨S8x320, .f32⟩
  | 44 => ⟨S_, .i32⟩
  | 45 => ⟨S_, .f32⟩
  | 46 => ⟨S4x4608x8x128, .f32⟩
  | 47 => ⟨S4x72x64x8x128, .f32⟩
  | 48 => ⟨S_, .i32⟩
  | 49 => ⟨S_, .f32⟩
  | 50 => ⟨S4x4608x8x128, .f32⟩
  | 51 => ⟨S4x72x64x8x128, .f32⟩
  | 52 => ⟨S4x64x64x8x128, .f32⟩
  | 53 => ⟨S4x64x64x8x128, .f32⟩
  | 54 => ⟨S4x64x64x8x128, .f32⟩
  | 55 => ⟨S4x64x64x8x128, .f32⟩
  | 56 => ⟨S4x64x64x8x128, .f32⟩
  | 57 => ⟨S4x64x64x8x128, .f32⟩
  | 58 => ⟨S4x64x64x8x128, .f32⟩
  | 59 => ⟨S4x64x64x8x128, .f32⟩
  | 60 => ⟨S4x64x64x8x128, .f32⟩
  | 61 => ⟨S4x64x576x8x128, .f32⟩
  | 62 => ⟨S4x64x64x8x128, .f32⟩
  | 63 => ⟨S4x64x64x8x128, .f32⟩
  | 64 => ⟨S4x64x64x8x128, .f32⟩
  | 65 => ⟨S4x64x64x8x128, .f32⟩
  | 66 => ⟨S4x64x64x8x128, .f32⟩
  | 67 => ⟨S4x64x64x8x128, .f32⟩
  | 68 => ⟨S4x64x64x8x128, .f32⟩
  | 69 => ⟨S4x64x64x8x128, .f32⟩
  | 70 => ⟨S4x64x64x8x128, .f32⟩
  | 71 => ⟨S4x64x576x8x128, .f32⟩
  | 72 => ⟨S4x64x64x8x128, .f32⟩
  | 73 => ⟨S4x8x64x64x576, .f32⟩
  | 74 => ⟨S_, .f32⟩
  | 75 => ⟨S_, .f32⟩
  | 76 => ⟨S4x8x64x64x576, .f32⟩
  | 77 => ⟨S4x8x64x64x576, .f32⟩
  | 78 => ⟨S64, .i32⟩
  | 79 => ⟨S64x1, .i32⟩
  | 80 => ⟨S576, .i32⟩
  | 81 => ⟨S1x576, .i32⟩
  | 82 => ⟨S_, .i32⟩
  | 83 => ⟨S64x1, .i32⟩
  | 84 => ⟨S64x1, .i32⟩
  | 85 => ⟨S64x576, .i32⟩
  | 86 => ⟨S64x576, .i32⟩
  | 87 => ⟨S64x576, .i32⟩
  | 88 => ⟨S_, .i32⟩
  | 89 => ⟨S_, .i32⟩
  | 90 => ⟨S_, .i32⟩
  | 91 => ⟨S64x576, .i32⟩
  | 92 => ⟨S64x576, .i32⟩
  | 93 => ⟨S_, .i32⟩
  | 94 => ⟨S64x576, .i32⟩
  | 95 => ⟨S64x576, .i32⟩
  | 96 => ⟨S_, .i32⟩
  | 97 => ⟨S64x576, .i32⟩
  | 98 => ⟨S64x576, .i32⟩
  | 99 => ⟨S_, .i32⟩
  | 100 => ⟨S64x576, .i32⟩
  | 101 => ⟨S64x576, .i1⟩
  | 102 => ⟨S_, .i32⟩
  | 103 => ⟨S64x576, .i32⟩
  | 104 => ⟨S64x576, .i32⟩
  | 105 => ⟨S64x576, .i32⟩
  | 106 => ⟨S64x576x1, .i32⟩
  | 107 => ⟨S8x64x576, .f32⟩
  | 108 => ⟨S64, .i32⟩
  | 109 => ⟨S64x1, .i32⟩
  | 110 => ⟨S_, .i32⟩
  | 111 => ⟨S_, .i32⟩
  | 112 => ⟨S1x576, .i32⟩
  | 113 => ⟨S1x576, .i32⟩
  | 114 => ⟨S1x576, .i32⟩
  | 115 => ⟨S_, .i32⟩
  | 116 => ⟨S1x576, .i32⟩
  | 117 => ⟨S1x576, .i1⟩
  | 118 => ⟨S1x576, .i32⟩
  | 119 => ⟨S1x576, .i32⟩
  | 120 => ⟨S_, .i32⟩
  | 121 => ⟨S1x576, .i32⟩
  | 122 => ⟨S1x576, .i1⟩
  | 123 => ⟨S1x576, .i1⟩
  | 124 => ⟨S_, .i32⟩
  | 125 => ⟨S1x576, .i32⟩
  | 126 => ⟨S1x576, .i32⟩
  | 127 => ⟨S1x576, .i32⟩
  | _ => ⟨S4x4096x3072, .f32⟩

abbrev hbmTy0_1 (i : Nat) : BufTy := match i % 128 with
  | 0 => ⟨S64x576, .i32⟩
  | 1 => ⟨S64x576, .i32⟩
  | 2 => ⟨S64x576, .i32⟩
  | 3 => ⟨S_, .i32⟩
  | 4 => ⟨S64x576, .i32⟩
  | 5 => ⟨S64x576, .i1⟩
  | 6 => ⟨S1x8x1x64x576, .f32⟩
  | 7 => ⟨S4x8x64x64x576, .f32⟩
  | 8 => ⟨S4x8x64x64x576, .f32⟩
  | 9 => ⟨S1x1x64x1x576, .i1⟩
  | 10 => ⟨S_, .f32⟩
  | 11 => ⟨S_, .f32⟩
  | 12 => ⟨S4x8x64x64x576, .i1⟩
  | 13 => ⟨S4x8x64x64x576, .f32⟩
  | 14 => ⟨S4x8x64x64x576, .f32⟩
  | 15 => ⟨S_, .f32⟩
  | 16 => ⟨S4x8x64x64, .f32⟩
  | 17 => ⟨S_, .f32⟩
  | 18 => ⟨S4x8x64x64, .f32⟩
  | 19 => ⟨S4x8x64x64, .f32⟩
  | 20 => ⟨S4x8x64x64x1, .f32⟩
  | 21 => ⟨S4x8x64x64x576, .f32⟩
  | 22 => ⟨S4x8x64x64x576, .f32⟩
  | 23 => ⟨S4x8x64x64x576, .f32⟩
  | 24 => ⟨S_, .f32⟩
  | 25 => ⟨S4x8x64x64, .f32⟩
  | 26 => ⟨S4x8x64x64x1, .f32⟩
  | 27 => ⟨S4x8x64x64x576, .f32⟩
  | 28 => ⟨S4x8x64x64x576, .f32⟩
  | 29 => ⟨S4x64x8x128x64, .f32⟩
  | 30 => ⟨S4x64x64x8x128, .f32⟩
  | 31 => ⟨S4x4096x1024, .f32⟩
  | 32 => ⟨S4x4096x2048, .f32⟩
  | 33 => ⟨S2048x2048, .f32⟩
  | 34 => ⟨S4x4096x2048, .f32⟩
  | 35 => ⟨S1x4x2048, .f32⟩
  | 36 => ⟨S4x2048, .f32⟩
  | 37 => ⟨S1x2048, .f32⟩
  | 38 => ⟨S2048, .f32⟩
  | 39 => ⟨S4x4096x2048, .f32⟩
  | 40 => ⟨S_, .f32⟩
  | 41 => ⟨S4x4096, .f32⟩
  | 42 => ⟨S4x4096x1, .f32⟩
  | 43 => ⟨S_, .f32⟩
  | 44 => ⟨S4x4096x1, .f32⟩
  | 45 => ⟨S4x4096x1, .f32⟩
  | 46 => ⟨S_, .f32⟩
  | 47 => ⟨S4x4096x1, .f32⟩
  | 48 => ⟨S4x4096x1, .f32⟩
  | 49 => ⟨S4x4096x1, .f32⟩
  | 50 => ⟨S4x4096x2048, .f32⟩
  | 51 => ⟨S4x4096x2048, .f32⟩
  | 52 => ⟨S1x1x2048, .f32⟩
  | 53 => ⟨S4x4096x2048, .f32⟩
  | 54 => ⟨S4x4096x2048, .f32⟩
  | 55 => ⟨S4x4096x2048, .f32⟩
  | 56 => ⟨S16384x2048, .f32⟩
  | _ => ⟨S4x4096x3072, .f32⟩

abbrev hbmTy (i : Nat) : BufTy := match i / 128 with
  | 0 => hbmTy0_0 i
  | 1 => hbmTy0_1 i
  | _ => ⟨S4x4096x3072, .f32⟩

abbrev bufTy : (tb : Table) → Fin (tcTables nBuf tb) → BufTy
  | .hbm, ⟨i, _⟩ => hbmTy i
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_0 : Ref sig .tc := ⟨.hbm, 44, rfl⟩
abbrev main_call1_v0 : Ref sig .tc := ⟨.hbm, 45, rfl⟩
abbrev main_v35 : Ref sig .tc := ⟨.hbm, 46, rfl⟩
abbrev main_v36 : Ref sig .tc := ⟨.hbm, 47, rfl⟩
abbrev main_c_1 : Ref sig .tc := ⟨.hbm, 48, rfl⟩
abbrev main_call2_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_c_2 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_c_3 : Ref sig .tc := ⟨.hbm, 88, rfl⟩
abbrev main_c_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v73 : Ref sig .tc := ⟨.hbm, 95, rfl⟩
abbrev main_c_5 : Ref sig .tc := ⟨.hbm, 96, rfl⟩
abbrev main_v74 : Ref sig .tc := ⟨.hbm, 97, rfl⟩
abbrev main_v75 : Ref sig .tc := ⟨.hbm, 98, rfl⟩
abbrev main_c_6 : Ref sig .tc := ⟨.hbm, 99, rfl⟩
abbrev main_v76 : Ref sig .tc := ⟨.hbm, 100, rfl⟩
abbrev main_v77 : Ref sig .tc := ⟨.hbm, 101, rfl⟩
abbrev main_c_7 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c_8 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_c : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_0 : Ref sig .tc := ⟨.hbm, 124, rfl⟩
abbrev main_call4_v12 : Ref sig .tc := ⟨.hbm, 125, rfl⟩
abbrev main_call4_v13 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_9 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_10 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_v95 : Ref sig .tc := ⟨.hbm, 142, rfl⟩
abbrev main_cst_11 : Ref sig .tc := ⟨.hbm, 143, rfl⟩
abbrev main_v96 : Ref sig .tc := ⟨.hbm, 144, rfl⟩
abbrev main_cst_12 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_13 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_14 : Ref sig .tc := ⟨.hbm, 168, rfl⟩
abbrev main_v118 : Ref sig .tc := ⟨.hbm, 169, rfl⟩
abbrev main_v119 : Ref sig .tc := ⟨.hbm, 170, rfl⟩
abbrev main_cst_15 : Ref sig .tc := ⟨.hbm, 171, rfl⟩
abbrev main_v120 : Ref sig .tc := ⟨.hbm, 172, rfl⟩
abbrev main_v121 : Ref sig .tc := ⟨.hbm, 173, rfl⟩
abbrev main_cst_16 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩

abbrev nD : Nat := 1
abbrev τ : Topo := Topo.v7x

variable {F : FTy → Type} [FloatOps F]
-- ==== Mlp.lean ====
abbrev S4x4096x2048 : Shape := ⟨3, ![4, 4096, 2048]⟩
abbrev S2x4x2048 : Shape := ⟨3, ![2, 4, 2048]⟩
abbrev S2x2048x8192 : Shape := ⟨3, ![2, 2048, 8192]⟩
abbrev S2x8192x2048 : Shape := ⟨3, ![2, 8192, 2048]⟩
abbrev S16384x2048 : Shape := ⟨2, ![16384, 2048]⟩
abbrev S1x4x2048 : Shape := ⟨3, ![1, 4, 2048]⟩
abbrev S4x2048 : Shape := ⟨2, ![4, 2048]⟩
abbrev S4x1x2048 : Shape := ⟨3, ![4, 1, 2048]⟩
abbrev S1x1x2048 : Shape := ⟨3, ![1, 1, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S1024x512 : Shape := ⟨2, ![1024, 512]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2x4x2048, .f32⟩
  | .hbm, ⟨2, _⟩ => ⟨S2x2048x8192, .f32⟩
  | .hbm, ⟨3, _⟩ => ⟨S2x8192x2048, .f32⟩
  | .hbm, ⟨4, _⟩ => ⟨S16384x2048, .f32⟩
  | .hbm, ⟨5, _⟩ => ⟨S1x4x2048, .f32⟩
  | .hbm, ⟨6, _⟩ => ⟨S4x2048, .f32⟩
  | .hbm, ⟨7, _⟩ => ⟨S4x1x2048, .f32⟩
  | .hbm, ⟨8, _⟩ => ⟨S1x1x2048, .f32⟩
  | .hbm, ⟨9, _⟩ => ⟨S1x2048, .f32⟩
  | .hbm, ⟨10, _⟩ => ⟨S1x1x2048, .f32⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S4x4096x2048 : Shape := ⟨3, ![4, 4096, 2048]⟩
abbrev S2x4x2048 : Shape := ⟨3, ![2, 4, 2048]⟩
abbrev S2x2048x8192 : Shape := ⟨3, ![2, 2048, 8192]⟩
abbrev S2x8192x2048 : Shape := ⟨3, ![2, 8192, 2048]⟩
abbrev S1x4x2048 : Shape := ⟨3, ![1, 4, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x4096x8192 : Shape := ⟨3, ![4, 4096, 8192]⟩
abbrev S1x8192x2048 : Shape := ⟨3, ![1, 8192, 2048]⟩
abbrev S8192x2048 : Shape := ⟨2, ![8192, 2048]⟩
abbrev S16384x2048 : Shape := ⟨2, ![16384, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x4x2048, .f32⟩
  | .hbm, ⟨2, _⟩ => ⟨S2x2048x8192, .f32⟩
  | .hbm, ⟨3, _⟩ => ⟨S2x8192x2048, .f32⟩
  | .hbm, ⟨4, _⟩ => ⟨S1x4x2048, .f32⟩
  | .hbm, ⟨5, _⟩ => ⟨S4x2048, .f32⟩
  | .hbm, ⟨6, _⟩ => ⟨S1x2048, .f32⟩
  | .hbm, ⟨7, _⟩ => ⟨S2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S1x2048x8192, .f32⟩
  | .hbm, ⟨25, _⟩ => ⟨S2048x8192, .f32⟩
  | .hbm, ⟨26, _⟩ => ⟨S4x4096x8192, .f32⟩
  | .hbm, ⟨27, _⟩ => ⟨S_, .f32⟩
  | .hbm, ⟨28, _⟩ => ⟨S4x4096x8192, .f32⟩
  | .hbm, ⟨29, _⟩ => ⟨S4x4096x8192, .f32⟩
  | .hbm, ⟨30, _⟩ => ⟨S4x4096x8192, .f32⟩
  | .hbm, ⟨31, _⟩ => ⟨S1x8192x2048, .f32⟩
  | .hbm, ⟨32, _⟩ => ⟨S8192x2048, .f32⟩
  | .hbm, ⟨33, _⟩ => ⟨S4x4096x2048, .f32⟩
  | .hbm, ⟨34, _⟩ => ⟨S1x4x2048, .f32⟩
  | .hbm, ⟨35, _⟩ => ⟨S4x2048, .f32⟩
  | .hbm, ⟨36, _⟩ => ⟨S1x2048, .f32⟩
  | .hbm, ⟨37, _⟩ => ⟨S2048, .f32⟩
  | .hbm, ⟨38, _⟩ => ⟨S4x4096x2048, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S1x1x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Proof.Rms.lean ====
/- The two row functions both value proofs speak of: the normalization of a row by its root mean square,
   and a row times a matrix. -/
module

public import Idealize.ShloMosaic.PureOps.Ideal
public import Idealize.ShloMosaic.Lib.Pointwise

@[expose] public section

noncomputable section

namespace Cert.Rows

open Idealize.ShloMosaic

/-- A row of 2048 numbers divided by its root mean square (the printed epsilon added) and scaled by `g`. -/
def rms (x g : Fin 2048 → EReal) (j : Fin 2048) : EReal :=
  x j * Ideal.rsqrt (Ideal.div (∑ k, x k * x k) (Ideal.ofBits .f32 0x45000000#32) + Ideal.ofBits .f32 0x358637BD#32) * g j

end Cert.Rows

end
-- ==== Proof.MlpPay.lean ====
/- What the feed-forward kernel's stores hold, at an index: the normalized rows, one block of the hidden
   layer applied to a row, and the closing residual. -/
module

public import proofs.«01_k».proof.Proof.Rms
public import proofs.«01_k».proof.Proof.Gen.MlpIdeal.Skeleton
public import Idealize.ShloMosaic.Lib.Pointwise

@[expose] public section

set_option maxRecDepth 16384

noncomputable section

namespace Cert.MlpIdeal.Pay

open Cert.MlpIdeal Cert.MlpIdeal.Gen Idealize.ShloMosaic Cert.Rows

/-- One hidden unit of a row: the squared positive part of its product with a column of the first matrix. -/
def act (u w : Fin 2048 → EReal) : EReal := max (∑ k, u k * w k) 0 * max (∑ k, u k * w k) 0

/-- One block of 512 hidden units applied to a row `u`, at output column `j`. -/
def ffb (u : Fin 2048 → EReal) (w1 : Vec Ideal S1x2048x512 .f32) (w2 : Vec Ideal S1x512x2048 .f32) (j : Fin 2048) : EReal :=
  ∑ f : Fin 512, act u (fun k => w1 (ix3 0 k f)) * w2 (ix3 0 f j)

theorem pay6 (x : Vec Ideal S512x2048 .f32) (g : Vec Ideal S1x2048 .f32) (r : Fin 512) (j : Fin 2048) :
    k0_pay6 x g (ix2 r j) = rms (fun k => x (ix2 r k)) (fun k => g (ix2 0 k)) j := by
  pointwise [k0_pay6, rms]

theorem pay7 (x : Vec Ideal S512x2048 .f32) (g : Vec Ideal S1x2048 .f32) (r : Fin 512) (j : Fin 2048) :
    k0_pay7 x g (ix2 r j) = rms (fun k => x (ix2 r k)) (fun k => g (ix2 0 k)) j := by
  rw [← pay6]; pointwise [k0_pay7]

theorem pay8 (x : Vec Ideal S512x2048 .f32) (g : Vec Ideal S1x2048 .f32) (w1 : Vec Ideal S1x2048x512 .f32)
    (w2 : Vec Ideal S1x512x2048 .f32) (r : Fin 512) (j : Fin 2048) :
    k0_pay8 x g w1 w2 (ix2 r j) = ffb (rms (fun k => x (ix2 r k)) (fun k => g (ix2 0 k))) w1 w2 j := by
  pointwise [k0_pay8, ffb, act, pay6]

theorem pay1 (x : Vec Ideal S512x2048 .f32) (g : Vec Ideal S1x2048 .f32) (r : Fin 512) (j : Fin 2048) :
    k0_pay1 (k0_pay9 x) g (ix2 r j) = rms (fun k => x (ix2 r k)) (fun k => g (ix2 0 k)) j := by
  pointwise [k0_pay1, k0_pay9, rms]

theorem pay2 (x : Vec Ideal S512x2048 .f32) (g : Vec Ideal S1x2048 .f32) (r : Fin 512) (j : Fin 2048) :
    k0_pay2 (k0_pay9 x) g (ix2 r j) = rms (fun k => x (ix2 r k)) (fun k => g (ix2 0 k)) j := by
  rw [← pay1]; pointwise [k0_pay2]

theorem pay3 (x : Vec Ideal S512x2048 .f32) (g : Vec Ideal S1x2048 .f32) (w1 : Vec Ideal S1x2048x512 .f32)
    (w2 : Vec Ideal S1x512x2048 .f32) (r : Fin 512) (j : Fin 2048) :
    k0_pay3 (k0_pay9 x) g w1 w2 (ix2 r j) = ffb (rms (fun k => x (ix2 r k)) (fun k => g (ix2 0 k))) w1 w2 j := by
  pointwise [k0_pay3, ffb, act, pay1]

theorem pay4 (o : Vec Ideal S1024x2048 .f32) (u : Vec Ideal S1024x2048 .bf16) (w1 : Vec Ideal S1x2048x512 .f32)
    (w2 : Vec Ideal S1x512x2048 .f32) (r : Fin 1024) (j : Fin 2048) :
    k0_pay4 o u w1 w2 (ix2 r j) = o (ix2 r j) + ffb (fun k => u (ix2 r k)) w1 w2 j := by
  pointwise [k0_pay4, ffb, act]

theorem pay5 (o : Vec Ideal S512x2048 .f32) (u : Vec Ideal S512x2048 .bf16) (w1 : Vec Ideal S1x2048x512 .f32)
    (w2 : Vec Ideal S1x512x2048 .f32) (h : Vec Ideal S512x2048 .f32) (g : Vec Ideal S1x2048 .f32) (r : Fin 512) (j : Fin 2048) :
    k0_pay5 o u w1 w2 h g (ix2 r j) = h (ix2 r j) + rms (fun i => o (ix2 r i) + ffb (fun k => u (ix2 r k)) w1 w2 i)
      (fun k => g (ix2 0 k)) j := by
  pointwise [k0_pay5, ffb, act, rms]

theorem pay10 (o : Vec Ideal S512x2048 .f32) (u : Vec Ideal S512x2048 .bf16) (w1 : Vec Ideal S1x2048x512 .f32)
    (w2 : Vec Ideal S1x512x2048 .f32) (h : Vec Ideal S512x2048 .f32) (g : Vec Ideal S1x2048 .f32) (r : Fin 512) (j : Fin 2048) :
    k0_pay10 o u w1 w2 h g (ix2 r j) = h (ix2 r j) + rms (fun i => o (ix2 r i) + ffb (fun k => u (ix2 r k)) w1 w2 i)
      (fun k => g (ix2 0 k)) j := by
  pointwise [k0_pay10, ffb, act, rms]

end Cert.MlpIdeal.Pay

end
-- ==== Proof.MlpOut.lean ====
/- What each of the feed-forward kernel's three cases leaves in the output block and in the carried scratch,
   at an index. -/
module

public import proofs.«01_k».proof.Proof.MlpPay
public import proofs.«01_k».proof.Proof.Gen.MlpIdeal.Value
public import Idealize.ShloMosaic.Lib.Pipeline.ValueKit
public import Idealize.ShloMosaic.Lib.Pipeline.ReadBack

@[expose] public section

set_option maxRecDepth 16384

noncomputable section

namespace Cert.MlpIdeal.Out

open Cert.MlpIdeal Cert.MlpIdeal.Gen Cert.MlpIdeal.Pay Idealize.ShloMosaic Idealize.ShloMosaic.TcCoe Idealize.SL.Sem Cert.Rows
open Idealize.ShloMosaic.Pipeline (Dat)

variable (m : (ℓ : Loc nD τ sig) → Buf (Elt Ideal) ℓ)

/-- The block of hidden-state rows at point `t`. -/
abbrev hblk (c : Dev nD) (t : Fin cfg0.N) : Vec Ideal S1024x2048 .f32 := iblk m c 0 t

/-- A load of 512 rows from row `o` on, at an index. -/
theorem ld_rows {e : EltTy} (X : Vec Ideal S1024x2048 e) (o : ℕ) (inb : ∀ a, (![o, 0] : Fin 2 → ℕ) a + (![512, 2048] : Fin 2 → ℕ) a ≤ S1024x2048.size a)
    (x : Fin 512) (r : Fin 1024) (k : Fin 2048) (h : r.val = o + x.val) :
    View.ld X (Rect.unit ![o, 0] ![512, 2048] inb) (ix2 x k) = X (ix2 r k) := by
  refine View.ld_unit_apply_of _ _ _ _ _ _ fun a => ?_
  match a with
  | ⟨0, _⟩ => exact h
  | ⟨1, _⟩ => exact (Nat.zero_add _).symm

theorem outA (c : Dev nD) (t : Fin cfg0.N) (h0 : t.val % 16 = 0) (h1 : ¬(1 ≤ t.val % 16 ∧ t.val % 16 ≤ 14)) (h2 : ¬t.val % 16 = 15)
    (r : Fin 1024) (j : Fin 2048) :
    (outsAt0 m c t.val t.isLt).1 (ix2 r j) = ffb (rms (fun k => iblk m c 0 t (ix2 r k)) (fun k => iblk m c 1 t (ix2 0 k))) (iblk m c 2 t) (iblk m c 3 t) j := by
  rw [outsAt0_A m c t h0 h1 h2]
  frame_out
  canon_tiles x h
  · obtain ⟨a, b, rfl⟩ : ∃ a b, x = ix2 a b := ⟨_, _, eq_ix2 x⟩
    obtain rfl : j = b := Fin.ext h1
    rw [pay3]; simp only [ld_rows (iblk m c 0 t) 512 _ a r _ h0]
  · obtain ⟨a, b, rfl⟩ : ∃ a b, x = ix2 a b := ⟨_, _, eq_ix2 x⟩
    obtain rfl : j = b := Fin.ext h1
    rw [pay8]; simp only [ld_rows (iblk m c 0 t) 0 _ a r _ (h0.trans (Nat.zero_add _).symm)]

theorem soutA (c : Dev nD) (t : Fin cfg0.N) (h0 : t.val % 16 = 0) (h1 : ¬(1 ≤ t.val % 16 ∧ t.val % 16 ≤ 14)) (h2 : ¬t.val % 16 = 15)
    (r : Fin 1024) (j : Fin 2048) :
    (outsAt0 m c t.val t.isLt).2 (ix2 r j) = rms (fun k => iblk m c 0 t (ix2 r k)) (fun k => iblk m c 1 t (ix2 0 k)) j := by
  rw [outsAt0_A m c t h0 h1 h2]
  frame_out
  canon_tiles x h
  · obtain ⟨a, b, rfl⟩ : ∃ a b, x = ix2 a b := ⟨_, _, eq_ix2 x⟩
    obtain rfl : j = b := Fin.ext h1
    rw [pay2]; simp only [ld_rows (iblk m c 0 t) 512 _ a r _ h0]
  · obtain ⟨a, b, rfl⟩ : ∃ a b, x = ix2 a b := ⟨_, _, eq_ix2 x⟩
    obtain rfl : j = b := Fin.ext h1
    rw [pay7]; simp only [ld_rows (iblk m c 0 t) 0 _ a r _ (h0.trans (Nat.zero_add _).symm)]

theorem outB (c : Dev nD) (t : Fin cfg0.N) (h0 : ¬t.val % 16 = 0) (h1 : (1 ≤ t.val % 16 ∧ t.val % 16 ≤ 14)) (h2 : ¬t.val % 16 = 15)
    (r : Fin 1024) (j : Fin 2048) :
    (outsAt0 m c t.val t.isLt).1 (ix2 r j) = (outsAt0 m c (t.val - 1) (Nat.lt_of_le_of_lt (Nat.sub_le _ _) t.isLt)).1 (ix2 r j)
      + ffb (fun k => (outsAt0 m c (t.val - 1) (Nat.lt_of_le_of_lt (Nat.sub_le _ _) t.isLt)).2 (ix2 r k)) (iblk m c 2 t) (iblk m c 3 t) j := by
  rw [outsAt0_B m c t h0 h1 h2]
  frame_out
  simp only [read_unread_whole]
  rw [pay4]

theorem outC (c : Dev nD) (t : Fin cfg0.N) (h0 : ¬t.val % 16 = 0) (h1 : ¬(1 ≤ t.val % 16 ∧ t.val % 16 ≤ 14)) (h2 : t.val % 16 = 15)
    (r : Fin 1024) (j : Fin 2048) :
    (outsAt0 m c t.val t.isLt).1 (ix2 r j) = hblk m c t (ix2 r j) + rms (fun i => (outsAt0 m c (t.val - 1) (Nat.lt_of_le_of_lt (Nat.sub_le _ _) t.isLt)).1 (ix2 r i)
      + ffb (fun k => (outsAt0 m c (t.val - 1) (Nat.lt_of_le_of_lt (Nat.sub_le _ _) t.isLt)).2 (ix2 r k)) (iblk m c 2 t) (iblk m c 3 t) i)
        (fun k => iblk m c 4 t (ix2 0 k)) j := by
  rw [outsAt0_C m c t h0 h1 h2]
  frame_out
  simp only [read_unread_whole]
  generalize outsAt0 m c (t.val - 1) (Nat.lt_of_le_of_lt (Nat.sub_le _ _) t.isLt) = P
  canon_tiles x h
  · obtain ⟨a, b, rfl⟩ : ∃ a b, x = ix2 a b := ⟨_, _, eq_ix2 x⟩
    obtain rfl : j = b := Fin.ext h1
    rw [pay5]; simp only [ld_rows P.1 512 _ a r _ h0, ld_rows P.2 512 _ a r _ h0, ld_rows (hblk m c t) 512 _ a r _ h0]
  · obtain ⟨a, b, rfl⟩ : ∃ a b, x = ix2 a b := ⟨_, _, eq_ix2 x⟩
    obtain rfl : j = b := Fin.ext h1
    rw [pay10]; simp only [ld_rows P.1 0 _ a r _ (h0.trans (Nat.zero_add _).symm), ld_rows P.2 0 _ a r _ (h0.trans (Nat.zero_add _).symm), ld_rows (hblk m c t) 0 _ a r _ (h0.trans (Nat.zero_add _).symm)]

theorem soutB (c : Dev nD) (t : Fin cfg0.N) (h0 : ¬t.val % 16 = 0) :
    (outsAt0 m c t.val t.isLt).2 = (outsAt0 m c (t.val - 1) (Nat.lt_of_le_of_lt (Nat.sub_le _ _) t.isLt)).2 := by
  have hN := lt_of_lt_of_eq t.isLt (show cfg0.N = 256 from N_0)
  by_cases h2 : t.val % 16 = 15
  · rw [outsAt0_C m c t h0 (by omega) h2]; rfl
  · rw [outsAt0_B m c t h0 (by omega) h2]; rfl

end Cert.MlpIdeal.Out

end
-- ==== Proof.MlpValue.lean ====
/- The feed-forward call's result array as a formula of its arguments: each row plus the normalized sum, over
   all 8192 hidden units, of the squared positive parts times the second matrix. -/
module

public import proofs.«01_k».proof.Proof.MlpOut
public import Idealize.ShloMosaic.Lib.Tactic

@[expose] public section

set_option maxRecDepth 16384

noncomputable section

namespace Cert.MlpIdeal.Val

open Cert.MlpIdeal Cert.MlpIdeal.Gen Cert.MlpIdeal.Pay Cert.MlpIdeal.Out Idealize.ShloMosaic Idealize.ShloMosaic.TcCoe Idealize.SL.Sem Cert.Rows
open Idealize.ShloMosaic.Pipeline (Dat)

/-- Row `R` of the flattened hidden state. -/
def hrow (x : Vec Ideal S4x4096x2048 .f32) (R : Fin 16384) (k : Fin 2048) : EReal :=
  x (ix3 ⟨R.val / 4096, by omega⟩ ⟨R.val % 4096, by omega⟩ k)

/-- Hidden unit `f` of row `R`, times its weight in output column `j`. -/
def unit (x : Vec Ideal S4x4096x2048 .f32) (g : Vec Ideal S2x4x2048 .f32) (w1 : Vec Ideal S2x2048x8192 .f32) (w2 : Vec Ideal S2x8192x2048 .f32)
    (R : Fin 16384) (j : Fin 2048) (f : Fin 8192) : EReal :=
  act (rms (hrow x R) (fun k => g (ix3 0 2 k))) (fun k => w1 (ix3 0 k f)) * w2 (ix3 0 f j)

/-- The result at row `R`, column `j`. -/
def mlp (x : Vec Ideal S4x4096x2048 .f32) (g : Vec Ideal S2x4x2048 .f32) (w1 : Vec Ideal S2x2048x8192 .f32) (w2 : Vec Ideal S2x8192x2048 .f32)
    (R : Fin 16384) (j : Fin 2048) : EReal :=
  hrow x R j + rms (fun i => ∑ f, unit x g w1 w2 R i f) (fun k => g (ix3 0 3 k)) j

variable (m : (ℓ : Loc nD τ sig) → Buf (Elt Ideal) ℓ)

/-- The printed index maps, decided over the grid. -/
theorem idx0 : ∀ t : Fin cfg0.N, win0_0.index t = ![t.val / 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, t.val % 16] := (by decide +kernel : ∀ t : Fin grid0.N, _)
theorem idx3 : ∀ t : Fin cfg0.N, win0_3.index t = ![0, t.val % 16, 0] := (by decide +kernel : ∀ t : Fin grid0.N, _)
theorem idx4 : ∀ t : Fin cfg0.N, win0_4.index t = ![0, 0] := (by decide +kernel : ∀ t : Fin grid0.N, _)

theorem blk0 (c : Dev nD) (t : Fin cfg0.N) (r : Fin 1024) (k : Fin 2048) (R : Fin 16384) (hR : R.val = 1024 * (t.val / 16) + r.val) :
    iblk m c 0 t (ix2 r k) = hrow (m ((c : Thread nD τ).loc main_arg0)) R k := by
  unfold hrow
  blk_ext! [iblk, idx0 t]

theorem blk2 (c : Dev nD) (t : Fin cfg0.N) (k : Fin 2048) (f : Fin 512) :
    iblk m c 2 t (ix3 0 k f) = m ((c : Thread nD τ).loc main_arg2) (ix3 0 k ⟨512 * (t.val % 16) + f.val, by omega⟩) := by
  blk_ext! [iblk, idx2 t]

theorem blk3 (c : Dev nD) (t : Fin cfg0.N) (f : Fin 512) (j : Fin 2048) :
    iblk m c 3 t (ix3 0 f j) = m ((c : Thread nD τ).loc main_arg3) (ix3 0 ⟨512 * (t.val % 16) + f.val, by omega⟩ j) := by
  blk_ext! [iblk, idx3 t]

theorem blk1 (c : Dev nD) (t : Fin cfg0.N) (k : Fin 2048) :
    iblk m c 1 t (ix2 0 k) = m ((c : Thread nD τ).loc main_arg1) (ix3 0 2 k) := by
  blk_ext! [iblk, idx1 t]

theorem blk4 (c : Dev nD) (t : Fin cfg0.N) (k : Fin 2048) :
    iblk m c 4 t (ix2 0 k) = m ((c : Thread nD τ).loc main_arg1) (ix3 0 3 k) := by
  blk_ext! [iblk, idx4 t]

/-- The hidden units as a function of any number, zero past the last. -/
def unitN (x : Vec Ideal S4x4096x2048 .f32) (g : Vec Ideal S2x4x2048 .f32) (w1 : Vec Ideal S2x2048x8192 .f32) (w2 : Vec Ideal S2x8192x2048 .f32)
    (R : Fin 16384) (j : Fin 2048) (n : ℕ) : EReal := if h : n < 8192 then unit x g w1 w2 R j ⟨n, h⟩ else 0

/-- The row of the hidden state that place `r` of the block at point `n` holds. -/
def rowOf (n : ℕ) (hn : n < cfg0.N) (r : Fin 1024) : Fin 16384 :=
  ⟨1024 * (n / 16) + r.val, by have := lt_of_lt_of_eq hn (show cfg0.N = 256 from N_0); omega⟩

abbrev ax (c : Dev nD) : Vec Ideal S4x4096x2048 .f32 := m ((c : Thread nD τ).loc main_arg0)
abbrev ag (c : Dev nD) : Vec Ideal S2x4x2048 .f32 := m ((c : Thread nD τ).loc main_arg1)
abbrev aw1 (c : Dev nD) : Vec Ideal S2x2048x8192 .f32 := m ((c : Thread nD τ).loc main_arg2)
abbrev aw2 (c : Dev nD) : Vec Ideal S2x8192x2048 .f32 := m ((c : Thread nD τ).loc main_arg3)

/-- The hidden units of one block, summed. -/
theorem ffb_eq (c : Dev nD) (t : Fin cfg0.N) (R : Fin 16384) (j : Fin 2048) :
    ffb (rms (hrow (ax m c) R) (fun k => ag m c (ix3 0 2 k))) (iblk m c 2 t) (iblk m c 3 t) j
      = ∑ f : Fin 512, unitN (ax m c) (ag m c) (aw1 m c) (aw2 m c) R j (512 * (t.val % 16) + f.val) := by
  unfold ffb
  refine Finset.sum_congr rfl fun f _ => ?_
  unfold unitN unit
  rw [dif_pos (by omega), blk3]
  simp only [blk2]

/-- The carried scratch holds the normalized rows of the block. -/
theorem carried (c : Dev nD) : ∀ (n : ℕ) (hn : n < cfg0.N) (r : Fin 1024) (k : Fin 2048),
    (outsAt0 m c n hn).2 (ix2 r k) = rms (hrow (ax m c) (rowOf n hn r)) (fun k => ag m c (ix3 0 2 k)) k := by
  intro n
  induction n with
  | zero =>
    intro hn r k
    rw [soutA m c ⟨0, hn⟩ rfl (by dsimp only; omega) (by dsimp only; omega)]
    simp only [blk0 m c ⟨0, hn⟩ r _ (rowOf 0 hn r) rfl, blk1]
  | succ n ih =>
    intro hn r k
    by_cases h0 : (n + 1) % 16 = 0
    · rw [soutA m c ⟨n + 1, hn⟩ h0 (by dsimp only; omega) (by dsimp only; omega)]
      simp only [blk0 m c ⟨n + 1, hn⟩ r _ (rowOf (n + 1) hn r) rfl, blk1]
    · rw [soutB m c ⟨n + 1, hn⟩ h0]
      refine (ih (Nat.lt_of_succ_lt hn) r k).trans ?_
      rw [show rowOf n (Nat.lt_of_succ_lt hn) r = rowOf (n + 1) hn r from Fin.ext (by unfold rowOf; dsimp only; omega)]

/-- Before a block's last step the output holds the sum over the hidden units met so far. -/
theorem partials (c : Dev nD) : ∀ (n : ℕ) (hn : n < cfg0.N) (r : Fin 1024) (j : Fin 2048), n % 16 ≤ 14 →
    (outsAt0 m c n hn).1 (ix2 r j) = ∑ s ∈ Finset.range (n % 16 + 1), ∑ f : Fin 512,
      unitN (ax m c) (ag m c) (aw1 m c) (aw2 m c) (rowOf n hn r) j (512 * s + f.val) := by
  have first : ∀ (n : ℕ) (hn : n < cfg0.N) (r : Fin 1024) (j : Fin 2048), n % 16 = 0 →
    (outsAt0 m c n hn).1 (ix2 r j) = ∑ s ∈ Finset.range (n % 16 + 1), ∑ f : Fin 512,
      unitN (ax m c) (ag m c) (aw1 m c) (aw2 m c) (rowOf n hn r) j (512 * s + f.val) := by
    intro n hn r j h0
    rw [outA m c ⟨n, hn⟩ h0 (by dsimp only; omega) (by dsimp only; omega)]
    simp only [blk0 m c ⟨n, hn⟩ r _ (rowOf n hn r) rfl, blk1]
    rw [h0, Finset.sum_range_one]
    refine (ffb_eq m c ⟨n, hn⟩ (rowOf n hn r) j).trans ?_
    simp only [h0]
  intro n
  induction n with
  | zero => intro hn r j _; exact first 0 hn r j rfl
  | succ n ih =>
    intro hn r j h14
    by_cases h0 : (n + 1) % 16 = 0
    · exact first (n + 1) hn r j h0
    · rw [outB m c ⟨n + 1, hn⟩ h0 (by dsimp only; omega) (by dsimp only; omega)]
      have hr : rowOf n (Nat.lt_of_succ_lt hn) r = rowOf (n + 1) hn r := Fin.ext (by unfold rowOf; dsimp only; omega)
      have e1 := ih (Nat.lt_of_succ_lt hn) r j (by omega)
      have e2 := fun k => carried m c n (Nat.lt_of_succ_lt hn) r k
      rw [hr] at e1; simp only [hr] at e2
      simp only [Nat.add_sub_cancel] at *
      rw [Finset.sum_range_succ, e1, show (n + 1) % 16 = n % 16 + 1 by omega]
      simp only [e2]
      rw [ffb_eq m c ⟨n + 1, hn⟩ (rowOf (n + 1) hn r) j]
      simp only [show (n + 1) % 16 = n % 16 + 1 by omega]

/-- What the last step of a block stores. -/
theorem last (c : Dev nD) (n : ℕ) (hn : n < cfg0.N) (r : Fin 1024) (j : Fin 2048) (h15 : n % 16 = 15) :
    (outsAt0 m c n hn).1 (ix2 r j) = mlp (ax m c) (ag m c) (aw1 m c) (aw2 m c) (rowOf n hn r) j := by
  obtain ⟨n, rfl⟩ : ∃ k, n = k + 1 := ⟨n - 1, by omega⟩
  rw [outC m c ⟨n + 1, hn⟩ (by dsimp only; omega) (by dsimp only; omega) h15]
  have hr : rowOf n (Nat.lt_of_succ_lt hn) r = rowOf (n + 1) hn r := Fin.ext (by unfold rowOf; dsimp only; omega)
  have e1 := fun j => partials m c n (Nat.lt_of_succ_lt hn) r j (by omega)
  have e2 := fun k => carried m c n (Nat.lt_of_succ_lt hn) r k
  simp only [hr] at e1 e2
  simp only [Nat.add_sub_cancel]
  unfold mlp
  rw [show hblk m c ⟨n + 1, hn⟩ (ix2 r j) = _ from blk0 m c ⟨n + 1, hn⟩ r j (rowOf (n + 1) hn r) rfl]
  simp only [e1, e2, blk4]
  congr 2
  funext i
  rw [ffb_eq m c ⟨n + 1, hn⟩ (rowOf (n + 1) hn r) i]
  simp only [h15, show n % 16 = 14 by omega]
  rw [← Finset.sum_range_succ (fun s => ∑ f : Fin 512, unitN (ax m c) (ag m c) (aw1 m c) (aw2 m c) (rowOf (n + 1) hn r) i (512 * s + f.val)) 15]
  rw [← Fin.sum_univ_eq_sum_range]
  have e := Fin.sum_univ_univ_mul_add 16 512 (unitN (ax m c) (ag m c) (aw1 m c) (aw2 m c) (rowOf (n + 1) hn r) i)
  simp only [Nat.mul_comm _ 512] at e
  refine e.trans (Finset.sum_congr rfl fun f _ => ?_)
  unfold unitN
  rw [dif_pos f.isLt]

/-- The result array, as a formula of the arguments. -/
def result (c : Dev nD) : Buf (Elt Ideal) ((c : Thread nD τ).loc main_v8) :=
  fun i => mlp (ax m c) (ag m c) (aw1 m c) (aw2 m c) (i 0) (i 1)

theorem G5_eq (c : Dev nD) : Cert.MlpIdeal.Value.G5 m c = result m c := by
  funext i
  unfold Cert.MlpIdeal.Value.G5 result
  have hi0 : (i 0).val < 16384 := (i 0).isLt
  have hi1 : (i 1).val < 2048 := (i 1).isLt
  have hp : Cert.MlpIdeal.Value.pt5Of i < cfg0.N := by
    rw [show cfg0.N = 256 from N_0]; dsimp only [Cert.MlpIdeal.Value.pt5Of, Cert.MlpIdeal.Value.run5Of]; omega
  rw [dif_pos hp, ← Cert.MlpIdeal.Value.outsAt0_sweep]
  rw [show Cert.MlpIdeal.Value.loc5Of i = ix2 ⟨(i 0).val % 1024, Nat.mod_lt _ (by decide)⟩ (i 1) from by
    funext a; apply Fin.ext
    match a with
    | ⟨0, _⟩ => rfl
    | ⟨1, _⟩ => exact Nat.mod_eq_of_lt hi1]
  refine (last m c _ hp ⟨(i 0).val % 1024, Nat.mod_lt _ (by decide)⟩ (i 1) (by dsimp only [Cert.MlpIdeal.Value.pt5Of, Cert.MlpIdeal.Value.run5Of]; omega)).trans ?_
  congr 1
  apply Fin.ext
  unfold rowOf
  dsimp only [Cert.MlpIdeal.Value.pt5Of, Cert.MlpIdeal.Value.run5Of]
  omega

end Cert.MlpIdeal.Val

end
-- ==== Proof.MlpRef.lean ====
/- The feed-forward reference's result is the same formula, and so the two programs agree. -/
module

public import proofs.«01_k».proof.Defs
public import proofs.«01_k».proof.Proof.MlpValue
public import proofs.«01_k».proof.Proof.Gen.MlpReferenceIdeal.Run
public import proofs.«01_k».proof.Proof.Gen.Mlp.Frame
public import Idealize.ShloMosaic.Lib.Claim
public import Idealize.ShloMosaic.Lib.Quiescent

@[expose] public section

set_option maxRecDepth 16384

noncomputable section

namespace Cert.MlpReferenceIdeal.Val

open Cert.MlpReferenceIdeal Cert.MlpReferenceIdeal.Gen Idealize.ShloMosaic Idealize.ShloMosaic.TcCoe Idealize.SL.Sem Cert.Rows
open Cert.MlpIdeal.Val Cert.MlpIdeal.Pay

variable (m : (ℓ : Loc nD τ sig) → Buf (Elt Ideal) ℓ)

/-- The reference's normalization of every row of `X` by the weights `G`. -/
def normed (X : FVec Ideal S4x4096x2048 .f32) (G : FVec Ideal S2048 .f32) : FVec Ideal S4x4096x2048 .f32 :=
  mulf (mulf X (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf X X) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 G))

theorem normed_apply (X : FVec Ideal S4x4096x2048 .f32) (G : FVec Ideal S2048 .f32) (b : Fin 4) (s : Fin 4096) (k : Fin 2048) :
    normed X G (ix3 b s k) = rms (fun k => X (ix3 b s k)) (fun k => G (ix1 k)) k := by
  unfold normed
  pointwise [rms]

/-- The squared positive part of the first product. -/
def hidden (X : FVec Ideal S4x4096x2048 .f32) (W : FVec Ideal S2048x8192 .f32) : FVec Ideal S4x4096x8192 .f32 :=
  mulf (maximumf (Host.dotGeneral dot_S4x4096x2048_S2048x8192_S4x4096x8192_2_0_01_1_n_n none X W) (broadcastInDim S4x4096x8192 ![] bcast_S_S4x4096x8192 (constant S_ .f32 0x00000000#32)))
    (maximumf (Host.dotGeneral dot_S4x4096x2048_S2048x8192_S4x4096x8192_2_0_01_1_n_n none X W) (broadcastInDim S4x4096x8192 ![] bcast_S_S4x4096x8192 (constant S_ .f32 0x00000000#32)))

theorem hidden_apply (X : FVec Ideal S4x4096x2048 .f32) (W : FVec Ideal S2048x8192 .f32) (b : Fin 4) (s : Fin 4096) (f : Fin 8192) :
    hidden X W (ix3 b s f) = act (fun k => X (ix3 b s k)) (fun k => W (ix2 k f)) := by
  unfold hidden
  pointwise [act]

/-- Row `r` of the first layer's normalization weights. -/
def gain (r : ℕ) (h : S4x2048.Slices ![r, 0] S1x2048) (g : FVec Ideal S2x4x2048 .f32) : FVec Ideal S2048 .f32 :=
  shapeCast _ (extractStridedSlice S1x2048 ![r, 0] (shapeCast _ (extractStridedSlice S1x4x2048 ![0, 0, 0] g slices_S2x4x2048_S1x4x2048_0_0_0) shapeCasts_S1x4x2048_S4x2048) h) shapeCasts_S1x2048_S2048

theorem gain2 (g : FVec Ideal S2x4x2048 .f32) (k : Fin 2048) : gain 2 slices_S4x2048_S1x2048_2_0 g (ix1 k) = g (ix3 0 2 k) := by
  unfold gain; pointwise

theorem gain3 (g : FVec Ideal S2x4x2048 .f32) (k : Fin 2048) : gain 3 slices_S4x2048_S1x2048_3_0 g (ix1 k) = g (ix3 0 3 k) := by
  unfold gain; pointwise

/-- The first layer's two matrices. -/
def up (w : FVec Ideal S2x2048x8192 .f32) : FVec Ideal S2048x8192 .f32 :=
  shapeCast _ (extractStridedSlice S1x2048x8192 ![0, 0, 0] w slices_S2x2048x8192_S1x2048x8192_0_0_0) shapeCasts_S1x2048x8192_S2048x8192
def down (w : FVec Ideal S2x8192x2048 .f32) : FVec Ideal S8192x2048 .f32 :=
  shapeCast _ (extractStridedSlice S1x8192x2048 ![0, 0, 0] w slices_S2x8192x2048_S1x8192x2048_0_0_0) shapeCasts_S1x8192x2048_S8192x2048

theorem up_apply (w : FVec Ideal S2x2048x8192 .f32) (k : Fin 2048) (f : Fin 8192) : up w (ix2 k f) = w (ix3 0 k f) := by
  unfold up; pointwise
theorem down_apply (w : FVec Ideal S2x8192x2048 .f32) (k : Fin 8192) (f : Fin 2048) : down w (ix2 k f) = w (ix3 0 k f) := by
  unfold down; pointwise

/-- The second product. -/
def project (X : FVec Ideal S4x4096x8192 .f32) (W : FVec Ideal S8192x2048 .f32) : FVec Ideal S4x4096x2048 .f32 :=
  Host.dotGeneral dot_S4x4096x8192_S8192x2048_S4x4096x2048_2_0_01_1_n_n none X W

theorem project_apply (X : FVec Ideal S4x4096x8192 .f32) (W : FVec Ideal S8192x2048 .f32) (b : Fin 4) (s : Fin 4096) (j : Fin 2048) :
    project X W (ix3 b s j) = ∑ f, X (ix3 b s f) * W (ix2 f j) := by
  unfold project
  pointwise

theorem staged (c : Dev nD) : Cert.MlpReferenceIdeal.Value.res_out0 m c = shapeCast (s := S4x4096x2048) S16384x2048 (addf (F := Ideal) (φ := .f32) (s := S4x4096x2048) (m ((c : Thread nD τ).loc main_arg0))
    (normed (project (hidden (normed (m ((c : Thread nD τ).loc main_arg0)) (gain 2 slices_S4x2048_S1x2048_2_0 (m ((c : Thread nD τ).loc main_arg1))))
      (up (m ((c : Thread nD τ).loc main_arg2)))) (down (m ((c : Thread nD τ).loc main_arg3)))) (gain 3 slices_S4x2048_S1x2048_3_0 (m ((c : Thread nD τ).loc main_arg1)))))
    shapeCasts_S4x4096x2048_S16384x2048 := rfl

theorem result_apply (c : Dev nD) (R : Fin 16384) (j : Fin 2048) :
    Cert.MlpReferenceIdeal.Value.res_out0 m c (ix2 R j) = mlp (m ((c : Thread nD τ).loc main_arg0)) (m ((c : Thread nD τ).loc main_arg1))
      (m ((c : Thread nD τ).loc main_arg2)) (m ((c : Thread nD τ).loc main_arg3)) R j := by
  rw [staged]
  pointwise [mlp, hrow]
  simp only [normed_apply, project_apply, hidden_apply, gain2, gain3, up_apply, down_apply]
  rfl

end Cert.MlpReferenceIdeal.Val

namespace Cert.MlpClaims

open Idealize.ShloMosaic Idealize.ShloMosaic.TcCoe Idealize.SL.Sem

theorem reference_quiescent : Cert.quiescent_MlpReferenceIdeal (hMlpReferenceIdeal := Cert.MlpReferenceIdeal.Gen.facts) := fun m ρ _ =>
  (θ_run Cert.MlpReferenceIdeal.defs _ _).mono (fun r h => ⟨fun c => (h c).2, Idealize.ShloMosaic.sem_eq_zero_of_no_sems (by decide) r.2⟩)
    (Cert.MlpReferenceIdeal.Value.run (F := Ideal) m ρ)

theorem algebraic : Cert.algebraic_MlpIdeal_MlpReferenceIdeal (hMlpIdeal := Cert.MlpIdeal.Gen.facts) (hMlpReferenceIdeal := Cert.MlpReferenceIdeal.Gen.facts) := by
  intro m g m' g' _ hagree
  refine ⟨fun c => Cert.MlpIdeal.Val.result m c, ?_, ?_⟩
  · refine (θ_run _ _ _).mono (fun r h c => ?_) (Cert.MlpIdeal.Value.run m g)
    obtain ⟨h0, h1⟩ := h c
    exact ⟨h0.trans (Cert.MlpIdeal.Val.G5_eq m c), h1⟩
  · refine (θ_run _ _ _).mono (fun r h c => ?_) (Cert.MlpReferenceIdeal.Value.run m' g')
    obtain ⟨h0, h1⟩ := h c
    refine ⟨h0.trans ?_, h1⟩
    obtain ⟨a0, a1, a2, a3⟩ := hagree c
    funext i
    rw [ValueIdx.eq_ix2 i]
    refine (Cert.MlpReferenceIdeal.Val.result_apply m' c (i 0) (i 1)).trans ?_
    rw [a0, a1, a2, a3]
    rfl

end Cert.MlpClaims

end
-- ==== Proof.WordsPost.lean ====
/- What one step stores, in the words of its blocks. -/
module

public import proofs.«01_k».proof.Proof.WordsPieces
public import proofs.«01_k».proof.Proof.WordsRunA

@[expose] public section

set_option maxRecDepth 16384

noncomputable section

namespace Cert.AttWords

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → ℕ) = fun _ => 0 := by funext a; fin_cases a <;> rfl
theorem zero3 : (![0, 0, 0] : Fin 3 → ℕ) = fun _ => 0 := by funext a; fin_cases a <;> rfl

theorem load_half {sig' : RefSig} {κ' : Kind} {sp : Space} (p : Fin 2) {m : Memref sig' κ' sp S2x256x2048 .bf16} (hm : m.IsWhole)
    (x : Vec F S2x256x2048 .bf16) {off : Fin 3 → ℕ} (ho : off = ![p.val, 0, 0]) (inb : ∀ a, off a + ![1, 256, 2048] a ≤ S2x256x2048.size a) :
    View.readAt (Elt F) m.view (Rect.unit (s := S2x256x2048) off ![1, 256, 2048] inb).toLoadRect (hm.unread x) = half p x := by
  subst ho
  funext j
  rw [hm.readAt_unread]
  refine congrArg x (funext fun a => Fin.ext ((Rect.idx_unit_val _ _ inb j a).trans ?_))
  have h0 : (j 0).val < 1 := (j 0).isLt
  fin_cases a
  · show p.val + (j 0).val = p.val; omega
  · exact Nat.zero_add _
  · exact Nat.zero_add _

set_option maxHeartbeats 1600000 in
theorem outB (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x8x256x768 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S3x1024 .f32) (harg14 : arg14.IsWhole) (arg15 : Memref sig .tc .vmem S1x2048x2048 .bf16) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .f32) (harg18 : arg18.IsWhole) (arg19 : Memref sig .tc .vmem S2x256x2048 .bf16) (harg19 : arg19.IsWhole) (arg20 : Memref sig .tc .vmem S264x1024 .f32) (harg20 : arg20.IsWhole) (hc0 : ¬firstStep i)
    (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x8x256x768 .f32) (x9 : Vec F S256x1024 .f32) (x10 : Vec F S256x1024 .f32) (x11 : Vec F S256x1024 .f32) (x12 : Vec F S8x1024 .f32) (x13 : Vec F S8x1024 .f32) (x14 : Vec F S3x1024 .f32) (x15 : Vec F S1x2048x2048 .bf16) (x16 : Vec F S256x2048 .f32) (x17 : Vec F S1x2048 .f32) (x19 : Vec F S2x256x2048 .bf16) (x20 : Vec F S264x1024 .f32) (p : Fin 2) (hp : p.val = 1 - (i 0).val % 2) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20).1
    = [⟨Rect.unit (s := S256x2048) ![0, 0] S256x2048.size inb_S256x2048_S256x2048_0_0, proj (half p x19) x15 x16 x17⟩] := by
  dsimp only [runB]
  dsimp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.v71, runB.sl.v75, runB.sl.v80]
  rw [load_half p harg19 _ ((off1_eq i).trans (by rw [hp])), load_full harg15 _ zero3, load_full harg16 _ zero2, load_full harg17 _ zero2]
  rfl

set_option maxHeartbeats 1600000 in
theorem carriedB (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x8x256x768 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S3x1024 .f32) (harg14 : arg14.IsWhole) (arg15 : Memref sig .tc .vmem S1x2048x2048 .bf16) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .f32) (harg18 : arg18.IsWhole) (arg19 : Memref sig .tc .vmem S2x256x2048 .bf16) (harg19 : arg19.IsWhole) (arg20 : Memref sig .tc .vmem S264x1024 .f32) (harg20 : arg20.IsWhole) (hc0 : ¬firstStep i)
    (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x8x256x768 .f32) (x9 : Vec F S256x1024 .f32) (x10 : Vec F S256x1024 .f32) (x11 : Vec F S256x1024 .f32) (x12 : Vec F S8x1024 .f32) (x13 : Vec F S8x1024 .f32) (x14 : Vec F S3x1024 .f32) (x15 : Vec F S1x2048x2048 .bf16) (x16 : Vec F S256x2048 .f32) (x17 : Vec F S1x2048 .f32) (x19 : Vec F S2x256x2048 .bf16) (x20 : Vec F S264x1024 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20).2.1 = pieces i x1 x2 x3 x4 x5 x6 x7 x8 x9 x10 x11 x12 x13 x14 := by
  dsimp only [runB]
  dsimp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.v71, runB.sl.v75, runB.sl.v80]
  simp only [load_cols 0 harg1 x1 (off := ![0, 0]) rfl, load_cols 1 harg1 x1 (off := ![0, 128]) rfl, load_cols 2 harg1 x1 (off := ![0, 256]) rfl, load_cols 3 harg1 x1 (off := ![0, 384]) rfl, load_cols 4 harg1 x1 (off := ![0, 512]) rfl, load_cols 5 harg1 x1 (off := ![0, 640]) rfl, load_cols 6 harg1 x1 (off := ![0, 768]) rfl, load_cols 7 harg1 x1 (off := ![0, 896]) rfl, load_cols 0 harg2 x2 (off := ![0, 0]) rfl, load_cols 1 harg2 x2 (off := ![0, 128]) rfl, load_cols 2 harg2 x2 (off := ![0, 256]) rfl, load_cols 3 harg2 x2 (off := ![0, 384]) rfl, load_cols 4 harg2 x2 (off := ![0, 512]) rfl, load_cols 5 harg2 x2 (off := ![0, 640]) rfl, load_cols 6 harg2 x2 (off := ![0, 768]) rfl, load_cols 7 harg2 x2 (off := ![0, 896]) rfl, load_cols 0 harg3 x3 (off := ![0, 0]) rfl, load_cols 1 harg3 x3 (off := ![0, 128]) rfl, load_cols 2 harg3 x3 (off := ![0, 256]) rfl, load_cols 3 harg3 x3 (off := ![0, 384]) rfl, load_cols 4 harg3 x3 (off := ![0, 512]) rfl, load_cols 5 harg3 x3 (off := ![0, 640]) rfl, load_cols 6 harg3 x3 (off := ![0, 768]) rfl, load_cols 7 harg3 x3 (off := ![0, 896]) rfl, load_cols 0 harg4 x4 (off := ![0, 0]) rfl, load_cols 1 harg4 x4 (off := ![0, 128]) rfl, load_cols 2 harg4 x4 (off := ![0, 256]) rfl, load_cols 3 harg4 x4 (off := ![0, 384]) rfl, load_cols 4 harg4 x4 (off := ![0, 512]) rfl, load_cols 5 harg4 x4 (off := ![0, 640]) rfl, load_cols 6 harg4 x4 (off := ![0, 768]) rfl, load_cols 7 harg4 x4 (off := ![0, 896]) rfl, load_cols 0 harg5 x5 (off := ![0, 0]) rfl, load_cols 1 harg5 x5 (off := ![0, 128]) rfl, load_cols 2 harg5 x5 (off := ![0, 256]) rfl, load_cols 3 harg5 x5 (off := ![0, 384]) rfl, load_cols 4 harg5 x5 (off := ![0, 512]) rfl, load_cols 5 harg5 x5 (off := ![0, 640]) rfl, load_cols 6 harg5 x5 (off := ![0, 768]) rfl, load_cols 7 harg5 x5 (off := ![0, 896]) rfl, load_cols 0 harg6 x6 (off := ![0, 0]) rfl, load_cols 1 harg6 x6 (off := ![0, 128]) rfl, load_cols 2 harg6 x6 (off := ![0, 256]) rfl, load_cols 3 harg6 x6 (off := ![0, 384]) rfl, load_cols 4 harg6 x6 (off := ![0, 512]) rfl, load_cols 5 harg6 x6 (off := ![0, 640]) rfl, load_cols 6 harg6 x6 (off := ![0, 768]) rfl, load_cols 7 harg6 x6 (off := ![0, 896]) rfl, load_cols 0 harg7 x7 (off := ![0, 0]) rfl, load_cols 1 harg7 x7 (off := ![0, 128]) rfl, load_cols 2 harg7 x7 (off := ![0, 256]) rfl, load_cols 3 harg7 x7 (off := ![0, 384]) rfl, load_cols 4 harg7 x7 (off := ![0, 512]) rfl, load_cols 5 harg7 x7 (off := ![0, 640]) rfl, load_cols 6 harg7 x7 (off := ![0, 768]) rfl, load_cols 7 harg7 x7 (off := ![0, 896]) rfl,
    load_bias 0 harg8 x8 (off := ![0, 0, 0, 0]) rfl, load_bias 1 harg8 x8 (off := ![0, 1, 0, 0]) rfl, load_bias 2 harg8 x8 (off := ![0, 2, 0, 0]) rfl, load_bias 3 harg8 x8 (off := ![0, 3, 0, 0]) rfl, load_bias 4 harg8 x8 (off := ![0, 4, 0, 0]) rfl, load_bias 5 harg8 x8 (off := ![0, 5, 0, 0]) rfl, load_bias 6 harg8 x8 (off := ![0, 6, 0, 0]) rfl, load_bias 7 harg8 x8 (off := ![0, 7, 0, 0]) rfl]
  dsimp only [View.readCov, runB.sl.H20_2]
  simp only [load_full harg14 x14 zero2, load_full harg9 x9 zero2, load_full harg10 x10 zero2, load_full harg11 x11 zero2, load_full harg12 x12 zero2, load_full harg13 x13 zero2]
  rw [load_u arg20.view _ _ x10 x11 x12 x13 6 (off := ![6, 0]) rfl, load_u arg20.view _ _ x10 x11 x12 x13 7 (off := ![7, 0]) rfl, load_u arg20.view _ _ x10 x11 x12 x13 8 (off := ![8, 0]) rfl]
  simp only [score0, score2, score3, score4, score5, score6, score7, head0, head2, head3, head4, head5, head6, head7]
  rfl

set_option maxHeartbeats 1600000 in
theorem outA (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x8x256x768 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S3x1024 .f32) (harg14 : arg14.IsWhole) (arg15 : Memref sig .tc .vmem S1x2048x2048 .bf16) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .f32) (harg18 : arg18.IsWhole) (arg19 : Memref sig .tc .vmem S2x256x2048 .bf16) (harg19 : arg19.IsWhole) (arg20 : Memref sig .tc .vmem S264x1024 .f32) (harg20 : arg20.IsWhole) (hc0 : firstStep i)
    (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x8x256x768 .f32) (x9 : Vec F S256x1024 .f32) (x10 : Vec F S256x1024 .f32) (x11 : Vec F S256x1024 .f32) (x12 : Vec F S8x1024 .f32) (x13 : Vec F S8x1024 .f32) (x14 : Vec F S3x1024 .f32) (x15 : Vec F S1x2048x2048 .bf16) (x16 : Vec F S256x2048 .f32) (x17 : Vec F S1x2048 .f32) (x19 : Vec F S2x256x2048 .bf16) (x20 : Vec F S264x1024 .f32) (p : Fin 2) (hp : p.val = 1 - (i 0).val % 2) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20).1
    = [⟨Rect.unit (s := S256x2048) ![0, 0] S256x2048.size inb_S256x2048_S256x2048_0_0, proj (half p k0_pay2) x15 x16 x17⟩] := by
  dsimp only [runA]
  dsimp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.v71, runA.sl.v75, runA.sl.v80]
  rw [load_half p harg19 _ ((off1_eq i).trans (by rw [hp])), load_full harg15 _ zero3, load_full harg16 _ zero2, load_full harg17 _ zero2]
  rfl

set_option maxHeartbeats 1600000 in
theorem carriedA (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x8x256x768 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S3x1024 .f32) (harg14 : arg14.IsWhole) (arg15 : Memref sig .tc .vmem S1x2048x2048 .bf16) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .f32) (harg18 : arg18.IsWhole) (arg19 : Memref sig .tc .vmem S2x256x2048 .bf16) (harg19 : arg19.IsWhole) (arg20 : Memref sig .tc .vmem S264x1024 .f32) (harg20 : arg20.IsWhole) (hc0 : firstStep i)
    (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x8x256x768 .f32) (x9 : Vec F S256x1024 .f32) (x10 : Vec F S256x1024 .f32) (x11 : Vec F S256x1024 .f32) (x12 : Vec F S8x1024 .f32) (x13 : Vec F S8x1024 .f32) (x14 : Vec F S3x1024 .f32) (x15 : Vec F S1x2048x2048 .bf16) (x16 : Vec F S256x2048 .f32) (x17 : Vec F S1x2048 .f32) (x19 : Vec F S2x256x2048 .bf16) (x20 : Vec F S264x1024 .f32) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20).2.1 = pieces i x1 x2 x3 x4 x5 x6 x7 x8 x9 x10 x11 x12 x13 x14 := by
  dsimp only [runA]
  dsimp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.v71, runA.sl.v75, runA.sl.v80]
  simp only [load_cols 0 harg1 x1 (off := ![0, 0]) rfl, load_cols 1 harg1 x1 (off := ![0, 128]) rfl, load_cols 2 harg1 x1 (off := ![0, 256]) rfl, load_cols 3 harg1 x1 (off := ![0, 384]) rfl, load_cols 4 harg1 x1 (off := ![0, 512]) rfl, load_cols 5 harg1 x1 (off := ![0, 640]) rfl, load_cols 6 harg1 x1 (off := ![0, 768]) rfl, load_cols 7 harg1 x1 (off := ![0, 896]) rfl, load_cols 0 harg2 x2 (off := ![0, 0]) rfl, load_cols 1 harg2 x2 (off := ![0, 128]) rfl, load_cols 2 harg2 x2 (off := ![0, 256]) rfl, load_cols 3 harg2 x2 (off := ![0, 384]) rfl, load_cols 4 harg2 x2 (off := ![0, 512]) rfl, load_cols 5 harg2 x2 (off := ![0, 640]) rfl, load_cols 6 harg2 x2 (off := ![0, 768]) rfl, load_cols 7 harg2 x2 (off := ![0, 896]) rfl, load_cols 0 harg3 x3 (off := ![0, 0]) rfl, load_cols 1 harg3 x3 (off := ![0, 128]) rfl, load_cols 2 harg3 x3 (off := ![0, 256]) rfl, load_cols 3 harg3 x3 (off := ![0, 384]) rfl, load_cols 4 harg3 x3 (off := ![0, 512]) rfl, load_cols 5 harg3 x3 (off := ![0, 640]) rfl, load_cols 6 harg3 x3 (off := ![0, 768]) rfl, load_cols 7 harg3 x3 (off := ![0, 896]) rfl, load_cols 0 harg4 x4 (off := ![0, 0]) rfl, load_cols 1 harg4 x4 (off := ![0, 128]) rfl, load_cols 2 harg4 x4 (off := ![0, 256]) rfl, load_cols 3 harg4 x4 (off := ![0, 384]) rfl, load_cols 4 harg4 x4 (off := ![0, 512]) rfl, load_cols 5 harg4 x4 (off := ![0, 640]) rfl, load_cols 6 harg4 x4 (off := ![0, 768]) rfl, load_cols 7 harg4 x4 (off := ![0, 896]) rfl, load_cols 0 harg5 x5 (off := ![0, 0]) rfl, load_cols 1 harg5 x5 (off := ![0, 128]) rfl, load_cols 2 harg5 x5 (off := ![0, 256]) rfl, load_cols 3 harg5 x5 (off := ![0, 384]) rfl, load_cols 4 harg5 x5 (off := ![0, 512]) rfl, load_cols 5 harg5 x5 (off := ![0, 640]) rfl, load_cols 6 harg5 x5 (off := ![0, 768]) rfl, load_cols 7 harg5 x5 (off := ![0, 896]) rfl, load_cols 0 harg6 x6 (off := ![0, 0]) rfl, load_cols 1 harg6 x6 (off := ![0, 128]) rfl, load_cols 2 harg6 x6 (off := ![0, 256]) rfl, load_cols 3 harg6 x6 (off := ![0, 384]) rfl, load_cols 4 harg6 x6 (off := ![0, 512]) rfl, load_cols 5 harg6 x6 (off := ![0, 640]) rfl, load_cols 6 harg6 x6 (off := ![0, 768]) rfl, load_cols 7 harg6 x6 (off := ![0, 896]) rfl, load_cols 0 harg7 x7 (off := ![0, 0]) rfl, load_cols 1 harg7 x7 (off := ![0, 128]) rfl, load_cols 2 harg7 x7 (off := ![0, 256]) rfl, load_cols 3 harg7 x7 (off := ![0, 384]) rfl, load_cols 4 harg7 x7 (off := ![0, 512]) rfl, load_cols 5 harg7 x7 (off := ![0, 640]) rfl, load_cols 6 harg7 x7 (off := ![0, 768]) rfl, load_cols 7 harg7 x7 (off := ![0, 896]) rfl,
    load_bias 0 harg8 x8 (off := ![0, 0, 0, 0]) rfl, load_bias 1 harg8 x8 (off := ![0, 1, 0, 0]) rfl, load_bias 2 harg8 x8 (off := ![0, 2, 0, 0]) rfl, load_bias 3 harg8 x8 (off := ![0, 3, 0, 0]) rfl, load_bias 4 harg8 x8 (off := ![0, 4, 0, 0]) rfl, load_bias 5 harg8 x8 (off := ![0, 5, 0, 0]) rfl, load_bias 6 harg8 x8 (off := ![0, 6, 0, 0]) rfl, load_bias 7 harg8 x8 (off := ![0, 7, 0, 0]) rfl]
  dsimp only [View.readCov, runA.sl.H20_2]
  simp only [load_full harg14 x14 zero2, load_full harg9 x9 zero2, load_full harg10 x10 zero2, load_full harg11 x11 zero2, load_full harg12 x12 zero2, load_full harg13 x13 zero2]
  rw [load_u arg20.view _ _ x10 x11 x12 x13 6 (off := ![6, 0]) rfl, load_u arg20.view _ _ x10 x11 x12 x13 7 (off := ![7, 0]) rfl, load_u arg20.view _ _ x10 x11 x12 x13 8 (off := ![8, 0]) rfl]
  simp only [score0, score2, score3, score4, score5, score6, score7, head0, head2, head3, head4, head5, head6, head7]
  rfl

end Cert.AttWords

end
-- ==== Proof.AttBits.lean ====
/- The printed program, at machine words: every run ends, its arguments as they were and its semaphores at rest. -/
module

public import proofs.«01_k».proof.Proof.WordsFrame
public import proofs.«01_k».proof.Proof.Gen.Kernel
public import proofs.«01_k».proof.Defs

@[expose] public section

namespace Cert.AttBits

open Idealize.ShloMosaic Idealize.ShloMosaic.TcCoe Idealize.SL.Sem

theorem kernel_quiescent : Cert.quiescent_Kernel (hKernel := Cert.Kernel.Gen.facts) := fun m ρ _ => Cert.AttWords.frame_main (F := Bits) m ρ

end Cert.AttBits
-- ==== Proof.AttGoal.lean ====
/- The layer's attention block as plain formulas of the argument arrays: the gated convolution, the chunked attention
   over a band of 576 keys, the output product, and the normalized residual. -/
module

public import proofs.«01_k».proof.KernelIdeal
public import proofs.«01_k».proof.Proof.Rms
public import Idealize.ShloMosaic.Lib.Pointwise

@[expose] public section

noncomputable section

namespace Cert.Goal

open Cert.KernelIdeal Idealize.ShloMosaic Cert.Rows

/-- The seven arguments. -/
abbrev Conv : Type := Vec Ideal S4x4096x3072 .f32
abbrev Qkv : Type := Vec Ideal S4x4096x3072 .bf16
abbrev Hid : Type := Vec Ideal S4x4096x2048 .f32
abbrev Gain : Type := Vec Ideal S2x4x2048 .f32
abbrev ConvW : Type := Vec Ideal S1x3x1024 .f32
abbrev Rel : Type := Vec Ideal S1x8x320 .f32
abbrev OutW : Type := Vec Ideal S1x2048x2048 .f32

/-- The table entry that query `qi` of a chunk adds at band position `i`. -/
def bias (rb : Rel) (h : Fin 8) (qi : Fin 64) (i : Fin 576) : EReal := rb (ix3 0 h ⟨min 319 (575 + qi.val - i.val), by omega⟩)

/-- Query `s` against the key at position `p`. -/
def dots (q : Qkv) (b : Fin 4) (s p : Fin 4096) (h : Fin 8) : EReal :=
  ∑ d : Fin 128, q (ix3 b s ⟨128 * h.val + d.val, by omega⟩) * q (ix3 b p ⟨1024 + (128 * h.val + d.val), by omega⟩)

/-- The scores of query `s`: band position `i` is key `64 * (s / 64) + i - 512`, and nothing before the sequence. -/
def score (q : Qkv) (rb : Rel) (b : Fin 4) (s : Fin 4096) (h : Fin 8) (i : Fin 576) : EReal :=
  if hi : 512 ≤ 64 * (s.val / 64) + i.val then
    Ideal.div (dots q b s ⟨64 * (s.val / 64) + i.val - 512, by omega⟩ h) ((Real.sqrt 128 : ℝ) : EReal) + bias rb h ⟨s.val % 64, by omega⟩ i
  else ⊥

/-- The value at band position `i`. -/
def val (q : Qkv) (b : Fin 4) (s : Fin 4096) (h : Fin 8) (d : Fin 128) (i : Fin 576) : EReal :=
  if hi : 512 ≤ 64 * (s.val / 64) + i.val then
    q (ix3 b ⟨64 * (s.val / 64) + i.val - 512, by omega⟩ ⟨2048 + (128 * h.val + d.val), by omega⟩)
  else 0

/-- One head's output at one query. -/
def attend (x v : Fin 576 → EReal) : EReal :=
  ∑ i, Ideal.div (Ideal.exp (x i - Finset.univ.sup x)) (∑ i', Ideal.exp (x i' - Finset.univ.sup x)) * v i

/-- The gated rows, zero before the sequence. -/
def gated (a : Conv) (b : Fin 4) (p : ℕ) (j : Fin 1024) : EReal :=
  if hp : 2 ≤ p ∧ p - 2 < 4096 then
    a (ix3 b ⟨p - 2, hp.2⟩ ⟨1024 + j.val, by omega⟩) * a (ix3 b ⟨p - 2, hp.2⟩ ⟨2048 + j.val, by omega⟩)
  else 0

def conv (a : Conv) (cw : ConvW) (b : Fin 4) (s : Fin 4096) (j : Fin 1024) : EReal :=
  a (ix3 b s ⟨j.val, by omega⟩) * (cw (ix3 0 0 j) * gated a b s.val j + cw (ix3 0 1 j) * gated a b (s.val + 1) j + cw (ix3 0 2 j) * gated a b (s.val + 2) j)

/-- The row that the output product takes: the convolution, then the eight heads. -/
def row (a : Conv) (q : Qkv) (cw : ConvW) (rb : Rel) (b : Fin 4) (s : Fin 4096) (k : Fin 2048) : EReal :=
  if hk : k.val < 1024 then conv a cw b s ⟨k.val, hk⟩
  else attend (score q rb b s ⟨(k.val - 1024) / 128, by omega⟩) (val q b s ⟨(k.val - 1024) / 128, by omega⟩ ⟨(k.val - 1024) % 128, by omega⟩)

/-- The result at batch `b`, position `s`, column `j`. -/
def out (a : Conv) (q : Qkv) (x : Hid) (g : Gain) (cw : ConvW) (rb : Rel) (w : OutW) (b : Fin 4) (s : Fin 4096) (j : Fin 2048) : EReal :=
  x (ix3 b s j) + rms (fun i => ∑ k, row a q cw rb b s k * w (ix3 0 k i)) (fun i => g (ix3 0 1 i)) j

end Cert.Goal

end
-- ==== Proof.AttBlocks.lean ====
/- What each window of the attention call stages, read off the argument arrays. -/
module

public import proofs.«01_k».proof.Proof.AttGoal
public import proofs.«01_k».proof.Proof.Gen.KernelIdeal.Frame
public import Idealize.ShloMosaic.Lib.StableHlo.ReadAt
public import Idealize.ShloMosaic.Lib.Pipeline.ValueKit
public import Idealize.ShloMosaic.Lib.Tactic

@[expose] public section

set_option maxRecDepth 16384

noncomputable section

namespace Cert.Att.Blocks

open Cert.KernelIdeal Cert.KernelIdeal.Gen Idealize.ShloMosaic Idealize.ShloMosaic.TcCoe Idealize.SL.Sem

variable (m : (ℓ : Loc nD τ sig) → Buf (Elt Ideal) ℓ)

/-- The tile that a grid point computes, its place in the sequence, and the tile it writes. -/
def tile (t : ℕ) : ℕ := min t 63
def place (t : ℕ) : ℕ := tile t % 16
def near (t : ℕ) (k : ℕ) : ℕ := tile t - place t + (place t + k - 2)

theorem idx0 : ∀ t : Fin cfg0.N, win0_0.index t = ![tile t.val, 0] := (by decide +kernel : ∀ t : Fin grid0.N, _)
theorem idx1 : ∀ t : Fin cfg0.N, win0_1.index t = ![near t.val 0, 1] := (by decide +kernel : ∀ t : Fin grid0.N, _)
theorem idx2 : ∀ t : Fin cfg0.N, win0_2.index t = ![near t.val 1, 1] := (by decide +kernel : ∀ t : Fin grid0.N, _)
theorem idx3 : ∀ t : Fin cfg0.N, win0_3.index t = ![near t.val 2, 1] := (by decide +kernel : ∀ t : Fin grid0.N, _)
theorem idx4 : ∀ t : Fin cfg0.N, win0_4.index t = ![near t.val 0, 2] := (by decide +kernel : ∀ t : Fin grid0.N, _)
theorem idx5 : ∀ t : Fin cfg0.N, win0_5.index t = ![near t.val 1, 2] := (by decide +kernel : ∀ t : Fin grid0.N, _)
theorem idx6 : ∀ t : Fin cfg0.N, win0_6.index t = ![near t.val 2, 2] := (by decide +kernel : ∀ t : Fin grid0.N, _)
theorem idx7 : ∀ t : Fin cfg0.N, win0_7.index t = ![min (place t.val) 2, 0, 0, 0] := (by decide +kernel : ∀ t : Fin grid0.N, _)
theorem idx8 : ∀ t : Fin cfg0.N, win0_8.index t = ![tile t.val, 0] := (by decide +kernel : ∀ t : Fin grid0.N, _)
theorem idx9 : ∀ t : Fin cfg0.N, win0_9.index t = ![tile t.val, 1] := (by decide +kernel : ∀ t : Fin grid0.N, _)
theorem idx10 : ∀ t : Fin cfg0.N, win0_10.index t = ![tile t.val, 2] := (by decide +kernel : ∀ t : Fin grid0.N, _)
theorem idx11 : ∀ t : Fin cfg0.N, win0_11.index t = ![tile t.val * 32 - 1, 1] := (by decide +kernel : ∀ t : Fin grid0.N, _)
theorem idx12 : ∀ t : Fin cfg0.N, win0_12.index t = ![tile t.val * 32 - 1, 2] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0, 0] := (by decide +kernel : ∀ t : Fin grid0.N, _)
theorem idx15 : ∀ t : Fin cfg0.N, win0_15.index t = ![t.val - 1, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![t.val - 1, 0] := (by decide +kernel : ∀ t : Fin grid0.N, _)

abbrev aA (c : Dev nD) : Goal.Conv := m ((c : Thread nD τ).loc main_arg0)
abbrev aQ (c : Dev nD) : Goal.Qkv := m ((c : Thread nD τ).loc main_arg1)
abbrev aX (c : Dev nD) : Goal.Hid := m ((c : Thread nD τ).loc main_arg2)
abbrev aG (c : Dev nD) : Goal.Gain := m ((c : Thread nD τ).loc main_arg3)
abbrev aC (c : Dev nD) : Goal.ConvW := m ((c : Thread nD τ).loc main_arg4)
abbrev aR (c : Dev nD) : Goal.Rel := m ((c : Thread nD τ).loc main_arg5)
abbrev aW (c : Dev nD) : Goal.OutW := m ((c : Thread nD τ).loc main_arg6)

theorem tile_lt (t : ℕ) : tile t < 64 := by unfold tile; omega
theorem near_lt (t k : ℕ) (hk : k ≤ 2) : near t k < 64 := by have := tile_lt t; unfold near place; omega

theorem view0 (X : S16384x3072.Idx → EReal) (t : Fin cfg0.N) (r : Fin 256) (k : Fin 1024) :
    ((cfg0.win 0).blk t).view.read (Elt Ideal) X (ix2 r k) = X (ix2 ⟨tile t.val * 256 + r.val, by have := tile_lt t.val; omega⟩ ⟨k.val, by omega⟩) := by
  blk_ext! [idx0 t]

theorem view1 (X : S16384x3072.Idx → EReal) (t : Fin cfg0.N) (r : Fin 256) (k : Fin 1024) :
    ((cfg0.win 1).blk t).view.read (Elt Ideal) X (ix2 r k) = X (ix2 ⟨near t.val 0 * 256 + r.val, by have := near_lt t.val 0 (by omega); omega⟩ ⟨1024 + k.val, by omega⟩) := by
  blk_ext! [idx1 t]

theorem view2 (X : S16384x3072.Idx → EReal) (t : Fin cfg0.N) (r : Fin 256) (k : Fin 1024) :
    ((cfg0.win 2).blk t).view.read (Elt Ideal) X (ix2 r k) = X (ix2 ⟨near t.val 1 * 256 + r.val, by have := near_lt t.val 1 (by omega); omega⟩ ⟨1024 + k.val, by omega⟩) := by
  blk_ext! [idx2 t]

theorem view3 (X : S16384x3072.Idx → EReal) (t : Fin cfg0.N) (r : Fin 256) (k : Fin 1024) :
    ((cfg0.win 3).blk t).view.read (Elt Ideal) X (ix2 r k) = X (ix2 ⟨near t.val 2 * 256 + r.val, by have := near_lt t.val 2 (by omega); omega⟩ ⟨1024 + k.val, by omega⟩) := by
  blk_ext! [idx3 t]

theorem view4 (X : S16384x3072.Idx → EReal) (t : Fin cfg0.N) (r : Fin 256) (k : Fin 1024) :
    ((cfg0.win 4).blk t).view.read (Elt Ideal) X (ix2 r k) = X (ix2 ⟨near t.val 0 * 256 + r.val, by have := near_lt t.val 0 (by omega); omega⟩ ⟨2048 + k.val, by omega⟩) := by
  blk_ext! [idx4 t]

theorem view5 (X : S16384x3072.Idx → EReal) (t : Fin cfg0.N) (r : Fin 256) (k : Fin 1024) :
    ((cfg0.win 5).blk t).view.read (Elt Ideal) X (ix2 r k) = X (ix2 ⟨near t.val 1 * 256 + r.val, by have := near_lt t.val 1 (by omega); omega⟩ ⟨2048 + k.val, by omega⟩) := by
  blk_ext! [idx5 t]

theorem view6 (X : S16384x3072.Idx → EReal) (t : Fin cfg0.N) (r : Fin 256) (k : Fin 1024) :
    ((cfg0.win 6).blk t).view.read (Elt Ideal) X (ix2 r k) = X (ix2 ⟨near t.val 2 * 256 + r.val, by have := near_lt t.val 2 (by omega); omega⟩ ⟨2048 + k.val, by omega⟩) := by
  blk_ext! [idx6 t]

theorem view7 (X : S3x8x256x768.Idx → EReal) (t : Fin cfg0.N) (h : Fin 8) (r : Fin 256) (j : Fin 768) :
    ((cfg0.win 7).blk t).view.read (Elt Ideal) X (ix4 0 h r j) = X (ix4 ⟨min (place t.val) 2, by omega⟩ h r j) := by
  blk_ext! [idx7 t]

theorem view8 (X : S16384x3072.Idx → EReal) (t : Fin cfg0.N) (r : Fin 256) (k : Fin 1024) :
    ((cfg0.win 8).blk t).view.read (Elt Ideal) X (ix2 r k) = X (ix2 ⟨tile t.val * 256 + r.val, by have := tile_lt t.val; omega⟩ ⟨0 + k.val, by omega⟩) := by
  blk_ext! [idx8 t]

theorem view9 (X : S16384x3072.Idx → EReal) (t : Fin cfg0.N) (r : Fin 256) (k : Fin 1024) :
    ((cfg0.win 9).blk t).view.read (Elt Ideal) X (ix2 r k) = X (ix2 ⟨tile t.val * 256 + r.val, by have := tile_lt t.val; omega⟩ ⟨1024 + k.val, by omega⟩) := by
  blk_ext! [idx9 t]

theorem view10 (X : S16384x3072.Idx → EReal) (t : Fin cfg0.N) (r : Fin 256) (k : Fin 1024) :
    ((cfg0.win 10).blk t).view.read (Elt Ideal) X (ix2 r k) = X (ix2 ⟨tile t.val * 256 + r.val, by have := tile_lt t.val; omega⟩ ⟨2048 + k.val, by omega⟩) := by
  blk_ext! [idx10 t]

theorem view11 (X : S16384x3072.Idx → EReal) (t : Fin cfg0.N) (r : Fin 8) (k : Fin 1024) :
    ((cfg0.win 11).blk t).view.read (Elt Ideal) X (ix2 r k) = X (ix2 ⟨(tile t.val * 32 - 1) * 8 + r.val, by have := tile_lt t.val; omega⟩ ⟨1024 + k.val, by omega⟩) := by
  blk_ext! [idx11 t]

theorem view12 (X : S16384x3072.Idx → EReal) (t : Fin cfg0.N) (r : Fin 8) (k : Fin 1024) :
    ((cfg0.win 12).blk t).view.read (Elt Ideal) X (ix2 r k) = X (ix2 ⟨(tile t.val * 32 - 1) * 8 + r.val, by have := tile_lt t.val; omega⟩ ⟨2048 + k.val, by omega⟩) := by
  blk_ext! [idx12 t]

theorem view13 (X : S3x1024.Idx → EReal) (t : Fin cfg0.N) (r : Fin 3) (k : Fin 1024) :
    ((cfg0.win 13).blk t).view.read (Elt Ideal) X (ix2 r k) = X (ix2 r k) := by
  blk_ext! [idx13 t]

theorem view14 (X : S1x2048x2048.Idx → EReal) (t : Fin cfg0.N) (r k : Fin 2048) :
    ((cfg0.win 14).blk t).view.read (Elt Ideal) X (ix3 0 r k) = X (ix3 0 r k) := by
  blk_ext! [idx14 t]

theorem view15 (X : S16384x2048.Idx → EReal) (t : Fin cfg0.N) (r : Fin 256) (k : Fin 2048) :
    ((cfg0.win 15).blk t).view.read (Elt Ideal) X (ix2 r k) = X (ix2 ⟨(t.val - 1) * 256 + r.val, by have : t.val < 65 := t.isLt; omega⟩ k) := by
  blk_ext! [idx15 t]

theorem view16 (X : S1x2048.Idx → EReal) (t : Fin cfg0.N) (k : Fin 2048) :
    ((cfg0.win 16).blk t).view.read (Elt Ideal) X (ix2 0 k) = X (ix2 0 k) := by
  blk_ext! [idx16 t]

theorem arrQ (c : Dev nD) (R : Fin 16384) (k : Fin 3072) : V m c main_v6 (ix2 R k) = aQ m c (ix3 ⟨R.val / 4096, by omega⟩ ⟨R.val % 4096, by omega⟩ k) := by
  unfold V
  after_reads_at

theorem arrA (c : Dev nD) (R : Fin 16384) (k : Fin 3072) : V m c main_v5 (ix2 R k) = aA m c (ix3 ⟨R.val / 4096, by omega⟩ ⟨R.val % 4096, by omega⟩ k) := by
  unfold V
  after_reads_at

theorem arrX (c : Dev nD) (R : Fin 16384) (k : Fin 2048) : V m c main_v1 (ix2 R k) = aX m c (ix3 ⟨R.val / 4096, by omega⟩ ⟨R.val % 4096, by omega⟩ k) := by
  unfold V
  after_reads_at

theorem arrC (c : Dev nD) (r : Fin 3) (k : Fin 1024) : V m c main_v7 (ix2 r k) = aC m c (ix3 0 r k) := by
  unfold V
  after_reads_at

theorem arrW (c : Dev nD) (r k : Fin 2048) : V m c main_v0 (ix3 0 r k) = aW m c (ix3 0 r k) := by
  unfold V
  after_reads_at

theorem arrG (c : Dev nD) (k : Fin 2048) : V m c main_v10 (ix2 0 k) = aG m c (ix3 0 1 k) := by
  unfold V
  after_reads_at

end Cert.Att.Blocks

end
-- ==== Proof.AttBias.lean ====
/- The bias table of the attention call: every query of a chunk takes the relative-position table at its distance from
   the key, the four chunks of a tile one chunk of keys apart. -/
module

public import proofs.«01_k».proof.Proof.AttGoal
public import proofs.«01_k».proof.Proof.Gen.KernelIdeal.Frame
public import Idealize.ShloMosaic.Lib.StableHlo.ReadAt
public import Idealize.ShloMosaic.Lib.Pipeline.ValueKit
public import Idealize.ShloMosaic.Lib.Tactic

@[expose] public section

set_option maxRecDepth 16384

noncomputable section

namespace Cert.Att.Bias

open Cert.KernelIdeal Cert.KernelIdeal.Gen Idealize.ShloMosaic Idealize.ShloMosaic.TcCoe Idealize.SL.Sem

variable (m : (ℓ : Loc nD τ sig) → Buf (Elt Ideal) ℓ)

theorem far (c : Dev nD) (h : Fin 8) (p : Fin 639) :
    V m c main_v15 (ix2 h p) = m ((c : Thread nD τ).loc main_arg5) (ix3 0 h ⟨min 319 (638 - p.val), by omega⟩) := by
  unfold V
  after_reads_at
  split
  · refine congrArg (m ((c : Thread nD τ).loc main_arg5)) (congrArg (ix3 0 h) (Fin.ext ?_))
    show 319 = min 319 (638 - p.val)
    omega
  · refine congrArg (m ((c : Thread nD τ).loc main_arg5)) (congrArg (ix3 0 h) (Fin.ext ?_))
    show 320 - (1 + (p.val - 320) + 1) = min 319 (638 - p.val)
    omega

end Cert.Att.Bias

end
-- ==== Proof.AttBiasRows.lean ====
/- The bias table of the attention call: every query of a chunk takes the relative-position table at its distance from
   the key, the four chunks of a tile one chunk of keys apart. -/
module

public import proofs.«01_k».proof.Proof.AttGoal
public import proofs.«01_k».proof.Proof.Gen.KernelIdeal.Frame
public import Idealize.ShloMosaic.Lib.StableHlo.ReadAt
public import Idealize.ShloMosaic.Lib.Pipeline.ValueKit
public import Idealize.ShloMosaic.Lib.Tactic

@[expose] public section

set_option maxRecDepth 16384

noncomputable section

namespace Cert.Att.Bias

open Cert.KernelIdeal Cert.KernelIdeal.Gen Idealize.ShloMosaic Idealize.ShloMosaic.TcCoe Idealize.SL.Sem

variable (m : (ℓ : Loc nD τ sig) → Buf (Elt Ideal) ℓ)

/-- A row of 576 entries from entry `o` on. -/
def pieceAt (W : FVec Ideal S8x639 .f32) (o : ℕ) (h : S8x639.Slices ![0, o] S8x576) : FVec Ideal S8x1x576 .f32 :=
  broadcastInDim S8x1x576 ![0, 2] bcast_S8x576_S8x1x576_0_2 (extractStridedSlice S8x576 ![0, o] W h)

def quarter0 (W : FVec Ideal S8x639 .f32) : FVec Ideal S8x16x576 .f32 :=
  concatenate S8x16x576 1 [⟨S8x1x576, pieceAt W 63 (by decide)⟩, ⟨S8x1x576, pieceAt W 62 (by decide)⟩, ⟨S8x1x576, pieceAt W 61 (by decide)⟩, ⟨S8x1x576, pieceAt W 60 (by decide)⟩, ⟨S8x1x576, pieceAt W 59 (by decide)⟩, ⟨S8x1x576, pieceAt W 58 (by decide)⟩, ⟨S8x1x576, pieceAt W 57 (by decide)⟩, ⟨S8x1x576, pieceAt W 56 (by decide)⟩, ⟨S8x1x576, pieceAt W 55 (by decide)⟩, ⟨S8x1x576, pieceAt W 54 (by decide)⟩, ⟨S8x1x576, pieceAt W 53 (by decide)⟩, ⟨S8x1x576, pieceAt W 52 (by decide)⟩, ⟨S8x1x576, pieceAt W 51 (by decide)⟩, ⟨S8x1x576, pieceAt W 50 (by decide)⟩, ⟨S8x1x576, pieceAt W 49 (by decide)⟩, ⟨S8x1x576, pieceAt W 48 (by decide)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

def quarter1 (W : FVec Ideal S8x639 .f32) : FVec Ideal S8x16x576 .f32 :=
  concatenate S8x16x576 1 [⟨S8x1x576, pieceAt W 47 (by decide)⟩, ⟨S8x1x576, pieceAt W 46 (by decide)⟩, ⟨S8x1x576, pieceAt W 45 (by decide)⟩, ⟨S8x1x576, pieceAt W 44 (by decide)⟩, ⟨S8x1x576, pieceAt W 43 (by decide)⟩, ⟨S8x1x576, pieceAt W 42 (by decide)⟩, ⟨S8x1x576, pieceAt W 41 (by decide)⟩, ⟨S8x1x576, pieceAt W 40 (by decide)⟩, ⟨S8x1x576, pieceAt W 39 (by decide)⟩, ⟨S8x1x576, pieceAt W 38 (by decide)⟩, ⟨S8x1x576, pieceAt W 37 (by decide)⟩, ⟨S8x1x576, pieceAt W 36 (by decide)⟩, ⟨S8x1x576, pieceAt W 35 (by decide)⟩, ⟨S8x1x576, pieceAt W 34 (by decide)⟩, ⟨S8x1x576, pieceAt W 33 (by decide)⟩, ⟨S8x1x576, pieceAt W 32 (by decide)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

def quarter2 (W : FVec Ideal S8x639 .f32) : FVec Ideal S8x16x576 .f32 :=
  concatenate S8x16x576 1 [⟨S8x1x576, pieceAt W 31 (by decide)⟩, ⟨S8x1x576, pieceAt W 30 (by decide)⟩, ⟨S8x1x576, pieceAt W 29 (by decide)⟩, ⟨S8x1x576, pieceAt W 28 (by decide)⟩, ⟨S8x1x576, pieceAt W 27 (by decide)⟩, ⟨S8x1x576, pieceAt W 26 (by decide)⟩, ⟨S8x1x576, pieceAt W 25 (by decide)⟩, ⟨S8x1x576, pieceAt W 24 (by decide)⟩, ⟨S8x1x576, pieceAt W 23 (by decide)⟩, ⟨S8x1x576, pieceAt W 22 (by decide)⟩, ⟨S8x1x576, pieceAt W 21 (by decide)⟩, ⟨S8x1x576, pieceAt W 20 (by decide)⟩, ⟨S8x1x576, pieceAt W 19 (by decide)⟩, ⟨S8x1x576, pieceAt W 18 (by decide)⟩, ⟨S8x1x576, pieceAt W 17 (by decide)⟩, ⟨S8x1x576, pieceAt W 16 (by decide)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

def quarter3 (W : FVec Ideal S8x639 .f32) : FVec Ideal S8x16x576 .f32 :=
  concatenate S8x16x576 1 [⟨S8x1x576, pieceAt W 15 (by decide)⟩, ⟨S8x1x576, pieceAt W 14 (by decide)⟩, ⟨S8x1x576, pieceAt W 13 (by decide)⟩, ⟨S8x1x576, pieceAt W 12 (by decide)⟩, ⟨S8x1x576, pieceAt W 11 (by decide)⟩, ⟨S8x1x576, pieceAt W 10 (by decide)⟩, ⟨S8x1x576, pieceAt W 9 (by decide)⟩, ⟨S8x1x576, pieceAt W 8 (by decide)⟩, ⟨S8x1x576, pieceAt W 7 (by decide)⟩, ⟨S8x1x576, pieceAt W 6 (by decide)⟩, ⟨S8x1x576, pieceAt W 5 (by decide)⟩, ⟨S8x1x576, pieceAt W 4 (by decide)⟩, ⟨S8x1x576, pieceAt W 3 (by decide)⟩, ⟨S8x1x576, pieceAt W 2 (by decide)⟩, ⟨S8x1x576, pieceAt W 1 (by decide)⟩, ⟨S8x1x576, pieceAt W 0 (by decide)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1

/-- What the host has in a buffer before its operation `n`. -/
abbrev up (c : Dev nD) (n : ℕ) (r : Ref sig .tc) : Buf (Elt Ideal) ((c : Thread nD τ).loc r) :=
  StableHlo.upto (List.flatten [hostOps0, hostOps0_1, hostOps0_2, hostOps0_3, hostOps0_4, hostOps0_5, hostOps0_6]) (fun b => m (c, b)) n (Proc.devRef .tc r)

end Cert.Att.Bias

end
-- ==== Proof.AttRows0.lean ====
/- The bias table of the attention call: every query of a chunk takes the relative-position table at its distance from
   the key, the four chunks of a tile one chunk of keys apart. -/
module

public import proofs.«01_k».proof.Proof.AttBiasRows
public import proofs.«01_k».proof.Proof.AttGoal
public import proofs.«01_k».proof.Proof.Gen.KernelIdeal.Frame
public import Idealize.ShloMosaic.Lib.StableHlo.ReadAt
public import Idealize.ShloMosaic.Lib.Pipeline.ValueKit
public import Idealize.ShloMosaic.Lib.Tactic

@[expose] public section

set_option maxRecDepth 16384

noncomputable section

namespace Cert.Att.Bias

open Cert.KernelIdeal Cert.KernelIdeal.Gen Idealize.ShloMosaic Idealize.ShloMosaic.TcCoe Idealize.SL.Sem

variable (m : (ℓ : Loc nD τ sig) → Buf (Elt Ideal) ℓ)

theorem quarter0_apply (W : FVec Ideal S8x639 .f32) (h : Fin 8) (q : Fin 16) (i : Fin 576) :
    quarter0 W (ix3 h q i) = W (ix2 h ⟨63 - (0 + q.val) + i.val, by omega⟩) := by
  unfold quarter0
  pointwise [pieceAt]
  fin_cases q <;> rfl

theorem row0 (c : Dev nD) : (up m c 147 main_v80 : FVec Ideal S8x1x576 .f32) = pieceAt (V m c main_v15) 63 (by decide) := by
  unfold V up
  after_reads_simp
  generalize StableHlo.upto _ _ _ = U
  unfold pieceAt
  rfl
theorem row1 (c : Dev nD) : (up m c 147 main_v81 : FVec Ideal S8x1x576 .f32) = pieceAt (V m c main_v15) 62 (by decide) := by
  unfold V up
  after_reads_simp
  generalize StableHlo.upto _ _ _ = U
  unfold pieceAt
  rfl
theorem row2 (c : Dev nD) : (up m c 147 main_v82 : FVec Ideal S8x1x576 .f32) = pieceAt (V m c main_v15) 61 (by decide) := by
  unfold V up
  after_reads_simp
  generalize StableHlo.upto _ _ _ = U
  unfold pieceAt
  rfl
theorem row3 (c : Dev nD) : (up m c 147 main_v83 : FVec Ideal S8x1x576 .f32) = pieceAt (V m c main_v15) 60 (by decide) := by
  unfold V up
  after_reads_simp
  generalize StableHlo.upto _ _ _ = U
  unfold pieceAt
  rfl
theorem row4 (c : Dev nD) : (up m c 147 main_v84 : FVec Ideal S8x1x576 .f32) = pieceAt (V m c main_v15) 59 (by decide) := by
  unfold V up
  after_reads_simp
  generalize StableHlo.upto _ _ _ = U
  unfold pieceAt
  rfl
theorem row5 (c : Dev nD) : (up m c 147 main_v85 : FVec Ideal S8x1x576 .f32) = pieceAt (V m c main_v15) 58 (by decide) := by
  unfold V up
  after_reads_simp
  generalize StableHlo.upto _ _ _ = U
  unfold pieceAt
  rfl
theorem row6 (c : Dev nD) : (up m c 147 main_v86 : FVec Ideal S8x1x576 .f32) = pieceAt (V m c main_v15) 57 (by decide) := by
  unfold V up
  after_reads_simp
  generalize StableHlo.upto _ _ _ = U
  unfold pieceAt
  rfl
theorem row7 (c : Dev nD) : (up m c 147 main_v87 : FVec Ideal S8x1x576 .f32) = pieceAt (V m c main_v15) 56 (by decide) := by
  unfold V up
  after_reads_simp
  generalize StableHlo.upto _ _ _ = U
  unfold pieceAt
  rfl
theorem row8 (c : Dev nD) : (up m c 147 main_v88 : FVec Ideal S8x1x576 .f32) = pieceAt (V m c main_v15) 55 (by decide) := by
  unfold V up
  after_reads_simp
  generalize StableHlo.upto _ _ _ = U
  unfold pieceAt
  rfl
theorem row9 (c : Dev nD) : (up m c 147 main_v89 : FVec Ideal S8x1x576 .f32) = pieceAt (V m c main_v15) 54 (by decide) := by
  unfold V up
  after_reads_simp
  generalize StableHlo.upto _ _ _ = U
  unfold pieceAt
  rfl
theorem row10 (c : Dev nD) : (up m c 147 main_v90 : FVec Ideal S8x1x576 .f32) = pieceAt (V m c main_v15) 53 (by decide) := by
  unfold V up
  after_reads_simp
  generalize StableHlo.upto _ _ _ = U
  unfold pieceAt
  rfl
theorem row11 (c : Dev nD) : (up m c 147 main_v91 : FVec Ideal S8x1x576 .f32) = pieceAt (V m c main_v15) 52 (by decide) := by
  unfold V up
  after_reads_simp
  generalize StableHlo.upto _ _ _ = U
  unfold pieceAt
  rfl
theorem row12 (c : Dev nD) : (up m c 147 main_v92 : FVec Ideal S8x1x576 .f32) = pieceAt (V m c main_v15) 51 (by decide) := by
  unfold V up
  after_reads_simp
  generalize StableHlo.upto _ _ _ = U
  unfold pieceAt
  rfl
theorem row13 (c : Dev nD) : (up m c 147 main_v93 : FVec Ideal S8x1x576 .f32) = pieceAt (V m c main_v15) 50 (by decide) := by
  unfold V up
  after_reads_simp
  generalize StableHlo.upto _ _ _ = U
  unfold pieceAt
  rfl
theorem row14 (c : Dev nD) : (up m c 147 main_v94 : FVec Ideal S8x1x576 .f32) = pieceAt (V m c main_v15) 49 (by decide) := by
  unfold V up
  after_reads_simp
  generalize StableHlo.upto _ _ _ = U
  unfold pieceAt
  rfl
theorem row15 (c : Dev nD) : (up m c 147 main_v95 : FVec Ideal S8x1x576 .f32) = pieceAt (V m c main_v15) 48 (by decide) := by
  unfold V up
  after_reads_simp
  generalize StableHlo.upto _ _ _ = U
  unfold pieceAt
  rfl
theorem q0_eq (c : Dev nD) : (V m c main_v144 : FVec Ideal S8x16x576 .f32) = quarter0 (V m c main_v15) := by
  have e0 := row0 m c
  have e1 := row1 m c
  have e2 := row2 m c
  have e3 := row3 m c
  have e4 := row4 m c
  have e5 := row5 m c
  have e6 := row6 m c
  have e7 := row7 m c
  have e8 := row8 m c
  have e9 := row9 m c
  have e10 := row10 m c
  have e11 := row11 m c
  have e12 := row12 m c
  have e13 := row13 m c
  have e14 := row14 m c
  have e15 := row15 m c
  generalize (V m c main_v15) = Y at *
  unfold V
  after_reads_simp
  unfold up at *
  generalize StableHlo.upto (List.flatten [hostOps0, hostOps0_1, hostOps0_2, hostOps0_3, hostOps0_4, hostOps0_5, hostOps0_6]) (fun b => m (c, b)) 147 = U at *
  show concatenate S8x16x576 1 [⟨S8x1x576, (U (Proc.devRef .tc main_v80) : FVec Ideal S8x1x576 .f32)⟩, ⟨S8x1x576, (U (Proc.devRef .tc main_v81) : FVec Ideal S8x1x576 .f32)⟩, ⟨S8x1x576, (U (Proc.devRef .tc main_v82) : FVec Ideal S8x1x576 .f32)⟩, ⟨S8x1x576, (U (Proc.devRef .tc main_v83) : FVec Ideal S8x1x576 .f32)⟩, ⟨S8x1x576, (U (Proc.devRef .tc main_v84) : FVec Ideal S8x1x576 .f32)⟩, ⟨S8x1x576, (U (Proc.devRef .tc main_v85) : FVec Ideal S8x1x576 .f32)⟩, ⟨S8x1x576, (U (Proc.devRef .tc main_v86) : FVec Ideal S8x1x576 .f32)⟩, ⟨S8x1x576, (U (Proc.devRef .tc main_v87) : FVec Ideal S8x1x576 .f32)⟩, ⟨S8x1x576, (U (Proc.devRef .tc main_v88) : FVec Ideal S8x1x576 .f32)⟩, ⟨S8x1x576, (U (Proc.devRef .tc main_v89) : FVec Ideal S8x1x576 .f32)⟩, ⟨S8x1x576, (U (Proc.devRef .tc main_v90) : FVec Ideal S8x1x576 .f32)⟩, ⟨S8x1x576, (U (Proc.devRef .tc main_v91) : FVec Ideal S8x1x576 .f32)⟩, ⟨S8x1x576, (U (Proc.devRef .tc main_v92) : FVec Ideal S8x1x576 .f32)⟩, ⟨S8x1x576, (U (Proc.devRef .tc main_v93) : FVec Ideal S8x1x576 .f32)⟩, ⟨S8x1x576, (U (Proc.devRef .tc main_v94) : FVec Ideal S8x1x576 .f32)⟩, ⟨S8x1x576, (U (Proc.devRef .tc main_v95) : FVec Ideal S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 = _
  rw [e0, e1, e2, e3, e4, e5, e6, e7, e8, e9, e10, e11, e12, e13, e14, e15]
  rfl

end Cert.Att.Bias

end
-- ==== Proof.AttRows1.lean ====
/- The bias table of the attention call: every query of a chunk takes the relative-position table at its distance from
   the key, the four chunks of a tile one chunk of keys apart. -/
module

public import proofs.«01_k».proof.Proof.AttBiasRows
public import proofs.«01_k».proof.Proof.AttGoal
public import proofs.«01_k».proof.Proof.Gen.KernelIdeal.Frame
public import Idealize.ShloMosaic.Lib.StableHlo.ReadAt
public import Idealize.ShloMosaic.Lib.Pipeline.ValueKit
public import Idealize.ShloMosaic.Lib.Tactic

@[expose] public section

set_option maxRecDepth 16384

noncomputable section

namespace Cert.Att.Bias

open Cert.KernelIdeal Cert.KernelIdeal.Gen Idealize.ShloMosaic Idealize.ShloMosaic.TcCoe Idealize.SL.Sem

variable (m : (ℓ : Loc nD τ sig) → Buf (Elt Ideal) ℓ)

theorem quarter1_apply (W : FVec Ideal S8x639 .f32) (h : Fin 8) (q : Fin 16) (i : Fin 576) :
    quarter1 W (ix3 h q i) = W (ix2 h ⟨63 - (16 + q.val) + i.val, by omega⟩) := by
  unfold quarter1
  pointwise [pieceAt]
  fin_cases q <;> rfl

theorem row16 (c : Dev nD) : (up m c 148 main_v96 : FVec Ideal S8x1x576 .f32) = pieceAt (V m c main_v15) 47 (by decide) := by
  unfold V up
  after_reads_simp
  generalize StableHlo.upto _ _ _ = U
  unfold pieceAt
  rfl
theorem row17 (c : Dev nD) : (up m c 148 main_v97 : FVec Ideal S8x1x576 .f32) = pieceAt (V m c main_v15) 46 (by decide) := by
  unfold V up
  after_reads_simp
  generalize StableHlo.upto _ _ _ = U
  unfold pieceAt
  rfl
theorem row18 (c : Dev nD) : (up m c 148 main_v98 : FVec Ideal S8x1x576 .f32) = pieceAt (V m c main_v15) 45 (by decide) := by
  unfold V up
  after_reads_simp
  generalize StableHlo.upto _ _ _ = U
  unfold pieceAt
  rfl
theorem row19 (c : Dev nD) : (up m c 148 main_v99 : FVec Ideal S8x1x576 .f32) = pieceAt (V m c main_v15) 44 (by decide) := by
  unfold V up
  after_reads_simp
  generalize StableHlo.upto _ _ _ = U
  unfold pieceAt
  rfl
theorem row20 (c : Dev nD) : (up m c 148 main_v100 : FVec Ideal S8x1x576 .f32) = pieceAt (V m c main_v15) 43 (by decide) := by
  unfold V up
  after_reads_simp
  generalize StableHlo.upto _ _ _ = U
  unfold pieceAt
  rfl
theorem row21 (c : Dev nD) : (up m c 148 main_v101 : FVec Ideal S8x1x576 .f32) = pieceAt (V m c main_v15) 42 (by decide) := by
  unfold V up
  after_reads_simp
  generalize StableHlo.upto _ _ _ = U
  unfold pieceAt
  rfl
theorem row22 (c : Dev nD) : (up m c 148 main_v102 : FVec Ideal S8x1x576 .f32) = pieceAt (V m c main_v15) 41 (by decide) := by
  unfold V up
  after_reads_simp
  generalize StableHlo.upto _ _ _ = U
  unfold pieceAt
  rfl
theorem row23 (c : Dev nD) : (up m c 148 main_v103 : FVec Ideal S8x1x576 .f32) = pieceAt (V m c main_v15) 40 (by decide) := by
  unfold V up
  after_reads_simp
  generalize StableHlo.upto _ _ _ = U
  unfold pieceAt
  rfl
theorem row24 (c : Dev nD) : (up m c 148 main_v104 : FVec Ideal S8x1x576 .f32) = pieceAt (V m c main_v15) 39 (by decide) := by
  unfold V up
  after_reads_simp
  generalize StableHlo.upto _ _ _ = U
  unfold pieceAt
  rfl
theorem row25 (c : Dev nD) : (up m c 148 main_v105 : FVec Ideal S8x1x576 .f32) = pieceAt (V m c main_v15) 38 (by decide) := by
  unfold V up
  after_reads_simp
  generalize StableHlo.upto _ _ _ = U
  unfold pieceAt
  rfl
theorem row26 (c : Dev nD) : (up m c 148 main_v106 : FVec Ideal S8x1x576 .f32) = pieceAt (V m c main_v15) 37 (by decide) := by
  unfold V up
  after_reads_simp
  generalize StableHlo.upto _ _ _ = U
  unfold pieceAt
  rfl
theorem row27 (c : Dev nD) : (up m c 148 main_v107 : FVec Ideal S8x1x576 .f32) = pieceAt (V m c main_v15) 36 (by decide) := by
  unfold V up
  after_reads_simp
  generalize StableHlo.upto _ _ _ = U
  unfold pieceAt
  rfl
theorem row28 (c : Dev nD) : (up m c 148 main_v108 : FVec Ideal S8x1x576 .f32) = pieceAt (V m c main_v15) 35 (by decide) := by
  unfold V up
  after_reads_simp
  generalize StableHlo.upto _ _ _ = U
  unfold pieceAt
  rfl
theorem row29 (c : Dev nD) : (up m c 148 main_v109 : FVec Ideal S8x1x576 .f32) = pieceAt (V m c main_v15) 34 (by decide) := by
  unfold V up
  after_reads_simp
  generalize StableHlo.upto _ _ _ = U
  unfold pieceAt
  rfl
theorem row30 (c : Dev nD) : (up m c 148 main_v110 : FVec Ideal S8x1x576 .f32) = pieceAt (V m c main_v15) 33 (by decide) := by
  unfold V up
  after_reads_simp
  generalize StableHlo.upto _ _ _ = U
  unfold pieceAt
  rfl
theorem row31 (c : Dev nD) : (up m c 148 main_v111 : FVec Ideal S8x1x576 .f32) = pieceAt (V m c main_v15) 32 (by decide) := by
  unfold V up
  after_reads_simp
  generalize StableHlo.upto _ _ _ = U
  unfold pieceAt
  rfl
theorem q1_eq (c : Dev nD) : (V m c main_v145 : FVec Ideal S8x16x576 .f32) = quarter1 (V m c main_v15) := by
  have e0 := row16 m c
  have e1 := row17 m c
  have e2 := row18 m c
  have e3 := row19 m c
  have e4 := row20 m c
  have e5 := row21 m c
  have e6 := row22 m c
  have e7 := row23 m c
  have e8 := row24 m c
  have e9 := row25 m c
  have e10 := row26 m c
  have e11 := row27 m c
  have e12 := row28 m c
  have e13 := row29 m c
  have e14 := row30 m c
  have e15 := row31 m c
  generalize (V m c main_v15) = Y at *
  unfold V
  after_reads_simp
  unfold up at *
  generalize StableHlo.upto (List.flatten [hostOps0, hostOps0_1, hostOps0_2, hostOps0_3, hostOps0_4, hostOps0_5, hostOps0_6]) (fun b => m (c, b)) 148 = U at *
  show concatenate S8x16x576 1 [⟨S8x1x576, (U (Proc.devRef .tc main_v96) : FVec Ideal S8x1x576 .f32)⟩, ⟨S8x1x576, (U (Proc.devRef .tc main_v97) : FVec Ideal S8x1x576 .f32)⟩, ⟨S8x1x576, (U (Proc.devRef .tc main_v98) : FVec Ideal S8x1x576 .f32)⟩, ⟨S8x1x576, (U (Proc.devRef .tc main_v99) : FVec Ideal S8x1x576 .f32)⟩, ⟨S8x1x576, (U (Proc.devRef .tc main_v100) : FVec Ideal S8x1x576 .f32)⟩, ⟨S8x1x576, (U (Proc.devRef .tc main_v101) : FVec Ideal S8x1x576 .f32)⟩, ⟨S8x1x576, (U (Proc.devRef .tc main_v102) : FVec Ideal S8x1x576 .f32)⟩, ⟨S8x1x576, (U (Proc.devRef .tc main_v103) : FVec Ideal S8x1x576 .f32)⟩, ⟨S8x1x576, (U (Proc.devRef .tc main_v104) : FVec Ideal S8x1x576 .f32)⟩, ⟨S8x1x576, (U (Proc.devRef .tc main_v105) : FVec Ideal S8x1x576 .f32)⟩, ⟨S8x1x576, (U (Proc.devRef .tc main_v106) : FVec Ideal S8x1x576 .f32)⟩, ⟨S8x1x576, (U (Proc.devRef .tc main_v107) : FVec Ideal S8x1x576 .f32)⟩, ⟨S8x1x576, (U (Proc.devRef .tc main_v108) : FVec Ideal S8x1x576 .f32)⟩, ⟨S8x1x576, (U (Proc.devRef .tc main_v109) : FVec Ideal S8x1x576 .f32)⟩, ⟨S8x1x576, (U (Proc.devRef .tc main_v110) : FVec Ideal S8x1x576 .f32)⟩, ⟨S8x1x576, (U (Proc.devRef .tc main_v111) : FVec Ideal S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 = _
  rw [e0, e1, e2, e3, e4, e5, e6, e7, e8, e9, e10, e11, e12, e13, e14, e15]
  rfl

end Cert.Att.Bias

end
-- ==== Proof.AttRows2.lean ====
/- The bias table of the attention call: every query of a chunk takes the relative-position table at its distance from
   the key, the four chunks of a tile one chunk of keys apart. -/
module

public import proofs.«01_k».proof.Proof.AttBiasRows
public import proofs.«01_k».proof.Proof.AttGoal
public import proofs.«01_k».proof.Proof.Gen.KernelIdeal.Frame
public import Idealize.ShloMosaic.Lib.StableHlo.ReadAt
public import Idealize.ShloMosaic.Lib.Pipeline.ValueKit
public import Idealize.ShloMosaic.Lib.Tactic

@[expose] public section

set_option maxRecDepth 16384

noncomputable section

namespace Cert.Att.Bias

open Cert.KernelIdeal Cert.KernelIdeal.Gen Idealize.ShloMosaic Idealize.ShloMosaic.TcCoe Idealize.SL.Sem

variable (m : (ℓ : Loc nD τ sig) → Buf (Elt Ideal) ℓ)

theorem quarter2_apply (W : FVec Ideal S8x639 .f32) (h : Fin 8) (q : Fin 16) (i : Fin 576) :
    quarter2 W (ix3 h q i) = W (ix2 h ⟨63 - (32 + q.val) + i.val, by omega⟩) := by
  unfold quarter2
  pointwise [pieceAt]
  fin_cases q <;> rfl

theorem row32 (c : Dev nD) : (up m c 149 main_v112 : FVec Ideal S8x1x576 .f32) = pieceAt (V m c main_v15) 31 (by decide) := by
  unfold V up
  after_reads_simp
  generalize StableHlo.upto _ _ _ = U
  unfold pieceAt
  rfl
theorem row33 (c : Dev nD) : (up m c 149 main_v113 : FVec Ideal S8x1x576 .f32) = pieceAt (V m c main_v15) 30 (by decide) := by
  unfold V up
  after_reads_simp
  generalize StableHlo.upto _ _ _ = U
  unfold pieceAt
  rfl
theorem row34 (c : Dev nD) : (up m c 149 main_v114 : FVec Ideal S8x1x576 .f32) = pieceAt (V m c main_v15) 29 (by decide) := by
  unfold V up
  after_reads_simp
  generalize StableHlo.upto _ _ _ = U
  unfold pieceAt
  rfl
theorem row35 (c : Dev nD) : (up m c 149 main_v115 : FVec Ideal S8x1x576 .f32) = pieceAt (V m c main_v15) 28 (by decide) := by
  unfold V up
  after_reads_simp
  generalize StableHlo.upto _ _ _ = U
  unfold pieceAt
  rfl
theorem row36 (c : Dev nD) : (up m c 149 main_v116 : FVec Ideal S8x1x576 .f32) = pieceAt (V m c main_v15) 27 (by decide) := by
  unfold V up
  after_reads_simp
  generalize StableHlo.upto _ _ _ = U
  unfold pieceAt
  rfl
theorem row37 (c : Dev nD) : (up m c 149 main_v117 : FVec Ideal S8x1x576 .f32) = pieceAt (V m c main_v15) 26 (by decide) := by
  unfold V up
  after_reads_simp
  generalize StableHlo.upto _ _ _ = U
  unfold pieceAt
  rfl
theorem row38 (c : Dev nD) : (up m c 149 main_v118 : FVec Ideal S8x1x576 .f32) = pieceAt (V m c main_v15) 25 (by decide) := by
  unfold V up
  after_reads_simp
  generalize StableHlo.upto _ _ _ = U
  unfold pieceAt
  rfl
theorem row39 (c : Dev nD) : (up m c 149 main_v119 : FVec Ideal S8x1x576 .f32) = pieceAt (V m c main_v15) 24 (by decide) := by
  unfold V up
  after_reads_simp
  generalize StableHlo.upto _ _ _ = U
  unfold pieceAt
  rfl
theorem row40 (c : Dev nD) : (up m c 149 main_v120 : FVec Ideal S8x1x576 .f32) = pieceAt (V m c main_v15) 23 (by decide) := by
  unfold V up
  after_reads_simp
  generalize StableHlo.upto _ _ _ = U
  unfold pieceAt
  rfl
theorem row41 (c : Dev nD) : (up m c 149 main_v121 : FVec Ideal S8x1x576 .f32) = pieceAt (V m c main_v15) 22 (by decide) := by
  unfold V up
  after_reads_simp
  generalize StableHlo.upto _ _ _ = U
  unfold pieceAt
  rfl
theorem row42 (c : Dev nD) : (up m c 149 main_v122 : FVec Ideal S8x1x576 .f32) = pieceAt (V m c main_v15) 21 (by decide) := by
  unfold V up
  after_reads_simp
  generalize StableHlo.upto _ _ _ = U
  unfold pieceAt
  rfl
theorem row43 (c : Dev nD) : (up m c 149 main_v123 : FVec Ideal S8x1x576 .f32) = pieceAt (V m c main_v15) 20 (by decide) := by
  unfold V up
  after_reads_simp
  generalize StableHlo.upto _ _ _ = U
  unfold pieceAt
  rfl
theorem row44 (c : Dev nD) : (up m c 149 main_v124 : FVec Ideal S8x1x576 .f32) = pieceAt (V m c main_v15) 19 (by decide) := by
  unfold V up
  after_reads_simp
  generalize StableHlo.upto _ _ _ = U
  unfold pieceAt
  rfl
theorem row45 (c : Dev nD) : (up m c 149 main_v125 : FVec Ideal S8x1x576 .f32) = pieceAt (V m c main_v15) 18 (by decide) := by
  unfold V up
  after_reads_simp
  generalize StableHlo.upto _ _ _ = U
  unfold pieceAt
  rfl
theorem row46 (c : Dev nD) : (up m c 149 main_v126 : FVec Ideal S8x1x576 .f32) = pieceAt (V m c main_v15) 17 (by decide) := by
  unfold V up
  after_reads_simp
  generalize StableHlo.upto _ _ _ = U
  unfold pieceAt
  rfl
theorem row47 (c : Dev nD) : (up m c 149 main_v127 : FVec Ideal S8x1x576 .f32) = pieceAt (V m c main_v15) 16 (by decide) := by
  unfold V up
  after_reads_simp
  generalize StableHlo.upto _ _ _ = U
  unfold pieceAt
  rfl
theorem q2_eq (c : Dev nD) : (V m c main_v146 : FVec Ideal S8x16x576 .f32) = quarter2 (V m c main_v15) := by
  have e0 := row32 m c
  have e1 := row33 m c
  have e2 := row34 m c
  have e3 := row35 m c
  have e4 := row36 m c
  have e5 := row37 m c
  have e6 := row38 m c
  have e7 := row39 m c
  have e8 := row40 m c
  have e9 := row41 m c
  have e10 := row42 m c
  have e11 := row43 m c
  have e12 := row44 m c
  have e13 := row45 m c
  have e14 := row46 m c
  have e15 := row47 m c
  generalize (V m c main_v15) = Y at *
  unfold V
  after_reads_simp
  unfold up at *
  generalize StableHlo.upto (List.flatten [hostOps0, hostOps0_1, hostOps0_2, hostOps0_3, hostOps0_4, hostOps0_5, hostOps0_6]) (fun b => m (c, b)) 149 = U at *
  show concatenate S8x16x576 1 [⟨S8x1x576, (U (Proc.devRef .tc main_v112) : FVec Ideal S8x1x576 .f32)⟩, ⟨S8x1x576, (U (Proc.devRef .tc main_v113) : FVec Ideal S8x1x576 .f32)⟩, ⟨S8x1x576, (U (Proc.devRef .tc main_v114) : FVec Ideal S8x1x576 .f32)⟩, ⟨S8x1x576, (U (Proc.devRef .tc main_v115) : FVec Ideal S8x1x576 .f32)⟩, ⟨S8x1x576, (U (Proc.devRef .tc main_v116) : FVec Ideal S8x1x576 .f32)⟩, ⟨S8x1x576, (U (Proc.devRef .tc main_v117) : FVec Ideal S8x1x576 .f32)⟩, ⟨S8x1x576, (U (Proc.devRef .tc main_v118) : FVec Ideal S8x1x576 .f32)⟩, ⟨S8x1x576, (U (Proc.devRef .tc main_v119) : FVec Ideal S8x1x576 .f32)⟩, ⟨S8x1x576, (U (Proc.devRef .tc main_v120) : FVec Ideal S8x1x576 .f32)⟩, ⟨S8x1x576, (U (Proc.devRef .tc main_v121) : FVec Ideal S8x1x576 .f32)⟩, ⟨S8x1x576, (U (Proc.devRef .tc main_v122) : FVec Ideal S8x1x576 .f32)⟩, ⟨S8x1x576, (U (Proc.devRef .tc main_v123) : FVec Ideal S8x1x576 .f32)⟩, ⟨S8x1x576, (U (Proc.devRef .tc main_v124) : FVec Ideal S8x1x576 .f32)⟩, ⟨S8x1x576, (U (Proc.devRef .tc main_v125) : FVec Ideal S8x1x576 .f32)⟩, ⟨S8x1x576, (U (Proc.devRef .tc main_v126) : FVec Ideal S8x1x576 .f32)⟩, ⟨S8x1x576, (U (Proc.devRef .tc main_v127) : FVec Ideal S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 = _
  rw [e0, e1, e2, e3, e4, e5, e6, e7, e8, e9, e10, e11, e12, e13, e14, e15]
  rfl

end Cert.Att.Bias

end
-- ==== Proof.AttRows3.lean ====
/- The bias table of the attention call: every query of a chunk takes the relative-position table at its distance from
   the key, the four chunks of a tile one chunk of keys apart. -/
module

public import proofs.«01_k».proof.Proof.AttBiasRows
public import proofs.«01_k».proof.Proof.AttGoal
public import proofs.«01_k».proof.Proof.Gen.KernelIdeal.Frame
public import Idealize.ShloMosaic.Lib.StableHlo.ReadAt
public import Idealize.ShloMosaic.Lib.Pipeline.ValueKit
public import Idealize.ShloMosaic.Lib.Tactic

@[expose] public section

set_option maxRecDepth 16384

noncomputable section

namespace Cert.Att.Bias

open Cert.KernelIdeal Cert.KernelIdeal.Gen Idealize.ShloMosaic Idealize.ShloMosaic.TcCoe Idealize.SL.Sem

variable (m : (ℓ : Loc nD τ sig) → Buf (Elt Ideal) ℓ)

theorem quarter3_apply (W : FVec Ideal S8x639 .f32) (h : Fin 8) (q : Fin 16) (i : Fin 576) :
    quarter3 W (ix3 h q i) = W (ix2 h ⟨63 - (48 + q.val) + i.val, by omega⟩) := by
  unfold quarter3
  pointwise [pieceAt]
  fin_cases q <;> first | rfl | exact congrArg W (congrArg (ix2 h) (Fin.ext (Nat.zero_add _).symm))

theorem row48 (c : Dev nD) : (up m c 150 main_v128 : FVec Ideal S8x1x576 .f32) = pieceAt (V m c main_v15) 15 (by decide) := by
  unfold V up
  after_reads_simp
  generalize StableHlo.upto _ _ _ = U
  unfold pieceAt
  rfl
theorem row49 (c : Dev nD) : (up m c 150 main_v129 : FVec Ideal S8x1x576 .f32) = pieceAt (V m c main_v15) 14 (by decide) := by
  unfold V up
  after_reads_simp
  generalize StableHlo.upto _ _ _ = U
  unfold pieceAt
  rfl
theorem row50 (c : Dev nD) : (up m c 150 main_v130 : FVec Ideal S8x1x576 .f32) = pieceAt (V m c main_v15) 13 (by decide) := by
  unfold V up
  after_reads_simp
  generalize StableHlo.upto _ _ _ = U
  unfold pieceAt
  rfl
theorem row51 (c : Dev nD) : (up m c 150 main_v131 : FVec Ideal S8x1x576 .f32) = pieceAt (V m c main_v15) 12 (by decide) := by
  unfold V up
  after_reads_simp
  generalize StableHlo.upto _ _ _ = U
  unfold pieceAt
  rfl
theorem row52 (c : Dev nD) : (up m c 150 main_v132 : FVec Ideal S8x1x576 .f32) = pieceAt (V m c main_v15) 11 (by decide) := by
  unfold V up
  after_reads_simp
  generalize StableHlo.upto _ _ _ = U
  unfold pieceAt
  rfl
theorem row53 (c : Dev nD) : (up m c 150 main_v133 : FVec Ideal S8x1x576 .f32) = pieceAt (V m c main_v15) 10 (by decide) := by
  unfold V up
  after_reads_simp
  generalize StableHlo.upto _ _ _ = U
  unfold pieceAt
  rfl
theorem row54 (c : Dev nD) : (up m c 150 main_v134 : FVec Ideal S8x1x576 .f32) = pieceAt (V m c main_v15) 9 (by decide) := by
  unfold V up
  after_reads_simp
  generalize StableHlo.upto _ _ _ = U
  unfold pieceAt
  rfl
theorem row55 (c : Dev nD) : (up m c 150 main_v135 : FVec Ideal S8x1x576 .f32) = pieceAt (V m c main_v15) 8 (by decide) := by
  unfold V up
  after_reads_simp
  generalize StableHlo.upto _ _ _ = U
  unfold pieceAt
  rfl
theorem row56 (c : Dev nD) : (up m c 150 main_v136 : FVec Ideal S8x1x576 .f32) = pieceAt (V m c main_v15) 7 (by decide) := by
  unfold V up
  after_reads_simp
  generalize StableHlo.upto _ _ _ = U
  unfold pieceAt
  rfl
theorem row57 (c : Dev nD) : (up m c 150 main_v137 : FVec Ideal S8x1x576 .f32) = pieceAt (V m c main_v15) 6 (by decide) := by
  unfold V up
  after_reads_simp
  generalize StableHlo.upto _ _ _ = U
  unfold pieceAt
  rfl
theorem row58 (c : Dev nD) : (up m c 150 main_v138 : FVec Ideal S8x1x576 .f32) = pieceAt (V m c main_v15) 5 (by decide) := by
  unfold V up
  after_reads_simp
  generalize StableHlo.upto _ _ _ = U
  unfold pieceAt
  rfl
theorem row59 (c : Dev nD) : (up m c 150 main_v139 : FVec Ideal S8x1x576 .f32) = pieceAt (V m c main_v15) 4 (by decide) := by
  unfold V up
  after_reads_simp
  generalize StableHlo.upto _ _ _ = U
  unfold pieceAt
  rfl
theorem row60 (c : Dev nD) : (up m c 150 main_v140 : FVec Ideal S8x1x576 .f32) = pieceAt (V m c main_v15) 3 (by decide) := by
  unfold V up
  after_reads_simp
  generalize StableHlo.upto _ _ _ = U
  unfold pieceAt
  rfl
theorem row61 (c : Dev nD) : (up m c 150 main_v141 : FVec Ideal S8x1x576 .f32) = pieceAt (V m c main_v15) 2 (by decide) := by
  unfold V up
  after_reads_simp
  generalize StableHlo.upto _ _ _ = U
  unfold pieceAt
  rfl
theorem row62 (c : Dev nD) : (up m c 150 main_v142 : FVec Ideal S8x1x576 .f32) = pieceAt (V m c main_v15) 1 (by decide) := by
  unfold V up
  after_reads_simp
  generalize StableHlo.upto _ _ _ = U
  unfold pieceAt
  rfl
theorem row63 (c : Dev nD) : (up m c 150 main_v143 : FVec Ideal S8x1x576 .f32) = pieceAt (V m c main_v15) 0 (by decide) := by
  unfold V up
  after_reads_simp
  generalize StableHlo.upto _ _ _ = U
  unfold pieceAt
  rfl
theorem q3_eq (c : Dev nD) : (V m c main_v147 : FVec Ideal S8x16x576 .f32) = quarter3 (V m c main_v15) := by
  have e0 := row48 m c
  have e1 := row49 m c
  have e2 := row50 m c
  have e3 := row51 m c
  have e4 := row52 m c
  have e5 := row53 m c
  have e6 := row54 m c
  have e7 := row55 m c
  have e8 := row56 m c
  have e9 := row57 m c
  have e10 := row58 m c
  have e11 := row59 m c
  have e12 := row60 m c
  have e13 := row61 m c
  have e14 := row62 m c
  have e15 := row63 m c
  generalize (V m c main_v15) = Y at *
  unfold V
  after_reads_simp
  unfold up at *
  generalize StableHlo.upto (List.flatten [hostOps0, hostOps0_1, hostOps0_2, hostOps0_3, hostOps0_4, hostOps0_5, hostOps0_6]) (fun b => m (c, b)) 150 = U at *
  show concatenate S8x16x576 1 [⟨S8x1x576, (U (Proc.devRef .tc main_v128) : FVec Ideal S8x1x576 .f32)⟩, ⟨S8x1x576, (U (Proc.devRef .tc main_v129) : FVec Ideal S8x1x576 .f32)⟩, ⟨S8x1x576, (U (Proc.devRef .tc main_v130) : FVec Ideal S8x1x576 .f32)⟩, ⟨S8x1x576, (U (Proc.devRef .tc main_v131) : FVec Ideal S8x1x576 .f32)⟩, ⟨S8x1x576, (U (Proc.devRef .tc main_v132) : FVec Ideal S8x1x576 .f32)⟩, ⟨S8x1x576, (U (Proc.devRef .tc main_v133) : FVec Ideal S8x1x576 .f32)⟩, ⟨S8x1x576, (U (Proc.devRef .tc main_v134) : FVec Ideal S8x1x576 .f32)⟩, ⟨S8x1x576, (U (Proc.devRef .tc main_v135) : FVec Ideal S8x1x576 .f32)⟩, ⟨S8x1x576, (U (Proc.devRef .tc main_v136) : FVec Ideal S8x1x576 .f32)⟩, ⟨S8x1x576, (U (Proc.devRef .tc main_v137) : FVec Ideal S8x1x576 .f32)⟩, ⟨S8x1x576, (U (Proc.devRef .tc main_v138) : FVec Ideal S8x1x576 .f32)⟩, ⟨S8x1x576, (U (Proc.devRef .tc main_v139) : FVec Ideal S8x1x576 .f32)⟩, ⟨S8x1x576, (U (Proc.devRef .tc main_v140) : FVec Ideal S8x1x576 .f32)⟩, ⟨S8x1x576, (U (Proc.devRef .tc main_v141) : FVec Ideal S8x1x576 .f32)⟩, ⟨S8x1x576, (U (Proc.devRef .tc main_v142) : FVec Ideal S8x1x576 .f32)⟩, ⟨S8x1x576, (U (Proc.devRef .tc main_v143) : FVec Ideal S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 = _
  rw [e0, e1, e2, e3, e4, e5, e6, e7, e8, e9, e10, e11, e12, e13, e14, e15]
  rfl

end Cert.Att.Bias

end
-- ==== Proof.AttBiasCat.lean ====
/- The bias table of the attention call, entry by entry. -/
module

public import proofs.«01_k».proof.Proof.AttBias
public import proofs.«01_k».proof.Proof.AttRows0
public import proofs.«01_k».proof.Proof.AttRows1
public import proofs.«01_k».proof.Proof.AttRows2
public import proofs.«01_k».proof.Proof.AttRows3

@[expose] public section

set_option maxRecDepth 16384

noncomputable section

namespace Cert.Att.Bias

open Cert.KernelIdeal Cert.KernelIdeal.Gen Idealize.ShloMosaic Idealize.ShloMosaic.TcCoe Idealize.SL.Sem

variable (m : (ℓ : Loc nD τ sig) → Buf (Elt Ideal) ℓ)

/-- An array of `-∞`. -/
def ninf (s : Shape) (h : S_.BroadcastsInDim s (![] : Fin 0 → Fin s.rank)) : FVec Ideal s .f32 := broadcastInDim s ![] h (constant S_ .f32 0xFF800000#32)

theorem join_eq (c : Dev nD) : (V m c main_v148 : FVec Ideal S8x64x576 .f32) = concatenate S8x64x576 1 [⟨S8x16x576, (V m c main_v144 : FVec Ideal S8x16x576 .f32)⟩, ⟨S8x16x576, (V m c main_v145 : FVec Ideal S8x16x576 .f32)⟩, ⟨S8x16x576, (V m c main_v146 : FVec Ideal S8x16x576 .f32)⟩, ⟨S8x16x576, (V m c main_v147 : FVec Ideal S8x16x576 .f32)⟩] concatenates_S8x16x576_S8x16x576_S8x16x576_S8x16x576_S8x64x576_d1 := by
  have e0 : (up m c 151 main_v144 : FVec Ideal S8x16x576 .f32) = V m c main_v144 := by
    unfold V up; after_reads_simp
  have e1 : (up m c 151 main_v145 : FVec Ideal S8x16x576 .f32) = V m c main_v145 := by
    unfold V up; after_reads_simp
  have e2 : (up m c 151 main_v146 : FVec Ideal S8x16x576 .f32) = V m c main_v146 := by
    unfold V up; after_reads_simp
  have e3 : (up m c 151 main_v147 : FVec Ideal S8x16x576 .f32) = V m c main_v147 := by
    unfold V up; after_reads_simp
  generalize (V m c main_v144) = Y0 at *
  generalize (V m c main_v145) = Y1 at *
  generalize (V m c main_v146) = Y2 at *
  generalize (V m c main_v147) = Y3 at *
  unfold V
  after_reads_simp
  unfold up at *
  generalize StableHlo.upto (List.flatten [hostOps0, hostOps0_1, hostOps0_2, hostOps0_3, hostOps0_4, hostOps0_5, hostOps0_6]) (fun b => m (c, b)) 151 = U at *
  show concatenate S8x64x576 1 [⟨S8x16x576, (U (Proc.devRef .tc main_v144) : FVec Ideal S8x16x576 .f32)⟩, ⟨S8x16x576, (U (Proc.devRef .tc main_v145) : FVec Ideal S8x16x576 .f32)⟩, ⟨S8x16x576, (U (Proc.devRef .tc main_v146) : FVec Ideal S8x16x576 .f32)⟩, ⟨S8x16x576, (U (Proc.devRef .tc main_v147) : FVec Ideal S8x16x576 .f32)⟩] concatenates_S8x16x576_S8x16x576_S8x16x576_S8x16x576_S8x64x576_d1 = _
  rw [e0, e1, e2, e3]

theorem pad0_eq (c : Dev nD) : (V m c main_v151 : FVec Ideal S8x64x768 .f32) = concatenate S8x64x768 2 [⟨S8x64x0, (ninf S8x64x0 bcast_S_S8x64x0)⟩, ⟨S8x64x576, (V m c main_v148 : FVec Ideal S8x64x576 .f32)⟩, ⟨S8x64x192, (ninf S8x64x192 bcast_S_S8x64x192)⟩] concatenates_S8x64x0_S8x64x576_S8x64x192_S8x64x768_d2 := by
  have e0 : (up m c 156 main_v149 : FVec Ideal S8x64x0 .f32) = (ninf S8x64x0 bcast_S_S8x64x0) := by
    unfold up ninf; after_reads_simp
  have e1 : (up m c 156 main_v148 : FVec Ideal S8x64x576 .f32) = V m c main_v148 := by
    unfold V up; after_reads_simp
  have e2 : (up m c 156 main_v150 : FVec Ideal S8x64x192 .f32) = (ninf S8x64x192 bcast_S_S8x64x192) := by
    unfold up ninf; after_reads_simp
  generalize (V m c main_v148) = Y1 at *
  unfold V
  after_reads_simp
  unfold up at *
  generalize StableHlo.upto (List.flatten [hostOps0, hostOps0_1, hostOps0_2, hostOps0_3, hostOps0_4, hostOps0_5, hostOps0_6]) (fun b => m (c, b)) 156 = U at *
  show concatenate S8x64x768 2 [⟨S8x64x0, (U (Proc.devRef .tc main_v149) : FVec Ideal S8x64x0 .f32)⟩, ⟨S8x64x576, (U (Proc.devRef .tc main_v148) : FVec Ideal S8x64x576 .f32)⟩, ⟨S8x64x192, (U (Proc.devRef .tc main_v150) : FVec Ideal S8x64x192 .f32)⟩] concatenates_S8x64x0_S8x64x576_S8x64x192_S8x64x768_d2 = _
  rw [e0, e1, e2]

theorem pad1_eq (c : Dev nD) : (V m c main_v154 : FVec Ideal S8x64x768 .f32) = concatenate S8x64x768 2 [⟨S8x64x64, (ninf S8x64x64 bcast_S_S8x64x64)⟩, ⟨S8x64x576, (V m c main_v148 : FVec Ideal S8x64x576 .f32)⟩, ⟨S8x64x128, (ninf S8x64x128 bcast_S_S8x64x128)⟩] concatenates_S8x64x64_S8x64x576_S8x64x128_S8x64x768_d2 := by
  have e0 : (up m c 161 main_v152 : FVec Ideal S8x64x64 .f32) = (ninf S8x64x64 bcast_S_S8x64x64) := by
    unfold up ninf; after_reads_simp
  have e1 : (up m c 161 main_v148 : FVec Ideal S8x64x576 .f32) = V m c main_v148 := by
    unfold V up; after_reads_simp
  have e2 : (up m c 161 main_v153 : FVec Ideal S8x64x128 .f32) = (ninf S8x64x128 bcast_S_S8x64x128) := by
    unfold up ninf; after_reads_simp
  generalize (V m c main_v148) = Y1 at *
  unfold V
  after_reads_simp
  unfold up at *
  generalize StableHlo.upto (List.flatten [hostOps0, hostOps0_1, hostOps0_2, hostOps0_3, hostOps0_4, hostOps0_5, hostOps0_6]) (fun b => m (c, b)) 161 = U at *
  show concatenate S8x64x768 2 [⟨S8x64x64, (U (Proc.devRef .tc main_v152) : FVec Ideal S8x64x64 .f32)⟩, ⟨S8x64x576, (U (Proc.devRef .tc main_v148) : FVec Ideal S8x64x576 .f32)⟩, ⟨S8x64x128, (U (Proc.devRef .tc main_v153) : FVec Ideal S8x64x128 .f32)⟩] concatenates_S8x64x64_S8x64x576_S8x64x128_S8x64x768_d2 = _
  rw [e0, e1, e2]

theorem pad2_eq (c : Dev nD) : (V m c main_v157 : FVec Ideal S8x64x768 .f32) = concatenate S8x64x768 2 [⟨S8x64x128, (ninf S8x64x128 bcast_S_S8x64x128)⟩, ⟨S8x64x576, (V m c main_v148 : FVec Ideal S8x64x576 .f32)⟩, ⟨S8x64x64, (ninf S8x64x64 bcast_S_S8x64x64)⟩] concatenates_S8x64x128_S8x64x576_S8x64x64_S8x64x768_d2 := by
  have e0 : (up m c 166 main_v155 : FVec Ideal S8x64x128 .f32) = (ninf S8x64x128 bcast_S_S8x64x128) := by
    unfold up ninf; after_reads_simp
  have e1 : (up m c 166 main_v148 : FVec Ideal S8x64x576 .f32) = V m c main_v148 := by
    unfold V up; after_reads_simp
  have e2 : (up m c 166 main_v156 : FVec Ideal S8x64x64 .f32) = (ninf S8x64x64 bcast_S_S8x64x64) := by
    unfold up ninf; after_reads_simp
  generalize (V m c main_v148) = Y1 at *
  unfold V
  after_reads_simp
  unfold up at *
  generalize StableHlo.upto (List.flatten [hostOps0, hostOps0_1, hostOps0_2, hostOps0_3, hostOps0_4, hostOps0_5, hostOps0_6]) (fun b => m (c, b)) 166 = U at *
  show concatenate S8x64x768 2 [⟨S8x64x128, (U (Proc.devRef .tc main_v155) : FVec Ideal S8x64x128 .f32)⟩, ⟨S8x64x576, (U (Proc.devRef .tc main_v148) : FVec Ideal S8x64x576 .f32)⟩, ⟨S8x64x64, (U (Proc.devRef .tc main_v156) : FVec Ideal S8x64x64 .f32)⟩] concatenates_S8x64x128_S8x64x576_S8x64x64_S8x64x768_d2 = _
  rw [e0, e1, e2]

theorem pad3_eq (c : Dev nD) : (V m c main_v160 : FVec Ideal S8x64x768 .f32) = concatenate S8x64x768 2 [⟨S8x64x192, (ninf S8x64x192 bcast_S_S8x64x192)⟩, ⟨S8x64x576, (V m c main_v148 : FVec Ideal S8x64x576 .f32)⟩, ⟨S8x64x0, (ninf S8x64x0 bcast_S_S8x64x0)⟩] concatenates_S8x64x192_S8x64x576_S8x64x0_S8x64x768_d2 := by
  have e0 : (up m c 171 main_v158 : FVec Ideal S8x64x192 .f32) = (ninf S8x64x192 bcast_S_S8x64x192) := by
    unfold up ninf; after_reads_simp
  have e1 : (up m c 171 main_v148 : FVec Ideal S8x64x576 .f32) = V m c main_v148 := by
    unfold V up; after_reads_simp
  have e2 : (up m c 171 main_v159 : FVec Ideal S8x64x0 .f32) = (ninf S8x64x0 bcast_S_S8x64x0) := by
    unfold up ninf; after_reads_simp
  generalize (V m c main_v148) = Y1 at *
  unfold V
  after_reads_simp
  unfold up at *
  generalize StableHlo.upto (List.flatten [hostOps0, hostOps0_1, hostOps0_2, hostOps0_3, hostOps0_4, hostOps0_5, hostOps0_6]) (fun b => m (c, b)) 171 = U at *
  show concatenate S8x64x768 2 [⟨S8x64x192, (U (Proc.devRef .tc main_v158) : FVec Ideal S8x64x192 .f32)⟩, ⟨S8x64x576, (U (Proc.devRef .tc main_v148) : FVec Ideal S8x64x576 .f32)⟩, ⟨S8x64x0, (U (Proc.devRef .tc main_v159) : FVec Ideal S8x64x0 .f32)⟩] concatenates_S8x64x192_S8x64x576_S8x64x0_S8x64x768_d2 = _
  rw [e0, e1, e2]

theorem stack_eq (c : Dev nD) : (V m c main_v161 : FVec Ideal S8x256x768 .f32) = concatenate S8x256x768 1 [⟨S8x64x768, (V m c main_v151 : FVec Ideal S8x64x768 .f32)⟩, ⟨S8x64x768, (V m c main_v154 : FVec Ideal S8x64x768 .f32)⟩, ⟨S8x64x768, (V m c main_v157 : FVec Ideal S8x64x768 .f32)⟩, ⟨S8x64x768, (V m c main_v160 : FVec Ideal S8x64x768 .f32)⟩] concatenates_S8x64x768_S8x64x768_S8x64x768_S8x64x768_S8x256x768_d1 := by
  have e0 : (up m c 172 main_v151 : FVec Ideal S8x64x768 .f32) = V m c main_v151 := by
    unfold V up; after_reads_simp
  have e1 : (up m c 172 main_v154 : FVec Ideal S8x64x768 .f32) = V m c main_v154 := by
    unfold V up; after_reads_simp
  have e2 : (up m c 172 main_v157 : FVec Ideal S8x64x768 .f32) = V m c main_v157 := by
    unfold V up; after_reads_simp
  have e3 : (up m c 172 main_v160 : FVec Ideal S8x64x768 .f32) = V m c main_v160 := by
    unfold V up; after_reads_simp
  generalize (V m c main_v151) = Y0 at *
  generalize (V m c main_v154) = Y1 at *
  generalize (V m c main_v157) = Y2 at *
  generalize (V m c main_v160) = Y3 at *
  unfold V
  after_reads_simp
  unfold up at *
  generalize StableHlo.upto (List.flatten [hostOps0, hostOps0_1, hostOps0_2, hostOps0_3, hostOps0_4, hostOps0_5, hostOps0_6]) (fun b => m (c, b)) 172 = U at *
  show concatenate S8x256x768 1 [⟨S8x64x768, (U (Proc.devRef .tc main_v151) : FVec Ideal S8x64x768 .f32)⟩, ⟨S8x64x768, (U (Proc.devRef .tc main_v154) : FVec Ideal S8x64x768 .f32)⟩, ⟨S8x64x768, (U (Proc.devRef .tc main_v157) : FVec Ideal S8x64x768 .f32)⟩, ⟨S8x64x768, (U (Proc.devRef .tc main_v160) : FVec Ideal S8x64x768 .f32)⟩] concatenates_S8x64x768_S8x64x768_S8x64x768_S8x64x768_S8x256x768_d1 = _
  rw [e0, e1, e2, e3]

theorem table_eq (c : Dev nD) : (V m c main_v168 : FVec Ideal S3x8x256x768 .f32) = concatenate S3x8x256x768 0 [⟨S1x8x256x768, (V m c main_v165 : FVec Ideal S1x8x256x768 .f32)⟩, ⟨S1x8x256x768, (V m c main_v166 : FVec Ideal S1x8x256x768 .f32)⟩, ⟨S1x8x256x768, (V m c main_v167 : FVec Ideal S1x8x256x768 .f32)⟩] concatenates_S1x8x256x768_S1x8x256x768_S1x8x256x768_S3x8x256x768_d0 := by
  have e0 : (up m c 191 main_v165 : FVec Ideal S1x8x256x768 .f32) = V m c main_v165 := by
    unfold V up; after_reads_simp
  have e1 : (up m c 191 main_v166 : FVec Ideal S1x8x256x768 .f32) = V m c main_v166 := by
    unfold V up; after_reads_simp
  have e2 : (up m c 191 main_v167 : FVec Ideal S1x8x256x768 .f32) = V m c main_v167 := by
    unfold V up; after_reads_simp
  generalize (V m c main_v165) = Y0 at *
  generalize (V m c main_v166) = Y1 at *
  generalize (V m c main_v167) = Y2 at *
  unfold V
  after_reads_simp
  unfold up at *
  generalize StableHlo.upto (List.flatten [hostOps0, hostOps0_1, hostOps0_2, hostOps0_3, hostOps0_4, hostOps0_5, hostOps0_6]) (fun b => m (c, b)) 191 = U at *
  show concatenate S3x8x256x768 0 [⟨S1x8x256x768, (U (Proc.devRef .tc main_v165) : FVec Ideal S1x8x256x768 .f32)⟩, ⟨S1x8x256x768, (U (Proc.devRef .tc main_v166) : FVec Ideal S1x8x256x768 .f32)⟩, ⟨S1x8x256x768, (U (Proc.devRef .tc main_v167) : FVec Ideal S1x8x256x768 .f32)⟩] concatenates_S1x8x256x768_S1x8x256x768_S1x8x256x768_S3x8x256x768_d0 = _
  rw [e0, e1, e2]

theorem mask0_eq (c : Dev nD) : (V m c main_v165 : FVec Ideal S1x8x256x768 .f32) = broadcastInDim S1x8x256x768 ![1, 2, 3] bcast_S8x256x768_S1x8x256x768_1_2_3
    (select (broadcastInDim S8x256x768 ![1, 2] bcast_S1x768_S8x256x768_1_2 (V m c main_c : IVec S1x768 1)) (V m c main_v161 : FVec Ideal S8x256x768 .f32) (ninf S8x256x768 bcast_S_S8x256x768)) := by
  unfold V ninf
  after_reads_simp
  simp -implicitDefEqProofs only [StableHlo.TRef.toBuf, StableHlo.TRef.ofBuf, cast_cast, cast_eq]
  generalize StableHlo.upto _ _ _ = U
  rfl

theorem mask1_eq (c : Dev nD) : (V m c main_v166 : FVec Ideal S1x8x256x768 .f32) = broadcastInDim S1x8x256x768 ![1, 2, 3] bcast_S8x256x768_S1x8x256x768_1_2_3
    (select (broadcastInDim S8x256x768 ![1, 2] bcast_S1x768_S8x256x768_1_2 (V m c main_c_0 : IVec S1x768 1)) (V m c main_v161 : FVec Ideal S8x256x768 .f32) (ninf S8x256x768 bcast_S_S8x256x768)) := by
  unfold V ninf
  after_reads_simp
  simp -implicitDefEqProofs only [StableHlo.TRef.toBuf, StableHlo.TRef.ofBuf, cast_cast, cast_eq]
  generalize StableHlo.upto _ _ _ = U
  rfl

theorem mask2_eq (c : Dev nD) : (V m c main_v167 : FVec Ideal S1x8x256x768 .f32) = broadcastInDim S1x8x256x768 ![1, 2, 3] bcast_S8x256x768_S1x8x256x768_1_2_3
    (select (broadcastInDim S8x256x768 ![1, 2] bcast_S1x768_S8x256x768_1_2 (V m c main_c_1 : IVec S1x768 1)) (V m c main_v161 : FVec Ideal S8x256x768 .f32) (ninf S8x256x768 bcast_S_S8x256x768)) := by
  unfold V ninf
  after_reads_simp
  simp -implicitDefEqProofs only [StableHlo.TRef.toBuf, StableHlo.TRef.ofBuf, cast_cast, cast_eq]
  generalize StableHlo.upto _ _ _ = U
  rfl

end Cert.Att.Bias

end
-- ==== Proof.AttBiasTop.lean ====
/- What the bias table holds: the relative-position bias inside a query's band of keys, `-∞` outside it and before the
   sequence's start. -/
module

public import proofs.«01_k».proof.Proof.AttBiasCat

@[expose] public section

set_option maxRecDepth 16384

noncomputable section

namespace Cert.Att.Bias

open Cert.KernelIdeal Cert.KernelIdeal.Gen Idealize.ShloMosaic Idealize.ShloMosaic.TcCoe Idealize.SL.Sem

theorem ofBits_ninf : Ideal.ofBits .f32 0xFF800000#32 = ⊥ := by
  simp [Ideal.ofBits, Ideal.ieee]

theorem joined_apply (W : FVec Ideal S8x639 .f32) (h : Fin 8) (q : Fin 64) (i : Fin 576) :
    concatenate S8x64x576 1 [⟨S8x16x576, quarter0 W⟩, ⟨S8x16x576, quarter1 W⟩, ⟨S8x16x576, quarter2 W⟩, ⟨S8x16x576, quarter3 W⟩]
      concatenates_S8x16x576_S8x16x576_S8x16x576_S8x16x576_S8x64x576_d1 (ix3 h q i) = W (ix2 h ⟨63 - q.val + i.val, by omega⟩) := by
  pointwise
  split_ifs <;> first
    | exact (quarter0_apply W h _ i).trans (congrArg W (congrArg (ix2 h) (Fin.ext (by dsimp only; omega))))
    | exact (quarter1_apply W h _ i).trans (congrArg W (congrArg (ix2 h) (Fin.ext (by dsimp only; omega))))
    | exact (quarter2_apply W h _ i).trans (congrArg W (congrArg (ix2 h) (Fin.ext (by dsimp only; omega))))
    | exact (quarter3_apply W h _ i).trans (congrArg W (congrArg (ix2 h) (Fin.ext (by dsimp only; omega))))

theorem ninf_apply (s : Shape) (h : S_.BroadcastsInDim s (![] : Fin 0 → Fin s.rank)) (i : s.Idx) : ninf s h i = ⊥ := ofBits_ninf

/-- A band `o` keys from the left. -/
def band (X : FVec Ideal S8x64x576 .f32) (o : ℕ) (h : Fin 8) (q : Fin 64) (j : Fin 768) : EReal :=
  if hj : o ≤ j.val ∧ j.val < o + 576 then X (ix3 h q ⟨j.val - o, by omega⟩) else ⊥

theorem band_in (X : FVec Ideal S8x64x576 .f32) {o : ℕ} {h : Fin 8} {q : Fin 64} {j : Fin 768} (hj : o ≤ j.val ∧ j.val < o + 576) :
    band X o h q j = X (ix3 h q ⟨j.val - o, by omega⟩) := dif_pos hj

theorem band_out (X : FVec Ideal S8x64x576 .f32) {o : ℕ} {h : Fin 8} {q : Fin 64} {j : Fin 768} (hj : ¬ (o ≤ j.val ∧ j.val < o + 576)) :
    band X o h q j = ⊥ := dif_neg hj

theorem pad0 (X : FVec Ideal S8x64x576 .f32) (h : Fin 8) (q : Fin 64) (j : Fin 768) :
    concatenate S8x64x768 2 [⟨S8x64x0, ninf S8x64x0 bcast_S_S8x64x0⟩, ⟨S8x64x576, X⟩, ⟨S8x64x192, ninf S8x64x192 bcast_S_S8x64x192⟩]
      concatenates_S8x64x0_S8x64x576_S8x64x192_S8x64x768_d2 (ix3 h q j) = band X 0 h q j := by
  pointwise [ninf_apply, band]
  split_ifs <;> first | rfl | omega

theorem pad1 (X : FVec Ideal S8x64x576 .f32) (h : Fin 8) (q : Fin 64) (j : Fin 768) :
    concatenate S8x64x768 2 [⟨S8x64x64, ninf S8x64x64 bcast_S_S8x64x64⟩, ⟨S8x64x576, X⟩, ⟨S8x64x128, ninf S8x64x128 bcast_S_S8x64x128⟩]
      concatenates_S8x64x64_S8x64x576_S8x64x128_S8x64x768_d2 (ix3 h q j) = band X 64 h q j := by
  pointwise [ninf_apply]
  by_cases h0 : j.val < 64
  · exact (dif_pos h0).trans (band_out X (show ¬ (64 ≤ j.val ∧ j.val < 64 + 576) by omega)).symm
  · refine (dif_neg h0).trans ?_
    by_cases h1 : j.val - 64 < 576
    · exact (dif_pos h1).trans (band_in X (show 64 ≤ j.val ∧ j.val < 64 + 576 by omega)).symm
    · exact (dif_neg h1).trans (band_out X (show ¬ (64 ≤ j.val ∧ j.val < 64 + 576) by omega)).symm

theorem pad2 (X : FVec Ideal S8x64x576 .f32) (h : Fin 8) (q : Fin 64) (j : Fin 768) :
    concatenate S8x64x768 2 [⟨S8x64x128, ninf S8x64x128 bcast_S_S8x64x128⟩, ⟨S8x64x576, X⟩, ⟨S8x64x64, ninf S8x64x64 bcast_S_S8x64x64⟩]
      concatenates_S8x64x128_S8x64x576_S8x64x64_S8x64x768_d2 (ix3 h q j) = band X 128 h q j := by
  pointwise [ninf_apply]
  by_cases h0 : j.val < 128
  · exact (dif_pos h0).trans (band_out X (show ¬ (128 ≤ j.val ∧ j.val < 128 + 576) by omega)).symm
  · refine (dif_neg h0).trans ?_
    by_cases h1 : j.val - 128 < 576
    · exact (dif_pos h1).trans (band_in X (show 128 ≤ j.val ∧ j.val < 128 + 576 by omega)).symm
    · exact (dif_neg h1).trans (band_out X (show ¬ (128 ≤ j.val ∧ j.val < 128 + 576) by omega)).symm

theorem pad3 (X : FVec Ideal S8x64x576 .f32) (h : Fin 8) (q : Fin 64) (j : Fin 768) :
    concatenate S8x64x768 2 [⟨S8x64x192, ninf S8x64x192 bcast_S_S8x64x192⟩, ⟨S8x64x576, X⟩, ⟨S8x64x0, ninf S8x64x0 bcast_S_S8x64x0⟩]
      concatenates_S8x64x192_S8x64x576_S8x64x0_S8x64x768_d2 (ix3 h q j) = band X 192 h q j := by
  pointwise [ninf_apply]
  by_cases h0 : j.val < 192
  · exact (dif_pos h0).trans (band_out X (show ¬ (192 ≤ j.val ∧ j.val < 192 + 576) by omega)).symm
  · refine (dif_neg h0).trans ?_
    by_cases h1 : j.val - 192 < 576
    · exact (dif_pos h1).trans (band_in X (show 192 ≤ j.val ∧ j.val < 192 + 576 by omega)).symm
    · exact (dif_neg h1).trans (band_out X (show ¬ (192 ≤ j.val ∧ j.val < 192 + 576) by omega)).symm

theorem stack_apply (A B C D : FVec Ideal S8x64x768 .f32) (h : Fin 8) (r : Fin 256) (j : Fin 768) :
    concatenate S8x256x768 1 [⟨S8x64x768, A⟩, ⟨S8x64x768, B⟩, ⟨S8x64x768, C⟩, ⟨S8x64x768, D⟩]
      concatenates_S8x64x768_S8x64x768_S8x64x768_S8x64x768_S8x256x768_d1 (ix3 h r j) =
    if r.val / 64 = 0 then A (ix3 h ⟨r.val % 64, by omega⟩ j) else if r.val / 64 = 1 then B (ix3 h ⟨r.val % 64, by omega⟩ j)
    else if r.val / 64 = 2 then C (ix3 h ⟨r.val % 64, by omega⟩ j) else D (ix3 h ⟨r.val % 64, by omega⟩ j) := by
  pointwise
  by_cases h0 : r.val < 64
  · refine (dif_pos h0).trans (Eq.trans ?_ (if_pos (by omega)).symm)
    exact congrArg A (congrArg (fun q => ix3 h q j) (Fin.ext (show r.val = r.val % 64 by omega)))
  · refine (dif_neg h0).trans (Eq.trans ?_ (if_neg (by omega)).symm)
    by_cases h1 : r.val - 64 < 64
    · refine (dif_pos h1).trans (Eq.trans ?_ (if_pos (by omega)).symm)
      exact congrArg B (congrArg (fun q => ix3 h q j) (Fin.ext (show r.val - 64 = r.val % 64 by omega)))
    · refine (dif_neg h1).trans (Eq.trans ?_ (if_neg (by omega)).symm)
      by_cases h2 : r.val - 64 - 64 < 64
      · refine (dif_pos h2).trans (Eq.trans ?_ (if_pos (by omega)).symm)
        exact congrArg C (congrArg (fun q => ix3 h q j) (Fin.ext (show r.val - 64 - 64 = r.val % 64 by omega)))
      · refine (dif_neg h2).trans (Eq.trans ?_ (if_neg (by omega)).symm)
        exact congrArg D (congrArg (fun q => ix3 h q j) (Fin.ext (show r.val - 64 - 64 - 64 = r.val % 64 by omega)))

variable (m : (ℓ : Loc nD τ sig) → Buf (Elt Ideal) ℓ)

theorem joined_bias (c : Dev nD) (h : Fin 8) (q : Fin 64) (i : Fin 576) :
    (V m c main_v148 : FVec Ideal S8x64x576 .f32) (ix3 h q i) = Cert.Goal.bias (m ((c : Thread nD τ).loc main_arg5)) h q i := by
  rw [join_eq, q0_eq, q1_eq, q2_eq, q3_eq]
  refine (joined_apply _ h q i).trans ((far m c h _).trans ?_)
  refine congrArg (m ((c : Thread nD τ).loc main_arg5)) (congrArg (ix3 0 h) (Fin.ext ?_))
  show min 319 (638 - (63 - q.val + i.val)) = min 319 (575 + q.val - i.val)
  omega

theorem stack_bias (c : Dev nD) (h : Fin 8) (r : Fin 256) (j : Fin 768) :
    (V m c main_v161 : FVec Ideal S8x256x768 .f32) (ix3 h r j) =
      if hj : 64 * (r.val / 64) ≤ j.val ∧ j.val < 64 * (r.val / 64) + 576 then
        Cert.Goal.bias (m ((c : Thread nD τ).loc main_arg5)) h ⟨r.val % 64, by omega⟩ ⟨j.val - 64 * (r.val / 64), by omega⟩ else ⊥ := by
  have key : (V m c main_v161 : FVec Ideal S8x256x768 .f32) (ix3 h r j) =
      band (V m c main_v148) (64 * (r.val / 64)) h ⟨r.val % 64, by omega⟩ j := by
    rw [stack_eq, pad0_eq, pad1_eq, pad2_eq, pad3_eq]
    refine (stack_apply _ _ _ _ h r j).trans ?_
    have hr : r.val / 64 < 4 := by omega
    split_ifs with h0 h1 h2
    · rw [h0]; exact pad0 _ h _ j
    · rw [h1]; exact pad1 _ h _ j
    · rw [h2]; exact pad2 _ h _ j
    · rw [show r.val / 64 = 3 by omega]; exact pad3 _ h _ j
  rw [key]
  unfold band
  split_ifs with hj
  · exact joined_bias m c h _ _
  · rfl

theorem table_apply (A B C : FVec Ideal S1x8x256x768 .f32) (p : Fin 3) (h : Fin 8) (r : Fin 256) (j : Fin 768) :
    concatenate S3x8x256x768 0 [⟨S1x8x256x768, A⟩, ⟨S1x8x256x768, B⟩, ⟨S1x8x256x768, C⟩]
      concatenates_S1x8x256x768_S1x8x256x768_S1x8x256x768_S3x8x256x768_d0 (ix4 p h r j) =
    if p.val = 0 then A (ix4 0 h r j) else if p.val = 1 then B (ix4 0 h r j) else C (ix4 0 h r j) := by
  pointwise
  by_cases h0 : p.val < 1
  · refine (dif_pos h0).trans (Eq.trans ?_ (if_pos (by omega)).symm)
    exact congrArg A (congrArg (fun q => ix4 q h r j) (Subsingleton.elim _ _))
  · refine (dif_neg h0).trans (Eq.trans ?_ (if_neg (by omega)).symm)
    by_cases h1 : p.val - 1 < 1
    · refine (dif_pos h1).trans (Eq.trans ?_ (if_pos (by omega)).symm)
      exact congrArg B (congrArg (fun q => ix4 q h r j) (Subsingleton.elim _ _))
    · refine (dif_neg h1).trans (Eq.trans ?_ (if_neg (by omega)).symm)
      exact congrArg C (congrArg (fun q => ix4 q h r j) (Subsingleton.elim _ _))

theorem mask0 (j : Fin 768) : lit0 j = if 512 ≤ j.val then 1#1 else 0#1 :=
  (by decide +kernel : ∀ j : Fin 768, lit0 j = if 512 ≤ j.val then 1#1 else 0#1) j

theorem mask1 (j : Fin 768) : lit1 j = if 256 ≤ j.val then 1#1 else 0#1 :=
  (by decide +kernel : ∀ j : Fin 768, lit1 j = if 256 ≤ j.val then 1#1 else 0#1) j

theorem masked_apply (M : IVec S1x768 1) (X : FVec Ideal S8x256x768 .f32) (h : Fin 8) (r : Fin 256) (j : Fin 768) :
    broadcastInDim S1x8x256x768 ![1, 2, 3] bcast_S8x256x768_S1x8x256x768_1_2_3
      (select (broadcastInDim S8x256x768 ![1, 2] bcast_S1x768_S8x256x768_1_2 M) X (ninf S8x256x768 bcast_S_S8x256x768)) (ix4 0 h r j) =
    if M (ix2 0 j) = 1#1 then X (ix3 h r j) else ⊥ := by
  pointwise [ninf_apply]
  rfl

theorem c_apply (c : Dev nD) (j : Fin 768) : (V m c main_c : IVec S1x768 1) (ix2 0 j) = lit0 j := by
  unfold V
  after_reads_at
  exact congrArg lit0 (Fin.ext ((by decide +kernel : ∀ j : Fin 768, (S1x768.rowMajor (ix2 0 j)).val = j.val) j))

theorem c0_apply (c : Dev nD) (j : Fin 768) : (V m c main_c_0 : IVec S1x768 1) (ix2 0 j) = lit1 j := by
  unfold V
  after_reads_at
  exact congrArg lit1 (Fin.ext ((by decide +kernel : ∀ j : Fin 768, (S1x768.rowMajor (ix2 0 j)).val = j.val) j))

theorem c1_apply (c : Dev nD) (j : Fin 768) : (V m c main_c_1 : IVec S1x768 1) (ix2 0 j) = 1#1 := by
  unfold V
  after_reads_at

/-- The bias a tile at place `P` of its sequence adds. -/
theorem bias_table (c : Dev nD) (P : ℕ) (h : Fin 8) (r : Fin 256) (j : Fin 768) :
    (V m c main_v168 : FVec Ideal S3x8x256x768 .f32) (ix4 ⟨min P 2, by omega⟩ h r j) =
      if hj : (64 * (r.val / 64) ≤ j.val ∧ j.val < 64 * (r.val / 64) + 576) ∧ 512 ≤ P * 256 + j.val then
        Cert.Goal.bias (m ((c : Thread nD τ).loc main_arg5)) h ⟨r.val % 64, by omega⟩ ⟨j.val - 64 * (r.val / 64), by omega⟩ else ⊥ := by
  rw [table_eq]
  refine (table_apply _ _ _ _ h r j).trans ?_
  rw [mask0_eq, mask1_eq, mask2_eq]
  rw [masked_apply, masked_apply, masked_apply, c_apply, c0_apply, c1_apply, mask0, mask1, stack_bias]
  have h0 : min P 2 = 0 → P = 0 := by omega
  have h1 : min P 2 = 1 → P = 1 := by omega
  have h2 : ¬ min P 2 = 0 → ¬ min P 2 = 1 → 2 ≤ P := by omega
  simp only []
  split_ifs <;> first | rfl | (exfalso; omega) | (exfalso; simp_all; done) | (exfalso; simp_all; omega)

end Cert.Att.Bias

end
-- ==== Proof.AttSpec.lean ====
/- What one step of the attention kernel computes from the blocks it is called with: the heads' outputs, the
   gated rows and the causal convolution over them, and the projection of the block carried from the step before. -/
module

public import proofs.«01_k».proof.Proof.Gen.KernelIdeal.Skeleton
public import Idealize.ShloMosaic.Lib.VecWindow
public import Idealize.ShloMosaic.Lib.WholeRead
public import Idealize.ShloMosaic.Lib.Pointwise
public import Idealize.ShloMosaic.Lib.Pipeline.ValueKit.Tiles

@[expose] public section

set_option maxRecDepth 16384

noncomputable section

namespace Cert.Att

open Cert.KernelIdeal Cert.KernelIdeal.Gen Idealize.ShloMosaic

variable {F : FTy → Type} [FloatOps F] [Named F]

/-- The 128 columns of head `h`. -/
def cols (h : Fin 8) (x : Vec F S256x1024 .bf16) : Vec F S256x128 .bf16 :=
  fun j => x (ix2 (j 0) (⟨128 * h.val + (j 1).val, by have : (j 1).val < 128 := (j 1).isLt; omega⟩ : Fin 1024))

/-- The bias rectangle of head `h`. -/
def biasOf (h : Fin 8) (x : Vec F S1x8x256x768 .f32) : Vec F S1x1x256x768 .f32 :=
  fun j => x (ix4 (0 : Fin 1) h (j 2) (j 3))

/-- The scores of head `h`. -/
def score (x1 x2 x3 x4 : Vec F S256x1024 .bf16) (x8 : Vec F S1x8x256x768 .f32) (h : Fin 8) : FVec F S256x768 .f32 :=
  k0_pay11 (cols h x1) (cols h x2) (cols h x3) (cols h x4) (biasOf h x8)

/-- The output of head `h`. -/
def head (x1 x2 x3 x4 x5 x6 x7 : Vec F S256x1024 .bf16) (x8 : Vec F S1x8x256x768 .f32) (h : Fin 8) : FVec F S1x256x128 .bf16 :=
  k0_pay25 (score x1 x2 x3 x4 x8 h) (k0_pay24 (cols h x5) (cols h x6) (cols h x7))

/-- The gated rows: eight rows before the block, then the block's. -/
def urows (a : BitVec 32) (x10 x11 : Vec F S256x1024 .f32) (x12 x13 : Vec F S8x1024 .f32) : Vec F S264x1024 .f32 :=
  fun j => if h : (j 0).val < 8 then k0_pay6 a x12 x13 (ix2 (⟨(j 0).val, h⟩ : Fin 8) (j 1))
    else k0_pay7 x10 x11 (ix2 (⟨(j 0).val - 8, by have : (j 0).val < 264 := (j 0).isLt; omega⟩ : Fin 256) (j 1))

/-- 256 gated rows from row `o` on. -/
def from_ (o : Fin 9) (u : Vec F S264x1024 .f32) : Vec F S256x1024 .f32 :=
  fun j => u (ix2 (⟨o.val + (j 0).val, by have : (j 0).val < 256 := (j 0).isLt; omega⟩ : Fin 264) (j 1))

/-- The convolution's half of the block. -/
def conv (a : BitVec 32) (x9 x10 x11 : Vec F S256x1024 .f32) (x12 x13 : Vec F S8x1024 .f32) (x14 : Vec F S3x1024 .f32) :
    FVec F S1x256x1024 .bf16 :=
  k0_pay8 x14 (from_ 6 (urows a x10 x11 x12 x13)) (from_ 7 (urows a x10 x11 x12 x13)) (from_ 8 (urows a x10 x11 x12 x13)) x9

/-- The block a step leaves for the next: the convolution in the first 1024 columns, then the eight heads. -/
def block (a : BitVec 32) (x1 x2 x3 x4 x5 x6 x7 : Vec F S256x1024 .bf16) (x8 : Vec F S1x8x256x768 .f32)
    (x9 x10 x11 : Vec F S256x1024 .f32) (x12 x13 : Vec F S8x1024 .f32) (x14 : Vec F S3x1024 .f32) : Vec F S1x256x2048 .bf16 :=
  fun j => if h : (j 2).val < 1024 then conv a x9 x10 x11 x12 x13 x14 (ix3 (0 : Fin 1) (j 1) (⟨(j 2).val, h⟩ : Fin 1024))
    else head x1 x2 x3 x4 x5 x6 x7 x8 ⟨((j 2).val - 1024) / 128, by have : (j 2).val < 2048 := (j 2).isLt; omega⟩
      (ix3 (0 : Fin 1) (j 1) (⟨((j 2).val - 1024) % 128, Nat.mod_lt _ (by norm_num)⟩ : Fin 128))

/-- Half `p` of the carried buffer. -/
def half (p : Fin 2) (y : Vec F S2x256x2048 .bf16) : Vec F S1x256x2048 .bf16 := fun j => y (ix3 p (j 1) (j 2))

/-- The projection stored into the output: of a carried block, added to the residual. -/
def proj (y : Vec F S1x256x2048 .bf16) (x15 : Vec F S1x2048x2048 .bf16) (x16 : Vec F S256x2048 .f32) (x17 : Vec F S1x2048 .f32) :
    FVec F S256x2048 .f32 := k0_pay5 (k0_pay3 x16) (k0_pay4 y x15 x17)

/-! The heads are one function, cut at different places. -/

theorem score0 (q k k' k'' : Vec F S256x128 .bf16) (b : Vec F S1x1x256x768 .f32) : k0_pay10 (k0_pay9 q k k' k'') b = k0_pay11 q k k' k'' b := rfl
theorem score2 (q k k' k'' : Vec F S256x128 .bf16) (b : Vec F S1x1x256x768 .f32) :
    k0_pay15 (k0_pay12 q) (k0_pay13 k) (k0_pay14 k') k'' b = k0_pay11 q k k' k'' b := rfl
theorem score3 (q k k' k'' : Vec F S256x128 .bf16) (b : Vec F S1x1x256x768 .f32) : k0_pay16 q k k' k'' b = k0_pay11 q k k' k'' b := rfl
theorem score4 (q k k' k'' : Vec F S256x128 .bf16) (b : Vec F S1x1x256x768 .f32) : k0_pay18 (k0_pay17 q) k k' k'' b = k0_pay11 q k k' k'' b := rfl
theorem score5 (q k k' k'' : Vec F S256x128 .bf16) (b : Vec F S1x1x256x768 .f32) : k0_pay19 q k k' k'' b = k0_pay11 q k k' k'' b := rfl
theorem score6 (q k k' k'' : Vec F S256x128 .bf16) (b : Vec F S1x1x256x768 .f32) : k0_pay20 q k k' k'' b = k0_pay11 q k k' k'' b := rfl
theorem score7 (q k k' k'' : Vec F S256x128 .bf16) (b : Vec F S1x1x256x768 .f32) : k0_pay22 (k0_pay21 q k k' k'') b = k0_pay11 q k k' k'' b := rfl
theorem head0 (s : FVec F S256x768 .f32) (v v' v'' : Vec F S256x128 .bf16) : k0_pay23 s v v' v'' = k0_pay25 s (k0_pay24 v v' v'') := rfl
theorem head2 (s : FVec F S256x768 .f32) (v v' v'' : Vec F S256x128 .bf16) : k0_pay26 s v v' v'' = k0_pay25 s (k0_pay24 v v' v'') := rfl
theorem head3 (s : FVec F S256x768 .f32) (v v' v'' : Vec F S256x128 .bf16) : k0_pay27 s v v' v'' = k0_pay25 s (k0_pay24 v v' v'') := rfl
theorem head4 (s : FVec F S256x768 .f32) (v v' v'' : Vec F S256x128 .bf16) : k0_pay29 (k0_pay28 s v v' v'') = k0_pay25 s (k0_pay24 v v' v'') := rfl
theorem head5 (s : FVec F S256x768 .f32) (v v' v'' : Vec F S256x128 .bf16) : k0_pay30 s v v' v'' = k0_pay25 s (k0_pay24 v v' v'') := rfl
theorem head6 (s : FVec F S256x768 .f32) (v v' v'' : Vec F S256x128 .bf16) : k0_pay33 s (k0_pay31 v) (k0_pay32 v') v'' = k0_pay25 s (k0_pay24 v v' v'') := rfl
theorem head7 (s : FVec F S256x768 .f32) (v v' v'' : Vec F S256x128 .bf16) : k0_pay1 (k0_pay34 s v v' v'') = k0_pay25 s (k0_pay24 v v' v'') := rfl

/-! Loads of a whole buffer held at given contents. -/

section Loads

variable {sig' : RefSig} {κ' : Kind} {sp : Space}

theorem load_cols (h : Fin 8) {m : Memref sig' κ' sp S256x1024 .bf16} (hm : m.IsWhole) (x : Vec F S256x1024 .bf16)
    {off : Fin 2 → ℕ} (ho : off = ![0, 128 * h.val]) (inb : ∀ a, off a + ![256, 128] a ≤ S256x1024.size a) :
    View.readAt (Elt F) m.view (Rect.unit (s := S256x1024) off ![256, 128] inb).toLoadRect (hm.unread x) = cols h x := by
  subst ho
  funext j
  rw [hm.readAt_unread]
  refine congrArg x (funext fun a => Fin.ext ((Rect.idx_unit_val _ _ inb j a).trans ?_))
  fin_cases a
  · exact Nat.zero_add _
  · rfl

theorem load_bias (h : Fin 8) {m : Memref sig' κ' sp S1x8x256x768 .f32} (hm : m.IsWhole) (x : Vec F S1x8x256x768 .f32)
    {off : Fin 4 → ℕ} (ho : off = ![0, h.val, 0, 0]) (inb : ∀ a, off a + ![1, 1, 256, 768] a ≤ S1x8x256x768.size a) :
    View.readAt (Elt F) m.view (Rect.unit (s := S1x8x256x768) off ![1, 1, 256, 768] inb).toLoadRect (hm.unread x) = biasOf h x := by
  subst ho
  funext j
  rw [hm.readAt_unread]
  refine congrArg x (funext fun a => Fin.ext ((Rect.idx_unit_val _ _ inb j a).trans ?_))
  have h0 : (j 0).val < 1 := (j 0).isLt
  have h1 : (j 1).val < 1 := (j 1).isLt
  fin_cases a
  · show 0 + (j 0).val = 0; omega
  · show h.val + (j 1).val = h.val; omega
  · exact Nat.zero_add _
  · exact Nat.zero_add _

theorem load_full {s : Shape} {e : EltTy} {m : Memref sig' κ' sp s e} (hm : m.IsWhole) (x : Vec F s e)
    {off : Fin s.rank → ℕ} (ho : off = fun _ => 0) (inb : ∀ a, off a + s.size a ≤ s.size a) :
    View.readAt (Elt F) m.view (Rect.unit off s.size inb).toLoadRect (hm.unread x) = x := by
  subst ho
  funext j
  rw [hm.readAt_unread]
  exact congrArg x (funext fun a => Fin.ext ((Rect.idx_unit_val _ _ inb j a).trans (Nat.zero_add _)))

end Loads

end Cert.Att

end
-- ==== Proof.AttPay.lean ====
/- What a step of the attention kernel computes, at an index, over the extended reals: the scores of a head, its
   softmax and weighted sum, the gated rows and their convolution, the projection. -/
module

public import proofs.«01_k».proof.Proof.AttSpec
public import proofs.«01_k».proof.Proof.Rms
public import Idealize.ShloMosaic.PureOps.IdealRules

@[expose] public section

set_option maxRecDepth 16384

noncomputable section

namespace Cert.Att

open Cert.KernelIdeal Cert.KernelIdeal.Gen Idealize.ShloMosaic Cert.Rows

/-- The scale of the scores and the factor of the bias. -/
def sc : EReal := (((Real.sqrt 128)⁻¹ * (Real.log 2)⁻¹ : ℝ) : EReal)
def l2e : EReal := (((Real.log 2)⁻¹ : ℝ) : EReal)

theorem named_sc : Named.named (F := Ideal) κ "scale" (φ := .f32) 0x3E0293EE#32 = sc := IdealRules.named_const.ideal_named_scalar _ _ _ _ rfl
theorem named_l2e : Named.named (F := Ideal) κ "log2_e" (φ := .f32) 0x3FB8AA3B#32 = l2e := IdealRules.named_const.ideal_named_scalar _ _ _ _ rfl

/-- Row `j` of three blocks of 256 rows, one below the other. -/
def cat3 (a b c : Vec Ideal S256x128 .bf16) (j : Fin 768) (d : Fin 128) : EReal :=
  if h : j.val < 256 then a (ix2 (⟨j.val, h⟩ : Fin 256) d)
  else if h' : j.val - 256 < 256 then b (ix2 (⟨j.val - 256, h'⟩ : Fin 256) d)
  else c (ix2 (⟨j.val - 256 - 256, by omega⟩ : Fin 256) d)

theorem pay11 (q k k' k'' : Vec Ideal S256x128 .bf16) (b : Vec Ideal S1x1x256x768 .f32) (r : Fin 256) (j : Fin 768) :
    k0_pay11 q k k' k'' b (ix2 r j) = (∑ d : Fin 128, q (ix2 r d) * sc * cat3 k k' k'' j d) + b (ix4 0 0 r j) * l2e := by
  pointwise [k0_pay11, named_sc, named_l2e, cat3]

theorem pay24_v (v v' v'' : Vec Ideal S256x128 .bf16) (j : Fin 768) (d : Fin 256) (hd : d.val < 128) :
    k0_pay24 v v' v'' (ix2 j d) = cat3 v v' v'' j ⟨d.val, hd⟩ := by
  pointwise [k0_pay24, cat3]
  rw [dif_pos hd]

theorem pay24_one (v v' v'' : Vec Ideal S256x128 .bf16) (j : Fin 768) (d : Fin 256) (hd : ¬d.val < 128) :
    k0_pay24 v v' v'' (ix2 j d) = 1 := by
  pointwise [k0_pay24]
  rw [dif_neg hd]

theorem ofBits_bot : Ideal.ofBits .f32 0xFF800000#32 = ⊥ := by
  simp [Ideal.ofBits, Ideal.ieee]

theorem exp2_eq (x : EReal) : FloatOps.exp2 (F := Ideal) (φ := .f32) x = Ideal.exp2 x := rfl

/-- The largest of a row of scores. -/
def top (s : Fin 768 → EReal) : EReal := Finset.univ.sup s

theorem pay25 (s : FVec Ideal S256x768 .f32) (v : FVec Ideal S768x256 .bf16) (r : Fin 256) (d : Fin 128) :
    k0_pay25 s v (ix3 0 r d) = Ideal.div (∑ j : Fin 768, Ideal.exp2 (s (ix2 r j) - top fun j => s (ix2 r j)) * v (ix2 j (⟨d.val, by omega⟩ : Fin 256)))
      (∑ j : Fin 768, Ideal.exp2 (s (ix2 r j) - top fun j => s (ix2 r j)) * v (ix2 j (128 : Fin 256))) := by
  pointwise [k0_pay25, top]
  simp only [show (4286578688#32) = 0xFF800000#32 from rfl, ofBits_bot]
  rfl

theorem pay4 (y : Vec Ideal S1x256x2048 .bf16) (w : Vec Ideal S1x2048x2048 .bf16) (g : Vec Ideal S1x2048 .f32) (r : Fin 256) (j : Fin 2048) :
    k0_pay4 y w g (ix2 r j) = rms (fun i => ∑ k : Fin 2048, y (ix3 0 r k) * w (ix3 0 k i)) (fun i => g (ix2 0 i)) j := by
  pointwise [k0_pay4, rms]

theorem proj_apply (y : Vec Ideal S1x256x2048 .bf16) (w : Vec Ideal S1x2048x2048 .bf16) (h : Vec Ideal S256x2048 .f32) (g : Vec Ideal S1x2048 .f32) (r : Fin 256) (j : Fin 2048) :
    proj y w h g (ix2 r j) = h (ix2 r j) + rms (fun i => ∑ k : Fin 2048, y (ix3 0 r k) * w (ix3 0 k i)) (fun i => g (ix2 0 i)) j := by
  pointwise [proj, k0_pay5, k0_pay3, pay4]

theorem pay7 (c h : Vec Ideal S256x1024 .f32) (r : Fin 256) (j : Fin 1024) : k0_pay7 c h (ix2 r j) = c (ix2 r j) * h (ix2 r j) := by
  pointwise [k0_pay7]

/-- The word that says whether the block begins a sequence, from the step's number. -/
def firstOf (a : BitVec 32) : BitVec 1 :=
  let v40 : BitVec 32 := Scalar.select (Scalar.cmpi .eq 16#32 0#32) 1#32 16#32
  let v41 : BitVec 32 := Scalar.remsi (Scalar.minsi a 63#32) v40
  Scalar.cmpi .eq (Scalar.select (Scalar.andi (Scalar.xori (Scalar.cmpi .slt v41 0#32) (Scalar.cmpi .slt v40 0#32))
    (Scalar.cmpi .ne v41 0#32)) (Scalar.addi v41 v40) v41) 0#32

theorem pay6 (a : ℕ) (ha : a < 65) (c h : Vec Ideal S8x1024 .f32) (r : Fin 8) (j : Fin 1024) :
    k0_pay6 (BitVec.ofNat 32 a) c h (ix2 r j) = if min a 63 % 16 = 0 then 0 else c (ix2 r j) * h (ix2 r j) := by
  have key : ∀ b : Fin 65, firstOf (BitVec.ofNat 32 b.val) = if min b.val 63 % 16 = 0 then 1#1 else 0#1 := by decide +kernel
  pointwise [k0_pay6]
  refine (congrArg (fun z => Scalar.select z 0 (c (ix2 r j) * h (ix2 r j))) (key ⟨a, ha⟩)).trans ?_
  show Scalar.select (if min a 63 % 16 = 0 then 1#1 else 0#1) _ _ = _
  split <;> rfl

theorem pay8 (w : Vec Ideal S3x1024 .f32) (u u' u'' b : Vec Ideal S256x1024 .f32) (r : Fin 256) (j : Fin 1024) :
    k0_pay8 w u u' u'' b (ix3 0 r j) = b (ix2 r j) * (w (ix2 0 j) * u (ix2 r j) + w (ix2 1 j) * u' (ix2 r j) + w (ix2 2 j) * u'' (ix2 r j)) := by
  pointwise [k0_pay8]

end Cert.Att

end
-- ==== Proof.AttMath.lean ====
/- The softmax of a row of scores, taken in base two on scores scaled by `1 / log 2` and normalized after the weighted
   sum, is the softmax in base `e` normalized before it; keys whose score is `-∞` weigh nothing. -/
module

public import Idealize.ShloMosaic.PureOps.Ideal

@[expose] public section

noncomputable section

namespace Cert.Att

open Idealize.ShloMosaic

/-- `1 / log 2`. -/
def L : ℝ := (Real.log 2)⁻¹

theorem L_pos : 0 < L := inv_pos.mpr (Real.log_pos (by norm_num))

theorem L_nonneg : (0 : EReal) ≤ (L : EReal) := by exact_mod_cast L_pos.le

/-- A score: a real, or `-∞` where the key is masked. -/
def IsScore (x : EReal) : Prop := x = ⊥ ∨ ∃ r : ℝ, x = r

/-- The weight of a score against the row's largest. -/
def weight (μ : ℝ) (x : EReal) : ℝ := if x = ⊥ then 0 else Real.exp (x.toReal - μ)

theorem weight_nonneg (μ : ℝ) (x : EReal) : 0 ≤ weight μ x := by
  unfold weight; split
  · exact le_rfl
  · exact (Real.exp_pos _).le

theorem exp_weight (μ : ℝ) {x : EReal} (hx : IsScore x) : Ideal.exp (x - (μ : EReal)) = (weight μ x : EReal) := by
  obtain rfl | ⟨r, rfl⟩ := hx
  · rw [EReal.bot_sub, weight, if_pos rfl]; rfl
  · rw [← EReal.coe_sub, weight, if_neg (EReal.coe_ne_bot r), EReal.toReal_coe]; rfl

theorem exp2_weight (μ : ℝ) {x : EReal} (hx : IsScore x) :
    Ideal.exp2 (x * (L : EReal) - (μ : EReal) * (L : EReal)) = (weight μ x : EReal) := by
  obtain rfl | ⟨r, rfl⟩ := hx
  · rw [EReal.bot_mul_coe_of_pos L_pos, ← EReal.coe_mul, EReal.bot_sub, weight, if_pos rfl]; rfl
  · rw [← EReal.coe_mul, ← EReal.coe_mul, ← EReal.coe_sub, weight, if_neg (EReal.coe_ne_bot r), EReal.toReal_coe]
    show ((Real.rpow 2 (r * L - μ * L) : ℝ) : EReal) = _
    congr 1
    show (2 : ℝ) ^ (r * L - μ * L) = _
    rw [Real.rpow_def_of_pos (by norm_num)]
    congr 1
    have h : Real.log 2 ≠ 0 := (Real.log_pos (by norm_num)).ne'
    unfold L
    field_simp

/-- The largest of a row that has a real score is real, and scaling by a positive real commutes with taking it. -/
theorem sup_real {n : ℕ} (x : Fin n → EReal) (hx : ∀ j, IsScore (x j)) (hr : ∃ (i : Fin n) (r : ℝ), x i = r) :
    ∃ μ : ℝ, Finset.univ.sup x = μ ∧ (∃ j, x j = μ) ∧ Finset.univ.sup (fun j => x j * (L : EReal)) = (μ : EReal) * (L : EReal) := by
  obtain ⟨i, r, hi⟩ := hr
  obtain ⟨j, -, hj⟩ := Finset.exists_mem_eq_sup Finset.univ ⟨i, Finset.mem_univ i⟩ x
  have hij : x i ≤ x j := hj ▸ Finset.le_sup (Finset.mem_univ i)
  obtain hb | ⟨μ, hμ⟩ := hx j
  · rw [hb, hi] at hij; exact absurd (le_bot_iff.mp hij) (EReal.coe_ne_bot r)
  · refine ⟨μ, hj.trans hμ, ⟨j, hμ⟩, le_antisymm (Finset.sup_le fun k _ => ?_) ?_⟩
    · rw [← hμ, ← hj]
      exact mul_le_mul_of_nonneg_right (Finset.le_sup (Finset.mem_univ k)) L_nonneg
    · rw [← hμ]
      exact Finset.le_sup (f := fun j => x j * (L : EReal)) (Finset.mem_univ j)

theorem sum_coe {ι : Type} (s : Finset ι) (w : ι → ℝ) : ((∑ i ∈ s, w i : ℝ) : EReal) = ∑ i ∈ s, (w i : EReal) := by
  classical
  induction s using Finset.induction_on with
  | empty => simp
  | insert a s ha ih => rw [Finset.sum_insert ha, Finset.sum_insert ha, EReal.coe_add, ih]

theorem sum_mul_coe {ι : Type} (s : Finset ι) (v : ι → EReal) {c : ℝ} (hc : 0 ≤ c) :
    (∑ i ∈ s, v i) * (c : EReal) = ∑ i ∈ s, v i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A sum over the 768 keys a step holds whose terms vanish off the band is the sum over the band. -/
theorem sum_band (f : Fin 576 → Fin 768) (hf : Function.Injective f) (t : Fin 768 → EReal)
    (ht : ∀ j, (∀ i, f i ≠ j) → t j = 0) : ∑ j, t j = ∑ i, t (f i) := by
  rw [← Finset.sum_image (s := Finset.univ) (g := f) (f := t) (fun a _ b _ h => hf h)]
  refine (Finset.sum_subset (Finset.subset_univ _) fun j _ hj => ht j fun i hi => hj ?_).symm
  exact Finset.mem_image.mpr ⟨i, Finset.mem_univ i, hi⟩

theorem softmax_row (x : Fin 768 → EReal) (xr : Fin 576 → EReal) (v : Fin 768 → EReal) (vr : Fin 576 → EReal)
    (f : Fin 576 → Fin 768) (hf : Function.Injective f) (hx : ∀ i, IsScore (xr i)) (hr : ∃ (i : Fin 576) (r : ℝ), xr i = r)
    (hfx : ∀ i, x (f i) = xr i) (hout : ∀ j, (∀ i, f i ≠ j) → x j = ⊥) (hv : ∀ i, xr i ≠ ⊥ → v (f i) = vr i) :
    Ideal.div (∑ j, Ideal.exp2 (x j * (L : EReal) - Finset.univ.sup fun j => x j * (L : EReal)) * v j)
        (∑ j, Ideal.exp2 (x j * (L : EReal) - Finset.univ.sup fun j => x j * (L : EReal)) * 1)
      = ∑ i, Ideal.div (Ideal.exp (xr i - Finset.univ.sup xr)) (∑ i', Ideal.exp (xr i' - Finset.univ.sup xr)) * vr i := by
  have hxs : ∀ j, IsScore (x j) := fun j => by
    by_cases h : ∀ i, f i ≠ j
    · exact .inl (hout j h)
    · push Not at h; obtain ⟨i, rfl⟩ := h; rw [hfx]; exact hx i
  obtain ⟨i₀, r₀, hi₀⟩ := hr
  obtain ⟨μ, hμ, ⟨j₀, hj₀⟩, hμL⟩ := sup_real x hxs ⟨f i₀, r₀, (hfx i₀).trans hi₀⟩
  have hsup : Finset.univ.sup xr = (μ : EReal) := by
    refine le_antisymm (Finset.sup_le fun i _ => ?_) ?_
    · rw [← hfx i, ← hμ]; exact Finset.le_sup (Finset.mem_univ _)
    · have : ∃ i, f i = j₀ := by
        by_contra h; push Not at h
        exact EReal.coe_ne_bot μ (hj₀.symm.trans (hout j₀ h))
      obtain ⟨i, hi⟩ := this
      rw [← hj₀, ← hi, hfx]; exact Finset.le_sup (Finset.mem_univ i)
  rw [hμL, hsup]
  simp only [exp2_weight μ (hxs _), exp_weight μ (hx _), mul_one]
  have hw0 : ∀ j, (∀ i, f i ≠ j) → weight μ (x j) = 0 := fun j h => by rw [hout j h, weight, if_pos rfl]
  rw [sum_band f hf (fun j => (weight μ (x j) : EReal) * v j) (fun j h => by show (weight μ (x j) : EReal) * v j = 0; rw [hw0 j h, EReal.coe_zero, zero_mul]),
    sum_band f hf (fun j => (weight μ (x j) : EReal)) (fun j h => by show (weight μ (x j) : EReal) = 0; rw [hw0 j h, EReal.coe_zero])]
  simp only [hfx]
  rw [← sum_coe]
  have hl : 0 < ∑ i, weight μ (xr i) := by
    refine Finset.sum_pos' (fun i _ => weight_nonneg μ _) ⟨i₀, Finset.mem_univ _, ?_⟩
    rw [weight, if_neg (by rw [hi₀]; exact EReal.coe_ne_bot r₀)]; exact Real.exp_pos _
  simp only [Ideal.div_coe hl.ne']
  rw [sum_mul_coe _ _ (one_div_pos.mpr hl).le]
  refine Finset.sum_congr rfl fun i _ => ?_
  by_cases h : xr i = ⊥
  · rw [h, weight, if_pos rfl, EReal.coe_zero, zero_mul, zero_mul, zero_mul]
  · rw [hv i h, mul_right_comm]

end Cert.Att

end
-- ==== Proof.AttHead.lean ====
/- One head of the attention call at one query: the kernel's row over its three key blocks is the reference's row over the
   band, once the keys, the values and the bias rectangle are known. -/
module

public import proofs.«01_k».proof.Proof.AttGoal
public import proofs.«01_k».proof.Proof.AttPay
public import proofs.«01_k».proof.Proof.AttMath

@[expose] public section

set_option maxRecDepth 16384

noncomputable section

namespace Cert.Att.Head

open Cert.KernelIdeal Cert.KernelIdeal.Gen Idealize.ShloMosaic Cert.Rows Cert.Att

theorem root_ne : Real.sqrt 128 ≠ 0 := (Real.sqrt_pos.mpr (by norm_num)).ne'

/-- A score in base two is the score times `1 / log 2`. -/
theorem scaled (x y : Fin 128 → ℝ) (b : ℝ) :
    (∑ d : Fin 128, (x d : EReal) * sc * (y d : EReal)) + (b : EReal) * l2e
      = (Ideal.div (∑ d : Fin 128, (x d : EReal) * (y d : EReal)) ((Real.sqrt 128 : ℝ) : EReal) + (b : EReal)) * ((L : ℝ) : EReal) := by
  rw [Ideal.div_coe root_ne]
  unfold sc l2e L
  simp only [← EReal.coe_mul, ← EReal.coe_add, ← sum_coe]
  congr 1
  rw [add_mul, Finset.sum_mul, Finset.sum_mul]
  congr 1
  refine Finset.sum_congr rfl fun d _ => ?_
  rw [one_div]
  ring

theorem score_real (x y : Fin 128 → ℝ) (b : ℝ) :
    ∃ z : ℝ, Ideal.div (∑ d : Fin 128, (x d : EReal) * (y d : EReal)) ((Real.sqrt 128 : ℝ) : EReal) + (b : EReal) = z := by
  refine ⟨(∑ d, x d * y d) * (1 / Real.sqrt 128) + b, ?_⟩
  rw [Ideal.div_coe root_ne]
  simp only [← EReal.coe_mul, ← EReal.coe_add, ← sum_coe]

theorem bot_scaled (x : EReal) : x + ⊥ * l2e = ⊥ := by
  unfold l2e
  rw [EReal.bot_mul_coe_of_pos (inv_pos.mpr (Real.log_pos (by norm_num))), EReal.add_bot]

/-- The row of scores in natural units over the three key blocks. -/
def wide (sco : Fin 576 → EReal) (o : ℕ) (j : Fin 768) : EReal :=
  if hj : o ≤ j.val ∧ j.val < o + 576 then sco ⟨j.val - o, by omega⟩ else ⊥

/-- What is asked of the two arrays that the scores read. -/
def RealArgs (q : Goal.Qkv) (rb : Goal.Rel) : Prop :=
  (∀ (b : Fin 4) (s : Fin 4096) (k : Fin 3072), k.val < 2048 → ∃ z : ℝ, q (ix3 b s k) = (z : EReal)) ∧ ∀ (h : Fin 8) (k : Fin 320), ∃ z : ℝ, rb (ix3 0 h k) = (z : EReal)

variable (q : Goal.Qkv) (rb : Goal.Rel)

theorem goal_score_real (hr : RealArgs q rb) (b : Fin 4) (s : Fin 4096) (h : Fin 8) (i : Fin 576) (hi : 512 ≤ 64 * (s.val / 64) + i.val) :
    ∃ z : ℝ, Goal.score q rb b s h i = z := by
  unfold Goal.score
  rw [dif_pos hi]
  unfold Goal.dots Goal.bias
  choose f hf using hr.1
  choose g hg using hr.2
  simp only [hg]
  rw [Finset.sum_congr rfl fun d _ => congrArg₂ (· * ·) (hf b s ⟨128 * h.val + d.val, by omega⟩ (by dsimp only; omega))
    (hf b ⟨64 * (s.val / 64) + i.val - 512, by omega⟩ ⟨1024 + (128 * h.val + d.val), by omega⟩ (by dsimp only; omega))]
  exact score_real _ _ _

theorem head_apply (hr : RealArgs q rb) (b : Fin 4) (s : Fin 4096) (h : Fin 8) (d : Fin 128) (r : Fin 256) (hs : s.val % 256 = r.val)
    (x1 x2 x3 x4 x5 x6 x7 : Vec Ideal S256x1024 .bf16) (x8 : Vec Ideal S1x8x256x768 .f32)
    (hq : ∀ d : Fin 128, cols h x1 (ix2 r d) = q (ix3 b s ⟨128 * h.val + d.val, by omega⟩))
    (hk : ∀ (j : Fin 768) (d : Fin 128), 512 ≤ s.val / 256 * 256 + j.val → cat3 (cols h x2) (cols h x3) (cols h x4) j d
      = q (ix3 b ⟨min (s.val / 256 * 256 + j.val - 512) 4095, by omega⟩ ⟨1024 + (128 * h.val + d.val), by omega⟩))
    (hv : ∀ (j : Fin 768) (d : Fin 128), 512 ≤ s.val / 256 * 256 + j.val → cat3 (cols h x5) (cols h x6) (cols h x7) j d
      = q (ix3 b ⟨min (s.val / 256 * 256 + j.val - 512) 4095, by omega⟩ ⟨2048 + (128 * h.val + d.val), by omega⟩))
    (hb : ∀ j : Fin 768, x8 (ix4 0 h r j) = if hj : (64 * (r.val / 64) ≤ j.val ∧ j.val < 64 * (r.val / 64) + 576) ∧ 512 ≤ s.val / 256 * 256 + j.val
      then Goal.bias rb h ⟨r.val % 64, by omega⟩ ⟨j.val - 64 * (r.val / 64), by omega⟩ else ⊥) :
    head x1 x2 x3 x4 x5 x6 x7 x8 h (ix3 0 r d) = Goal.attend (Goal.score q rb b s h) (Goal.val q b s h d) := by
  have key : ∀ j : Fin 768, score x1 x2 x3 x4 x8 h (ix2 r j) = wide (Goal.score q rb b s h) (64 * (r.val / 64)) j * ((L : ℝ) : EReal) := by
    intro j
    unfold score
    rw [pay11, show biasOf h x8 (ix4 0 0 r j) = x8 (ix4 0 h r j) from rfl, hb j]
    unfold wide
    by_cases h1 : 64 * (r.val / 64) ≤ j.val ∧ j.val < 64 * (r.val / 64) + 576
    · rw [dif_pos h1]
      by_cases h2 : 512 ≤ s.val / 256 * 256 + j.val
      · rw [dif_pos ⟨h1, h2⟩]
        unfold Goal.score
        rw [dif_pos (show 512 ≤ 64 * (s.val / 64) + (j.val - 64 * (r.val / 64)) by omega)]
        have e1 : (⟨64 * (s.val / 64) + (j.val - 64 * (r.val / 64)) - 512, by omega⟩ : Fin 4096) = ⟨min (s.val / 256 * 256 + j.val - 512) 4095, by omega⟩ := Fin.ext (by dsimp only; omega)
        have e2 : (⟨s.val % 64, by omega⟩ : Fin 64) = ⟨r.val % 64, by omega⟩ := Fin.ext (by dsimp only; omega)
        dsimp only
        rw [e1, e2]
        unfold Goal.dots Goal.bias
        choose X hX using fun d : Fin 128 => hr.1 b s ⟨128 * h.val + d.val, by omega⟩ (by dsimp only; omega)
        choose Y hY using fun d : Fin 128 => hr.1 b ⟨min (s.val / 256 * 256 + j.val - 512) 4095, by omega⟩ ⟨1024 + (128 * h.val + d.val), by omega⟩ (by dsimp only; omega)
        choose g hg using hr.2
        simp only [hg]
        have e3 : (∑ d : Fin 128, cols h x1 (ix2 r d) * sc * cat3 (cols h x2) (cols h x3) (cols h x4) j d) = ∑ d : Fin 128, (X d : EReal) * sc * (Y d : EReal) :=
          Finset.sum_congr rfl fun d _ => by rw [hq d, hk j d h2, hX d, hY d]
        rw [e3, Finset.sum_congr rfl fun d _ => congrArg₂ (fun y z : EReal => y * z) (hX d) (hY d)]
        exact scaled X Y _
      · rw [dif_neg (fun hh => h2 hh.2), bot_scaled]
        unfold Goal.score
        rw [dif_neg (show ¬ 512 ≤ 64 * (s.val / 64) + (j.val - 64 * (r.val / 64)) by omega), EReal.bot_mul_coe_of_pos L_pos]
    · rw [dif_neg (fun hh => h1 hh.1), dif_neg h1, bot_scaled, EReal.bot_mul_coe_of_pos L_pos]
  unfold head
  rw [pay25]
  simp only [key]
  rw [Finset.sum_congr rfl fun j _ => congrArg (fun z : EReal => Ideal.exp2 (wide (Goal.score q rb b s h) (64 * (r.val / 64)) j * ((L : ℝ) : EReal) - top fun j => wide (Goal.score q rb b s h) (64 * (r.val / 64)) j * ((L : ℝ) : EReal)) * z)
      (pay24_v (cols h x5) (cols h x6) (cols h x7) j ⟨d.val, by omega⟩ d.isLt),
    Finset.sum_congr rfl fun j _ => congrArg (fun z : EReal => Ideal.exp2 (wide (Goal.score q rb b s h) (64 * (r.val / 64)) j * ((L : ℝ) : EReal) - top fun j => wide (Goal.score q rb b s h) (64 * (r.val / 64)) j * ((L : ℝ) : EReal)) * z)
      (pay24_one (cols h x5) (cols h x6) (cols h x7) j 128 (by decide))]
  refine softmax_row (wide (Goal.score q rb b s h) (64 * (r.val / 64))) (Goal.score q rb b s h) (fun j => cat3 (cols h x5) (cols h x6) (cols h x7) j d) (Goal.val q b s h d)
    (fun i => ⟨64 * (r.val / 64) + i.val, by omega⟩) ?_ ?_ ?_ ?_ ?_ ?_
  · intro i i' e
    have := congrArg Fin.val e
    dsimp only at this
    exact Fin.ext (by omega)
  · intro i
    by_cases hi : 512 ≤ 64 * (s.val / 64) + i.val
    · exact .inr (goal_score_real q rb hr b s h i hi)
    · exact .inl (by unfold Goal.score; rw [dif_neg hi])
  · obtain ⟨z, hz⟩ := goal_score_real q rb hr b s h ⟨575, by norm_num⟩ (by dsimp only; omega)
    exact ⟨_, z, hz⟩
  · intro i
    unfold wide
    rw [dif_pos (by dsimp only; omega)]
    exact congrArg _ (Fin.ext (by dsimp only; omega))
  · intro j hj
    unfold wide
    by_cases h1 : 64 * (r.val / 64) ≤ j.val ∧ j.val < 64 * (r.val / 64) + 576
    · exact absurd (Fin.ext (by dsimp only; omega)) (hj ⟨j.val - 64 * (r.val / 64), by omega⟩)
    · rw [dif_neg h1]
  · intro i hi
    have hi' : 512 ≤ 64 * (s.val / 64) + i.val := by
      by_contra hn
      exact hi (by unfold Goal.score; rw [dif_neg hn])
    unfold Goal.val
    rw [dif_pos hi']
    rw [hv ⟨64 * (r.val / 64) + i.val, by omega⟩ d (by dsimp only; omega)]
    exact congrArg q (congrArg (fun p => ix3 b p _) (Fin.ext (by dsimp only; omega)))

end Cert.Att.Head

end
-- ==== Proof.AttRunB.lean ====
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's branch: the step is the first. -/
abbrev firstStep (i : grid0.Coords) : Prop :=
  Scalar.cmpi .ne (Scalar.extui (Scalar.cmpi .eq (BitVec.ofNat 32 (i 0).val) 0#32) : BitVec 32) 0#32 = 1#1

/-! The stores' offsets as numbers. -/

theorem off1_eq (i : grid0.Coords) : k0_off1 i = ![1 - (i 0).val % 2, 0, 0] := by
  unfold k0_off1; generalize i 0 = n; revert n; decide +kernel
instance (i : grid0.Coords) : ClosedOff (k0_off1 i) := ⟨_, off1_eq i⟩
theorem off2_eq (i : grid0.Coords) : k0_off2 i = ![(i 0).val % 2, 0, 0] := by
  unfold k0_off2; generalize i 0 = n; revert n; decide +kernel
instance (i : grid0.Coords) : ClosedOff (k0_off2 i) := ⟨_, off2_eq i⟩
theorem off3_eq (i : grid0.Coords) : k0_off3 i = ![(i 0).val % 2, 0, 1024] := by
  unfold k0_off3; generalize i 0 = n; revert n; decide +kernel
instance (i : grid0.Coords) : ClosedOff (k0_off3 i) := ⟨_, off3_eq i⟩
theorem off4_eq (i : grid0.Coords) : k0_off4 i = ![(i 0).val % 2, 0, 1152] := by
  unfold k0_off4; generalize i 0 = n; revert n; decide +kernel
instance (i : grid0.Coords) : ClosedOff (k0_off4 i) := ⟨_, off4_eq i⟩
theorem off5_eq (i : grid0.Coords) : k0_off5 i = ![(i 0).val % 2, 0, 1280] := by
  unfold k0_off5; generalize i 0 = n; revert n; decide +kernel
instance (i : grid0.Coords) : ClosedOff (k0_off5 i) := ⟨_, off5_eq i⟩
theorem off6_eq (i : grid0.Coords) : k0_off6 i = ![(i 0).val % 2, 0, 1408] := by
  unfold k0_off6; generalize i 0 = n; revert n; decide +kernel
instance (i : grid0.Coords) : ClosedOff (k0_off6 i) := ⟨_, off6_eq i⟩
theorem off7_eq (i : grid0.Coords) : k0_off7 i = ![(i 0).val % 2, 0, 1536] := by
  unfold k0_off7; generalize i 0 = n; revert n; decide +kernel
instance (i : grid0.Coords) : ClosedOff (k0_off7 i) := ⟨_, off7_eq i⟩
theorem off8_eq (i : grid0.Coords) : k0_off8 i = ![(i 0).val % 2, 0, 1664] := by
  unfold k0_off8; generalize i 0 = n; revert n; decide +kernel
instance (i : grid0.Coords) : ClosedOff (k0_off8 i) := ⟨_, off8_eq i⟩
theorem off9_eq (i : grid0.Coords) : k0_off9 i = ![(i 0).val % 2, 0, 1792] := by
  unfold k0_off9; generalize i 0 = n; revert n; decide +kernel
instance (i : grid0.Coords) : ClosedOff (k0_off9 i) := ⟨_, off9_eq i⟩
theorem off10_eq (i : grid0.Coords) : k0_off10 i = ![(i 0).val % 2, 0, 1920] := by
  unfold k0_off10; generalize i 0 = n; revert n; decide +kernel
instance (i : grid0.Coords) : ClosedOff (k0_off10 i) := ⟨_, off10_eq i⟩

set_option maxHeartbeats 4000000 in
/-- The body's run at a later step: what its stores leave in the output, in
    the carried buffer and in the gated rows, as pieces (last first). -/
noncomputable def runB (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x8x256x768 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S3x1024 .f32) (harg14 : arg14.IsWhole) (arg15 : Memref sig .tc .vmem S1x2048x2048 .bf16) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .f32) (harg18 : arg18.IsWhole) (arg19 : Memref sig .tc .vmem S2x256x2048 .bf16) (harg19 : arg19.IsWhole) (arg20 : Memref sig .tc .vmem S264x1024 .f32) (harg20 : arg20.IsWhole) (hc0 : ¬firstStep i)
    (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x8x256x768 .f32) (x9 : Vec F S256x1024 .f32) (x10 : Vec F S256x1024 .f32) (x11 : Vec F S256x1024 .f32) (x12 : Vec F S8x1024 .f32) (x13 : Vec F S8x1024 .f32) (x14 : Vec F S3x1024 .f32) (x15 : Vec F S1x2048x2048 .bf16) (x16 : Vec F S256x2048 .f32) (x17 : Vec F S1x2048 .f32) (x19 : Vec F S2x256x2048 .bf16) (x20 : Vec F S264x1024 .f32) :
    Σ' (LO : List (View.Piece (Elt F) S256x2048 .f32)) (LY : List (View.Piece (Elt F) S2x256x2048 .bf16)), { LU : List (View.Piece (Elt F) S264x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ owns (c : Thread nD τ) arg19 fullShare x19 ∗ owns (c : Thread nD τ) arg20 fullShare x20
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ f, arg18.view.loc (c : Thread nD τ) ↦[arg18.view.set]{fullShare} arg18.view.writes (Elt F) f LO)
                ∗ (arg19.view.loc (c : Thread nD τ) ↦[arg19.view.set]{fullShare} arg19.view.writes (Elt F) (harg19.unread x19) LY)
                ∗ (arg20.view.loc (c : Thread nD τ) ↦[arg20.view.set]{fullShare} arg20.view.writes (Elt F) (harg20.unread x20) LU)) -∗ K ⟨⟩))
          ⊢ wp frame (wpE (defs₀ (F := F)) Variants.none c none) E (cc0__conv_attention_outproj_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__conv_attention_outproj_kernel_eq_skeleton]; unfold cc0__conv_attention_outproj_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg19.eq_unread hf19; obtain rfl := harg20.eq_unread hf20
    sl_exec (disch := sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]; · iexists _; iexact H18
    isplitl [H19]; · iexact H19
    iexact H20

end Cert.Att

end
-- ==== Proof.AttPieces.lean ====
/- What a step leaves in the carried buffer, read back from the rectangles it stores into. -/
module

public import proofs.«01_k».proof.Proof.AttSpec
public import proofs.«01_k».proof.Proof.AttRunB
public import Idealize.ShloMosaic.Lib.WritesUnit

@[expose] public section

set_option maxRecDepth 16384

noncomputable section

namespace Cert.Att

open Cert.KernelIdeal Cert.KernelIdeal.Gen Idealize.ShloMosaic

variable {F : FTy → Type} [FloatOps F] [Named F]

/-- The stores of one step into the carried buffer, the last first. -/
def pieces (i : grid0.Coords) (x1 x2 x3 x4 x5 x6 x7 : Vec F S256x1024 .bf16) (x8 : Vec F S1x8x256x768 .f32) (x9 x10 x11 : Vec F S256x1024 .f32) (x12 x13 : Vec F S8x1024 .f32) (x14 : Vec F S3x1024 .f32) : List (View.Piece (Elt F) S2x256x2048 .bf16) :=
  [⟨Rect.unit (s := S2x256x2048) (k0_off10 i) S1x256x128.size (k0_off10_inb i), head x1 x2 x3 x4 x5 x6 x7 x8 7⟩,
    ⟨Rect.unit (s := S2x256x2048) (k0_off9 i) S1x256x128.size (k0_off9_inb i), head x1 x2 x3 x4 x5 x6 x7 x8 6⟩,
    ⟨Rect.unit (s := S2x256x2048) (k0_off8 i) S1x256x128.size (k0_off8_inb i), head x1 x2 x3 x4 x5 x6 x7 x8 5⟩,
    ⟨Rect.unit (s := S2x256x2048) (k0_off7 i) S1x256x128.size (k0_off7_inb i), head x1 x2 x3 x4 x5 x6 x7 x8 4⟩,
    ⟨Rect.unit (s := S2x256x2048) (k0_off6 i) S1x256x128.size (k0_off6_inb i), head x1 x2 x3 x4 x5 x6 x7 x8 3⟩,
    ⟨Rect.unit (s := S2x256x2048) (k0_off5 i) S1x256x128.size (k0_off5_inb i), head x1 x2 x3 x4 x5 x6 x7 x8 2⟩,
    ⟨Rect.unit (s := S2x256x2048) (k0_off4 i) S1x256x128.size (k0_off4_inb i), head x1 x2 x3 x4 x5 x6 x7 x8 1⟩,
    ⟨Rect.unit (s := S2x256x2048) (k0_off3 i) S1x256x128.size (k0_off3_inb i), head x1 x2 x3 x4 x5 x6 x7 x8 0⟩,
    ⟨Rect.unit (s := S2x256x2048) (k0_off2 i) S1x256x1024.size (k0_off2_inb i), conv (BitVec.ofNat 32 (i 0).val) x9 x10 x11 x12 x13 x14⟩]

variable {sig' : RefSig} {κ' : Kind} {sp : Space}

theorem read_pieces (v : View sig' κ' sp S2x256x2048 .bf16) (f : v.ty.Contents (Elt F)) (i : grid0.Coords) (x1 x2 x3 x4 x5 x6 x7 : Vec F S256x1024 .bf16) (x8 : Vec F S1x8x256x768 .f32) (x9 x10 x11 : Vec F S256x1024 .f32) (x12 x13 : Vec F S8x1024 .f32) (x14 : Vec F S3x1024 .f32)
    (p : Fin 2) (hp : p.val = (i 0).val % 2) :
    half p (v.read (Elt F) (v.writes (Elt F) f (pieces i x1 x2 x3 x4 x5 x6 x7 x8 x9 x10 x11 x12 x13 x14))) = block (BitVec.ofNat 32 (i 0).val) x1 x2 x3 x4 x5 x6 x7 x8 x9 x10 x11 x12 x13 x14 := by
  funext j
  obtain ⟨z, r, c, rfl⟩ : ∃ (z : Fin 1) (r : Fin 256) (c : Fin 2048), j = ix3 z r c := ⟨j 0, j 1, j 2, eq_ix3 j⟩
  obtain rfl : z = 0 := Subsingleton.elim _ _
  show v.read (Elt F) (v.writes (Elt F) f (pieces i x1 x2 x3 x4 x5 x6 x7 x8 x9 x10 x11 x12 x13 x14)) (ix3 p r c) = _
  have hc : c.val < 2048 := c.isLt
  unfold pieces
  by_cases h : c.val < 1024
  · refine Eq.trans ?_ (dif_pos h).symm
    exact (View.read_writes_cons_unit_of_not_mem v f _ _ _ (ix3 p r c) (off10_eq i) 2 (Or.inl (show c.val < 1920 by omega))).trans <| (View.read_writes_cons_unit_of_not_mem v f _ _ _ (ix3 p r c) (off9_eq i) 2 (Or.inl (show c.val < 1792 by omega))).trans <| (View.read_writes_cons_unit_of_not_mem v f _ _ _ (ix3 p r c) (off8_eq i) 2 (Or.inl (show c.val < 1664 by omega))).trans <| (View.read_writes_cons_unit_of_not_mem v f _ _ _ (ix3 p r c) (off7_eq i) 2 (Or.inl (show c.val < 1536 by omega))).trans <| (View.read_writes_cons_unit_of_not_mem v f _ _ _ (ix3 p r c) (off6_eq i) 2 (Or.inl (show c.val < 1408 by omega))).trans <| (View.read_writes_cons_unit_of_not_mem v f _ _ _ (ix3 p r c) (off5_eq i) 2 (Or.inl (show c.val < 1280 by omega))).trans <| (View.read_writes_cons_unit_of_not_mem v f _ _ _ (ix3 p r c) (off4_eq i) 2 (Or.inl (show c.val < 1152 by omega))).trans <| (View.read_writes_cons_unit_of_not_mem v f _ _ _ (ix3 p r c) (off3_eq i) 2 (Or.inl (show c.val < 1024 by omega))).trans <|
      View.read_writes_cons_unit_of_mem v f _ _ _ (ix3 p r c) (ix3 (0 : Fin 1) r (⟨c.val, h⟩ : Fin 1024)) (off2_eq i)
        (fun a => by
          fin_cases a
          · exact hp
          · exact (Nat.zero_add _).symm
          · exact (Nat.zero_add _).symm)
  · refine Eq.trans ?_ (dif_neg h).symm
    obtain ⟨k, d, hd, hk⟩ : ∃ (k : Fin 8) (d : Fin 128), (c.val - 1024) % 128 = d.val ∧ (c.val - 1024) / 128 = k.val :=
      ⟨⟨(c.val - 1024) / 128, by omega⟩, ⟨(c.val - 1024) % 128, by omega⟩, rfl, rfl⟩
    have e1 : (⟨(c.val - 1024) / 128, by omega⟩ : Fin 8) = k := Fin.ext hk
    have e2 : (⟨(c.val - 1024) % 128, by omega⟩ : Fin 128) = d := Fin.ext hd
    refine Eq.trans ?_ (congrArg₂ (fun (a : Fin 8) (b : Fin 128) => head x1 x2 x3 x4 x5 x6 x7 x8 a (ix3 (0 : Fin 1) r b)) e1 e2).symm
    fin_cases k
    · have hk' : (c.val - 1024) / 128 = 0 := hk
      exact (View.read_writes_cons_unit_of_not_mem v f _ _ _ (ix3 p r c) (off10_eq i) 2 (Or.inl (show c.val < 1920 by omega))).trans <| (View.read_writes_cons_unit_of_not_mem v f _ _ _ (ix3 p r c) (off9_eq i) 2 (Or.inl (show c.val < 1792 by omega))).trans <| (View.read_writes_cons_unit_of_not_mem v f _ _ _ (ix3 p r c) (off8_eq i) 2 (Or.inl (show c.val < 1664 by omega))).trans <| (View.read_writes_cons_unit_of_not_mem v f _ _ _ (ix3 p r c) (off7_eq i) 2 (Or.inl (show c.val < 1536 by omega))).trans <| (View.read_writes_cons_unit_of_not_mem v f _ _ _ (ix3 p r c) (off6_eq i) 2 (Or.inl (show c.val < 1408 by omega))).trans <| (View.read_writes_cons_unit_of_not_mem v f _ _ _ (ix3 p r c) (off5_eq i) 2 (Or.inl (show c.val < 1280 by omega))).trans <| (View.read_writes_cons_unit_of_not_mem v f _ _ _ (ix3 p r c) (off4_eq i) 2 (Or.inl (show c.val < 1152 by omega))).trans <|
        View.read_writes_cons_unit_of_mem v f _ _ _ (ix3 p r c) (ix3 (0 : Fin 1) r d) (off3_eq i)
        (fun a => by
          fin_cases a
          · exact hp
          · exact (Nat.zero_add _).symm
          · show c.val = 1024 + d.val
            omega)
    · have hk' : (c.val - 1024) / 128 = 1 := hk
      exact (View.read_writes_cons_unit_of_not_mem v f _ _ _ (ix3 p r c) (off10_eq i) 2 (Or.inl (show c.val < 1920 by omega))).trans <| (View.read_writes_cons_unit_of_not_mem v f _ _ _ (ix3 p r c) (off9_eq i) 2 (Or.inl (show c.val < 1792 by omega))).trans <| (View.read_writes_cons_unit_of_not_mem v f _ _ _ (ix3 p r c) (off8_eq i) 2 (Or.inl (show c.val < 1664 by omega))).trans <| (View.read_writes_cons_unit_of_not_mem v f _ _ _ (ix3 p r c) (off7_eq i) 2 (Or.inl (show c.val < 1536 by omega))).trans <| (View.read_writes_cons_unit_of_not_mem v f _ _ _ (ix3 p r c) (off6_eq i) 2 (Or.inl (show c.val < 1408 by omega))).trans <| (View.read_writes_cons_unit_of_not_mem v f _ _ _ (ix3 p r c) (off5_eq i) 2 (Or.inl (show c.val < 1280 by omega))).trans <|
        View.read_writes_cons_unit_of_mem v f _ _ _ (ix3 p r c) (ix3 (0 : Fin 1) r d) (off4_eq i)
        (fun a => by
          fin_cases a
          · exact hp
          · exact (Nat.zero_add _).symm
          · show c.val = 1152 + d.val
            omega)
    · have hk' : (c.val - 1024) / 128 = 2 := hk
      exact (View.read_writes_cons_unit_of_not_mem v f _ _ _ (ix3 p r c) (off10_eq i) 2 (Or.inl (show c.val < 1920 by omega))).trans <| (View.read_writes_cons_unit_of_not_mem v f _ _ _ (ix3 p r c) (off9_eq i) 2 (Or.inl (show c.val < 1792 by omega))).trans <| (View.read_writes_cons_unit_of_not_mem v f _ _ _ (ix3 p r c) (off8_eq i) 2 (Or.inl (show c.val < 1664 by omega))).trans <| (View.read_writes_cons_unit_of_not_mem v f _ _ _ (ix3 p r c) (off7_eq i) 2 (Or.inl (show c.val < 1536 by omega))).trans <| (View.read_writes_cons_unit_of_not_mem v f _ _ _ (ix3 p r c) (off6_eq i) 2 (Or.inl (show c.val < 1408 by omega))).trans <|
        View.read_writes_cons_unit_of_mem v f _ _ _ (ix3 p r c) (ix3 (0 : Fin 1) r d) (off5_eq i)
        (fun a => by
          fin_cases a
          · exact hp
          · exact (Nat.zero_add _).symm
          · show c.val = 1280 + d.val
            omega)
    · have hk' : (c.val - 1024) / 128 = 3 := hk
      exact (View.read_writes_cons_unit_of_not_mem v f _ _ _ (ix3 p r c) (off10_eq i) 2 (Or.inl (show c.val < 1920 by omega))).trans <| (View.read_writes_cons_unit_of_not_mem v f _ _ _ (ix3 p r c) (off9_eq i) 2 (Or.inl (show c.val < 1792 by omega))).trans <| (View.read_writes_cons_unit_of_not_mem v f _ _ _ (ix3 p r c) (off8_eq i) 2 (Or.inl (show c.val < 1664 by omega))).trans <| (View.read_writes_cons_unit_of_not_mem v f _ _ _ (ix3 p r c) (off7_eq i) 2 (Or.inl (show c.val < 1536 by omega))).trans <|
        View.read_writes_cons_unit_of_mem v f _ _ _ (ix3 p r c) (ix3 (0 : Fin 1) r d) (off6_eq i)
        (fun a => by
          fin_cases a
          · exact hp
          · exact (Nat.zero_add _).symm
          · show c.val = 1408 + d.val
            omega)
    · have hk' : (c.val - 1024) / 128 = 4 := hk
      exact (View.read_writes_cons_unit_of_not_mem v f _ _ _ (ix3 p r c) (off10_eq i) 2 (Or.inl (show c.val < 1920 by omega))).trans <| (View.read_writes_cons_unit_of_not_mem v f _ _ _ (ix3 p r c) (off9_eq i) 2 (Or.inl (show c.val < 1792 by omega))).trans <| (View.read_writes_cons_unit_of_not_mem v f _ _ _ (ix3 p r c) (off8_eq i) 2 (Or.inl (show c.val < 1664 by omega))).trans <|
        View.read_writes_cons_unit_of_mem v f _ _ _ (ix3 p r c) (ix3 (0 : Fin 1) r d) (off7_eq i)
        (fun a => by
          fin_cases a
          · exact hp
          · exact (Nat.zero_add _).symm
          · show c.val = 1536 + d.val
            omega)
    · have hk' : (c.val - 1024) / 128 = 5 := hk
      exact (View.read_writes_cons_unit_of_not_mem v f _ _ _ (ix3 p r c) (off10_eq i) 2 (Or.inl (show c.val < 1920 by omega))).trans <| (View.read_writes_cons_unit_of_not_mem v f _ _ _ (ix3 p r c) (off9_eq i) 2 (Or.inl (show c.val < 1792 by omega))).trans <|
        View.read_writes_cons_unit_of_mem v f _ _ _ (ix3 p r c) (ix3 (0 : Fin 1) r d) (off8_eq i)
        (fun a => by
          fin_cases a
          · exact hp
          · exact (Nat.zero_add _).symm
          · show c.val = 1664 + d.val
            omega)
    · have hk' : (c.val - 1024) / 128 = 6 := hk
      exact (View.read_writes_cons_unit_of_not_mem v f _ _ _ (ix3 p r c) (off10_eq i) 2 (Or.inl (show c.val < 1920 by omega))).trans <|
        View.read_writes_cons_unit_of_mem v f _ _ _ (ix3 p r c) (ix3 (0 : Fin 1) r d) (off9_eq i)
        (fun a => by
          fin_cases a
          · exact hp
          · exact (Nat.zero_add _).symm
          · show c.val = 1792 + d.val
            omega)
    · have hk' : (c.val - 1024) / 128 = 7 := hk
      exact
        View.read_writes_cons_unit_of_mem v f _ _ _ (ix3 p r c) (ix3 (0 : Fin 1) r d) (off10_eq i)
        (fun a => by
          fin_cases a
          · exact hp
          · exact (Nat.zero_add _).symm
          · show c.val = 1920 + d.val
            omega)

/-- The gated rows read back from their two stores. -/
theorem load_u (v : View sig' κ' sp S264x1024 .f32) (f : v.ty.Contents (Elt F)) (a : BitVec 32) (x10 x11 : Vec F S256x1024 .f32) (x12 x13 : Vec F S8x1024 .f32)
    (o : Fin 9) {off : Fin 2 → ℕ} (ho : off = ![o.val, 0]) (inb : ∀ a, off a + S256x1024.size a ≤ S264x1024.size a)
    (h8 : ∀ a, (![8, 0] : Fin 2 → ℕ) a + S256x1024.size a ≤ S264x1024.size a) (h0 : ∀ a, (![0, 0] : Fin 2 → ℕ) a + S8x1024.size a ≤ S264x1024.size a) :
    v.readAt (Elt F) (Rect.unit (s := S264x1024) off S256x1024.size inb).toLoadRect
      (v.writes (Elt F) f [⟨Rect.unit (s := S264x1024) ![8, 0] S256x1024.size h8, k0_pay7 x10 x11⟩,
        ⟨Rect.unit (s := S264x1024) ![0, 0] S8x1024.size h0, k0_pay6 a x12 x13⟩]) = from_ o (urows a x10 x11 x12 x13) := by
  subst ho
  funext j
  obtain ⟨r, c, rfl⟩ : ∃ (r : Fin 256) (c : Fin 1024), j = ix2 r c := ⟨j 0, j 1, eq_ix2 j⟩
  have hr : r.val < 256 := r.isLt
  have e : (Rect.unit (s := S264x1024) ![o.val, 0] S256x1024.size inb).idx (ix2 r c) = ix2 (⟨o.val + r.val, by omega⟩ : Fin 264) c := by
    funext b
    refine Fin.ext ((Rect.idx_unit_val _ _ inb (ix2 r c) b).trans ?_)
    fin_cases b
    · rfl
    · exact Nat.zero_add _
  show v.read (Elt F) _ ((Rect.unit (s := S264x1024) ![o.val, 0] S256x1024.size inb).idx (ix2 r c)) = urows a x10 x11 x12 x13 (ix2 (⟨o.val + r.val, by omega⟩ : Fin 264) c)
  rw [e]
  by_cases h : o.val + r.val < 8
  · refine Eq.trans ?_ (dif_pos h).symm
    exact (View.read_writes_cons_unit_of_not_mem v f _ _ _ _ rfl 0 (Or.inl h)).trans <|
      View.read_writes_cons_unit_of_mem v f _ _ _ _ (ix2 (⟨o.val + r.val, h⟩ : Fin 8) c) rfl (fun a => by
        fin_cases a
        · exact (Nat.zero_add _).symm
        · exact (Nat.zero_add _).symm)
  · refine Eq.trans ?_ (dif_neg h).symm
    exact View.read_writes_cons_unit_of_mem v f _ _ _ _ (ix2 (⟨o.val + r.val - 8, by omega⟩ : Fin 256) c) rfl (fun a => by
        fin_cases a
        · show o.val + r.val = 8 + (o.val + r.val - 8)
          omega
        · exact (Nat.zero_add _).symm)

end Cert.Att

end
-- ==== Proof.AttRunA.lean ====
module

public import proofs.«01_k».proof.Proof.AttRunB
public import Idealize.ShloMosaic.Lib.VecWindow

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A whole store leaves the buffer at what it stored. -/
theorem cleared {arg19 : Memref sig .tc .vmem S2x256x2048 .bf16} {harg19 : arg19.IsWhole} {f : arg19.view.ty.Contents (Elt F)}
    {h : ∀ a, (![0, 0, 0] : Fin 3 → Nat) a + S2x256x2048.size a ≤ S2x256x2048.size a} {w : S2x256x2048.Idx → Elt F .bf16} :
    arg19.view.writes (Elt F) f [⟨Rect.unit (s := S2x256x2048) ![0, 0, 0] S2x256x2048.size h, w⟩] = harg19.unread w :=
  harg19.eq_unread (View.read_writes_full arg19.view f _ w [])

set_option maxHeartbeats 800000 in
/-- The body's run at the first step, where the carried buffer is cleared: what its stores leave in the output, in
    the carried buffer and in the gated rows, as pieces (last first). -/
noncomputable def runA (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x8x256x768 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S3x1024 .f32) (harg14 : arg14.IsWhole) (arg15 : Memref sig .tc .vmem S1x2048x2048 .bf16) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .f32) (harg18 : arg18.IsWhole) (arg19 : Memref sig .tc .vmem S2x256x2048 .bf16) (harg19 : arg19.IsWhole) (arg20 : Memref sig .tc .vmem S264x1024 .f32) (harg20 : arg20.IsWhole) (hc0 : firstStep i)
    (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x8x256x768 .f32) (x9 : Vec F S256x1024 .f32) (x10 : Vec F S256x1024 .f32) (x11 : Vec F S256x1024 .f32) (x12 : Vec F S8x1024 .f32) (x13 : Vec F S8x1024 .f32) (x14 : Vec F S3x1024 .f32) (x15 : Vec F S1x2048x2048 .bf16) (x16 : Vec F S256x2048 .f32) (x17 : Vec F S1x2048 .f32) (x19 : Vec F S2x256x2048 .bf16) (x20 : Vec F S264x1024 .f32) :
    Σ' (LO : List (View.Piece (Elt F) S256x2048 .f32)) (LY : List (View.Piece (Elt F) S2x256x2048 .bf16)), { LU : List (View.Piece (Elt F) S264x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ owns (c : Thread nD τ) arg19 fullShare x19 ∗ owns (c : Thread nD τ) arg20 fullShare x20
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ f, arg18.view.loc (c : Thread nD τ) ↦[arg18.view.set]{fullShare} arg18.view.writes (Elt F) f LO)
                ∗ (arg19.view.loc (c : Thread nD τ) ↦[arg19.view.set]{fullShare} arg19.view.writes (Elt F) (harg19.unread k0_pay2) LY)
                ∗ (arg20.view.loc (c : Thread nD τ) ↦[arg20.view.set]{fullShare} arg20.view.writes (Elt F) (harg20.unread x20) LU)) -∗ K ⟨⟩))
          ⊢ wp frame (wpE (defs₀ (F := F)) Variants.none c none) E (cc0__conv_attention_outproj_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__conv_attention_outproj_kernel_eq_skeleton]; unfold cc0__conv_attention_outproj_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg19.eq_unread hf19; obtain rfl := harg20.eq_unread hf20
    set_option sl_exec.maxSteps 4 in sl_exec (disch := sl_exact hc0)
    rw [cleared (harg19 := harg19)]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]; · iexists _; iexact H18
    isplitl [H19]; · iexact H19
    iexact H20

end Cert.Att

end
-- ==== Proof.AttPost.lean ====
/- What one step stores, in the words of its blocks. -/
module

public import proofs.«01_k».proof.Proof.AttPieces
public import proofs.«01_k».proof.Proof.AttRunA

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem zero2 : (![0, 0] : Fin 2 → ℕ) = fun _ => 0 := by funext a; fin_cases a <;> rfl
theorem zero3 : (![0, 0, 0] : Fin 3 → ℕ) = fun _ => 0 := by funext a; fin_cases a <;> rfl

theorem load_half {sig' : RefSig} {κ' : Kind} {sp : Space} (p : Fin 2) {m : Memref sig' κ' sp S2x256x2048 .bf16} (hm : m.IsWhole)
    (x : Vec F S2x256x2048 .bf16) {off : Fin 3 → ℕ} (ho : off = ![p.val, 0, 0]) (inb : ∀ a, off a + ![1, 256, 2048] a ≤ S2x256x2048.size a) :
    View.readAt (Elt F) m.view (Rect.unit (s := S2x256x2048) off ![1, 256, 2048] inb).toLoadRect (hm.unread x) = half p x := by
  subst ho
  funext j
  rw [hm.readAt_unread]
  refine congrArg x (funext fun a => Fin.ext ((Rect.idx_unit_val _ _ inb j a).trans ?_))
  have h0 : (j 0).val < 1 := (j 0).isLt
  fin_cases a
  · show p.val + (j 0).val = p.val; omega
  · exact Nat.zero_add _
  · exact Nat.zero_add _

set_option maxHeartbeats 1600000 in
theorem outB (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x8x256x768 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S3x1024 .f32) (harg14 : arg14.IsWhole) (arg15 : Memref sig .tc .vmem S1x2048x2048 .bf16) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .f32) (harg18 : arg18.IsWhole) (arg19 : Memref sig .tc .vmem S2x256x2048 .bf16) (harg19 : arg19.IsWhole) (arg20 : Memref sig .tc .vmem S264x1024 .f32) (harg20 : arg20.IsWhole) (hc0 : ¬firstStep i)
    (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x8x256x768 .f32) (x9 : Vec F S256x1024 .f32) (x10 : Vec F S256x1024 .f32) (x11 : Vec F S256x1024 .f32) (x12 : Vec F S8x1024 .f32) (x13 : Vec F S8x1024 .f32) (x14 : Vec F S3x1024 .f32) (x15 : Vec F S1x2048x2048 .bf16) (x16 : Vec F S256x2048 .f32) (x17 : Vec F S1x2048 .f32) (x19 : Vec F S2x256x2048 .bf16) (x20 : Vec F S264x1024 .f32) (p : Fin 2) (hp : p.val = 1 - (i 0).val % 2) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20).1
    = [⟨Rect.unit (s := S256x2048) ![0, 0] S256x2048.size inb_S256x2048_S256x2048_0_0, proj (half p x19) x15 x16 x17⟩] := by
  dsimp only [runB]
  dsimp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.v71, runB.sl.v75, runB.sl.v80]
  rw [load_half p harg19 _ ((off1_eq i).trans (by rw [hp])), load_full harg15 _ zero3, load_full harg16 _ zero2, load_full harg17 _ zero2]
  rfl

set_option maxHeartbeats 1600000 in
theorem carriedB (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x8x256x768 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S3x1024 .f32) (harg14 : arg14.IsWhole) (arg15 : Memref sig .tc .vmem S1x2048x2048 .bf16) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .f32) (harg18 : arg18.IsWhole) (arg19 : Memref sig .tc .vmem S2x256x2048 .bf16) (harg19 : arg19.IsWhole) (arg20 : Memref sig .tc .vmem S264x1024 .f32) (harg20 : arg20.IsWhole) (hc0 : ¬firstStep i)
    (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x8x256x768 .f32) (x9 : Vec F S256x1024 .f32) (x10 : Vec F S256x1024 .f32) (x11 : Vec F S256x1024 .f32) (x12 : Vec F S8x1024 .f32) (x13 : Vec F S8x1024 .f32) (x14 : Vec F S3x1024 .f32) (x15 : Vec F S1x2048x2048 .bf16) (x16 : Vec F S256x2048 .f32) (x17 : Vec F S1x2048 .f32) (x19 : Vec F S2x256x2048 .bf16) (x20 : Vec F S264x1024 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20).2.1 = pieces i x1 x2 x3 x4 x5 x6 x7 x8 x9 x10 x11 x12 x13 x14 := by
  dsimp only [runB]
  dsimp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.v71, runB.sl.v75, runB.sl.v80]
  simp only [load_cols 0 harg1 x1 (off := ![0, 0]) rfl, load_cols 1 harg1 x1 (off := ![0, 128]) rfl, load_cols 2 harg1 x1 (off := ![0, 256]) rfl, load_cols 3 harg1 x1 (off := ![0, 384]) rfl, load_cols 4 harg1 x1 (off := ![0, 512]) rfl, load_cols 5 harg1 x1 (off := ![0, 640]) rfl, load_cols 6 harg1 x1 (off := ![0, 768]) rfl, load_cols 7 harg1 x1 (off := ![0, 896]) rfl, load_cols 0 harg2 x2 (off := ![0, 0]) rfl, load_cols 1 harg2 x2 (off := ![0, 128]) rfl, load_cols 2 harg2 x2 (off := ![0, 256]) rfl, load_cols 3 harg2 x2 (off := ![0, 384]) rfl, load_cols 4 harg2 x2 (off := ![0, 512]) rfl, load_cols 5 harg2 x2 (off := ![0, 640]) rfl, load_cols 6 harg2 x2 (off := ![0, 768]) rfl, load_cols 7 harg2 x2 (off := ![0, 896]) rfl, load_cols 0 harg3 x3 (off := ![0, 0]) rfl, load_cols 1 harg3 x3 (off := ![0, 128]) rfl, load_cols 2 harg3 x3 (off := ![0, 256]) rfl, load_cols 3 harg3 x3 (off := ![0, 384]) rfl, load_cols 4 harg3 x3 (off := ![0, 512]) rfl, load_cols 5 harg3 x3 (off := ![0, 640]) rfl, load_cols 6 harg3 x3 (off := ![0, 768]) rfl, load_cols 7 harg3 x3 (off := ![0, 896]) rfl, load_cols 0 harg4 x4 (off := ![0, 0]) rfl, load_cols 1 harg4 x4 (off := ![0, 128]) rfl, load_cols 2 harg4 x4 (off := ![0, 256]) rfl, load_cols 3 harg4 x4 (off := ![0, 384]) rfl, load_cols 4 harg4 x4 (off := ![0, 512]) rfl, load_cols 5 harg4 x4 (off := ![0, 640]) rfl, load_cols 6 harg4 x4 (off := ![0, 768]) rfl, load_cols 7 harg4 x4 (off := ![0, 896]) rfl, load_cols 0 harg5 x5 (off := ![0, 0]) rfl, load_cols 1 harg5 x5 (off := ![0, 128]) rfl, load_cols 2 harg5 x5 (off := ![0, 256]) rfl, load_cols 3 harg5 x5 (off := ![0, 384]) rfl, load_cols 4 harg5 x5 (off := ![0, 512]) rfl, load_cols 5 harg5 x5 (off := ![0, 640]) rfl, load_cols 6 harg5 x5 (off := ![0, 768]) rfl, load_cols 7 harg5 x5 (off := ![0, 896]) rfl, load_cols 0 harg6 x6 (off := ![0, 0]) rfl, load_cols 1 harg6 x6 (off := ![0, 128]) rfl, load_cols 2 harg6 x6 (off := ![0, 256]) rfl, load_cols 3 harg6 x6 (off := ![0, 384]) rfl, load_cols 4 harg6 x6 (off := ![0, 512]) rfl, load_cols 5 harg6 x6 (off := ![0, 640]) rfl, load_cols 6 harg6 x6 (off := ![0, 768]) rfl, load_cols 7 harg6 x6 (off := ![0, 896]) rfl, load_cols 0 harg7 x7 (off := ![0, 0]) rfl, load_cols 1 harg7 x7 (off := ![0, 128]) rfl, load_cols 2 harg7 x7 (off := ![0, 256]) rfl, load_cols 3 harg7 x7 (off := ![0, 384]) rfl, load_cols 4 harg7 x7 (off := ![0, 512]) rfl, load_cols 5 harg7 x7 (off := ![0, 640]) rfl, load_cols 6 harg7 x7 (off := ![0, 768]) rfl, load_cols 7 harg7 x7 (off := ![0, 896]) rfl,
    load_bias 0 harg8 x8 (off := ![0, 0, 0, 0]) rfl, load_bias 1 harg8 x8 (off := ![0, 1, 0, 0]) rfl, load_bias 2 harg8 x8 (off := ![0, 2, 0, 0]) rfl, load_bias 3 harg8 x8 (off := ![0, 3, 0, 0]) rfl, load_bias 4 harg8 x8 (off := ![0, 4, 0, 0]) rfl, load_bias 5 harg8 x8 (off := ![0, 5, 0, 0]) rfl, load_bias 6 harg8 x8 (off := ![0, 6, 0, 0]) rfl, load_bias 7 harg8 x8 (off := ![0, 7, 0, 0]) rfl]
  dsimp only [View.readCov, runB.sl.H20_2]
  simp only [load_full harg14 x14 zero2, load_full harg9 x9 zero2, load_full harg10 x10 zero2, load_full harg11 x11 zero2, load_full harg12 x12 zero2, load_full harg13 x13 zero2]
  rw [load_u arg20.view _ _ x10 x11 x12 x13 6 (off := ![6, 0]) rfl, load_u arg20.view _ _ x10 x11 x12 x13 7 (off := ![7, 0]) rfl, load_u arg20.view _ _ x10 x11 x12 x13 8 (off := ![8, 0]) rfl]
  simp only [score0, score2, score3, score4, score5, score6, score7, head0, head2, head3, head4, head5, head6, head7]
  rfl

set_option maxHeartbeats 1600000 in
theorem outA (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x8x256x768 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S3x1024 .f32) (harg14 : arg14.IsWhole) (arg15 : Memref sig .tc .vmem S1x2048x2048 .bf16) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .f32) (harg18 : arg18.IsWhole) (arg19 : Memref sig .tc .vmem S2x256x2048 .bf16) (harg19 : arg19.IsWhole) (arg20 : Memref sig .tc .vmem S264x1024 .f32) (harg20 : arg20.IsWhole) (hc0 : firstStep i)
    (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x8x256x768 .f32) (x9 : Vec F S256x1024 .f32) (x10 : Vec F S256x1024 .f32) (x11 : Vec F S256x1024 .f32) (x12 : Vec F S8x1024 .f32) (x13 : Vec F S8x1024 .f32) (x14 : Vec F S3x1024 .f32) (x15 : Vec F S1x2048x2048 .bf16) (x16 : Vec F S256x2048 .f32) (x17 : Vec F S1x2048 .f32) (x19 : Vec F S2x256x2048 .bf16) (x20 : Vec F S264x1024 .f32) (p : Fin 2) (hp : p.val = 1 - (i 0).val % 2) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20).1
    = [⟨Rect.unit (s := S256x2048) ![0, 0] S256x2048.size inb_S256x2048_S256x2048_0_0, proj (half p k0_pay2) x15 x16 x17⟩] := by
  dsimp only [runA]
  dsimp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.v71, runA.sl.v75, runA.sl.v80]
  rw [load_half p harg19 _ ((off1_eq i).trans (by rw [hp])), load_full harg15 _ zero3, load_full harg16 _ zero2, load_full harg17 _ zero2]
  rfl

set_option maxHeartbeats 1600000 in
theorem carriedA (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x8x256x768 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S3x1024 .f32) (harg14 : arg14.IsWhole) (arg15 : Memref sig .tc .vmem S1x2048x2048 .bf16) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .f32) (harg18 : arg18.IsWhole) (arg19 : Memref sig .tc .vmem S2x256x2048 .bf16) (harg19 : arg19.IsWhole) (arg20 : Memref sig .tc .vmem S264x1024 .f32) (harg20 : arg20.IsWhole) (hc0 : firstStep i)
    (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x8x256x768 .f32) (x9 : Vec F S256x1024 .f32) (x10 : Vec F S256x1024 .f32) (x11 : Vec F S256x1024 .f32) (x12 : Vec F S8x1024 .f32) (x13 : Vec F S8x1024 .f32) (x14 : Vec F S3x1024 .f32) (x15 : Vec F S1x2048x2048 .bf16) (x16 : Vec F S256x2048 .f32) (x17 : Vec F S1x2048 .f32) (x19 : Vec F S2x256x2048 .bf16) (x20 : Vec F S264x1024 .f32) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20).2.1 = pieces i x1 x2 x3 x4 x5 x6 x7 x8 x9 x10 x11 x12 x13 x14 := by
  dsimp only [runA]
  dsimp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.v71, runA.sl.v75, runA.sl.v80]
  simp only [load_cols 0 harg1 x1 (off := ![0, 0]) rfl, load_cols 1 harg1 x1 (off := ![0, 128]) rfl, load_cols 2 harg1 x1 (off := ![0, 256]) rfl, load_cols 3 harg1 x1 (off := ![0, 384]) rfl, load_cols 4 harg1 x1 (off := ![0, 512]) rfl, load_cols 5 harg1 x1 (off := ![0, 640]) rfl, load_cols 6 harg1 x1 (off := ![0, 768]) rfl, load_cols 7 harg1 x1 (off := ![0, 896]) rfl, load_cols 0 harg2 x2 (off := ![0, 0]) rfl, load_cols 1 harg2 x2 (off := ![0, 128]) rfl, load_cols 2 harg2 x2 (off := ![0, 256]) rfl, load_cols 3 harg2 x2 (off := ![0, 384]) rfl, load_cols 4 harg2 x2 (off := ![0, 512]) rfl, load_cols 5 harg2 x2 (off := ![0, 640]) rfl, load_cols 6 harg2 x2 (off := ![0, 768]) rfl, load_cols 7 harg2 x2 (off := ![0, 896]) rfl, load_cols 0 harg3 x3 (off := ![0, 0]) rfl, load_cols 1 harg3 x3 (off := ![0, 128]) rfl, load_cols 2 harg3 x3 (off := ![0, 256]) rfl, load_cols 3 harg3 x3 (off := ![0, 384]) rfl, load_cols 4 harg3 x3 (off := ![0, 512]) rfl, load_cols 5 harg3 x3 (off := ![0, 640]) rfl, load_cols 6 harg3 x3 (off := ![0, 768]) rfl, load_cols 7 harg3 x3 (off := ![0, 896]) rfl, load_cols 0 harg4 x4 (off := ![0, 0]) rfl, load_cols 1 harg4 x4 (off := ![0, 128]) rfl, load_cols 2 harg4 x4 (off := ![0, 256]) rfl, load_cols 3 harg4 x4 (off := ![0, 384]) rfl, load_cols 4 harg4 x4 (off := ![0, 512]) rfl, load_cols 5 harg4 x4 (off := ![0, 640]) rfl, load_cols 6 harg4 x4 (off := ![0, 768]) rfl, load_cols 7 harg4 x4 (off := ![0, 896]) rfl, load_cols 0 harg5 x5 (off := ![0, 0]) rfl, load_cols 1 harg5 x5 (off := ![0, 128]) rfl, load_cols 2 harg5 x5 (off := ![0, 256]) rfl, load_cols 3 harg5 x5 (off := ![0, 384]) rfl, load_cols 4 harg5 x5 (off := ![0, 512]) rfl, load_cols 5 harg5 x5 (off := ![0, 640]) rfl, load_cols 6 harg5 x5 (off := ![0, 768]) rfl, load_cols 7 harg5 x5 (off := ![0, 896]) rfl, load_cols 0 harg6 x6 (off := ![0, 0]) rfl, load_cols 1 harg6 x6 (off := ![0, 128]) rfl, load_cols 2 harg6 x6 (off := ![0, 256]) rfl, load_cols 3 harg6 x6 (off := ![0, 384]) rfl, load_cols 4 harg6 x6 (off := ![0, 512]) rfl, load_cols 5 harg6 x6 (off := ![0, 640]) rfl, load_cols 6 harg6 x6 (off := ![0, 768]) rfl, load_cols 7 harg6 x6 (off := ![0, 896]) rfl, load_cols 0 harg7 x7 (off := ![0, 0]) rfl, load_cols 1 harg7 x7 (off := ![0, 128]) rfl, load_cols 2 harg7 x7 (off := ![0, 256]) rfl, load_cols 3 harg7 x7 (off := ![0, 384]) rfl, load_cols 4 harg7 x7 (off := ![0, 512]) rfl, load_cols 5 harg7 x7 (off := ![0, 640]) rfl, load_cols 6 harg7 x7 (off := ![0, 768]) rfl, load_cols 7 harg7 x7 (off := ![0, 896]) rfl,
    load_bias 0 harg8 x8 (off := ![0, 0, 0, 0]) rfl, load_bias 1 harg8 x8 (off := ![0, 1, 0, 0]) rfl, load_bias 2 harg8 x8 (off := ![0, 2, 0, 0]) rfl, load_bias 3 harg8 x8 (off := ![0, 3, 0, 0]) rfl, load_bias 4 harg8 x8 (off := ![0, 4, 0, 0]) rfl, load_bias 5 harg8 x8 (off := ![0, 5, 0, 0]) rfl, load_bias 6 harg8 x8 (off := ![0, 6, 0, 0]) rfl, load_bias 7 harg8 x8 (off := ![0, 7, 0, 0]) rfl]
  dsimp only [View.readCov, runA.sl.H20_2]
  simp only [load_full harg14 x14 zero2, load_full harg9 x9 zero2, load_full harg10 x10 zero2, load_full harg11 x11 zero2, load_full harg12 x12 zero2, load_full harg13 x13 zero2]
  rw [load_u arg20.view _ _ x10 x11 x12 x13 6 (off := ![6, 0]) rfl, load_u arg20.view _ _ x10 x11 x12 x13 7 (off := ![7, 0]) rfl, load_u arg20.view _ _ x10 x11 x12 x13 8 (off := ![8, 0]) rfl]
  simp only [score0, score2, score3, score4, score5, score6, score7, head0, head2, head3, head4, head5, head6, head7]
  rfl

end Cert.Att

end
-- ==== Proof.AttStep.lean ====
/- One step of the attention kernel, from the blocks it is called with to the blocks it leaves. -/
module

public import proofs.«01_k».proof.Proof.AttPost

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- One step: the output gets the projection of the block carried to it, the carried buffer's other half this step's block. -/
theorem step (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x8x256x768 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S3x1024 .f32) (harg14 : arg14.IsWhole) (arg15 : Memref sig .tc .vmem S1x2048x2048 .bf16) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .f32) (harg18 : arg18.IsWhole) (arg19 : Memref sig .tc .vmem S2x256x2048 .bf16) (harg19 : arg19.IsWhole) (arg20 : Memref sig .tc .vmem S264x1024 .f32) (harg20 : arg20.IsWhole)
    (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x8x256x768 .f32) (x9 : Vec F S256x1024 .f32) (x10 : Vec F S256x1024 .f32) (x11 : Vec F S256x1024 .f32) (x12 : Vec F S8x1024 .f32) (x13 : Vec F S8x1024 .f32) (x14 : Vec F S3x1024 .f32) (x15 : Vec F S1x2048x2048 .bf16) (x16 : Vec F S256x2048 .f32) (x17 : Vec F S1x2048 .f32) (x19 : Vec F S2x256x2048 .bf16) (x20 : Vec F S264x1024 .f32) (p q : Fin 2) (hp : p.val = 1 - (i 0).val % 2) (hq : q.val = (i 0).val % 2)
    (yv : Vec F S1x256x2048 .bf16) [Decidable (firstStep i)] (hy : half p (if firstStep i then k0_pay2 else x19) = yv)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ owns (c : Thread nD τ) arg19 fullShare x19 ∗ owns (c : Thread nD τ) arg20 fullShare x20
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (proj yv x15 x16 x17)
        ∗ (∃ y, ⌜half q y = block (BitVec.ofNat 32 (i 0).val) x1 x2 x3 x4 x5 x6 x7 x8 x9 x10 x11 x12 x13 x14⌝ ∗ owns (c : Thread nD τ) arg19 fullShare y) ∗ (∃ u, owns (c : Thread nD τ) arg20 fullShare u)) -∗ K ⟨⟩))
      ⊢ wp frame (wpE (defs₀ (F := F)) Variants.none c none) E (cc0__conv_attention_outproj_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hc0 : firstStep i
  ·
    have hy' : half p k0_pay2 = yv := by rw [← hy, if_pos hc0]
    iintro ⟨H1, H2, H3, H4, H5, H6, H7, H8, H9, H10, H11, H12, H13, H14, H15, H16, H17, H18, H19, H20, HK⟩
    iapply (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20).2.2.2 E K
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H1, H2, H3, H4, H5, H6, H7, H8, H9, H10, H11, H12, H13, H14, H15, H16, H17, ⟨%f18, H18⟩, H19, H20⟩
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro
      rw [outA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20 p hp, hy']
      exact View.read_writes_full _ _ _ _ []
    isplitl [H19]
    · iexists _; isplitr
      swap
      · unfold owns; iexists _; isplitr
        swap; · iexact H19
        ipureintro; rfl
      ipureintro
      rw [carriedA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20]
      exact read_pieces _ _ i x1 x2 x3 x4 x5 x6 x7 x8 x9 x10 x11 x12 x13 x14 q hq
    iexists _; unfold owns; iexists _; isplitr
    swap; · iexact H20
    ipureintro; rfl

  ·
    have hy' : half p x19 = yv := by rw [← hy, if_neg hc0]
    iintro ⟨H1, H2, H3, H4, H5, H6, H7, H8, H9, H10, H11, H12, H13, H14, H15, H16, H17, H18, H19, H20, HK⟩
    iapply (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20).2.2.2 E K
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H1, H2, H3, H4, H5, H6, H7, H8, H9, H10, H11, H12, H13, H14, H15, H16, H17, ⟨%f18, H18⟩, H19, H20⟩
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro
      rw [outB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20 p hp, hy']
      exact View.read_writes_full _ _ _ _ []
    isplitl [H19]
    · iexists _; isplitr
      swap
      · unfold owns; iexists _; isplitr
        swap; · iexact H19
        ipureintro; rfl
      ipureintro
      rw [carriedB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x1 x2 x3 x4 x5 x6 x7 x8 x9 x10 x11 x12 x13 x14 x15 x16 x17 x19 x20]
      exact read_pieces _ _ i x1 x2 x3 x4 x5 x6 x7 x8 x9 x10 x11 x12 x13 x14 q hq
    iexists _; unfold owns; iexists _; isplitr
    swap; · iexact H20
    ipureintro; rfl

end Cert.Att

end
-- ==== Proof.AttFrame.lean ====
/- The run of the attention launch: the steps carry their blocks to one another, and the arguments end as they began. -/
module

public import proofs.«01_k».proof.Proof.AttStep
public import proofs.«01_k».proof.Proof.Gen.KernelIdeal.Frame

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two buffers the steps keep between them. -/
abbrev scM0 : Memref sig .tc .vmem S2x256x2048 .bf16 := Memref.whole cc0_scratch0
abbrev scM1 : Memref sig .tc .vmem S264x1024 .f32 := Memref.whole cc0_scratch1

theorem PhiA_eq (c : Dev nD) : (Pipeline.ΦA spec0 c : sProp 𝕄)
    = iprop(((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The block step `t` leaves for the next one. -/
def blk (c : Dev nD) (t : Fin cfg0.N) : Vec F S1x256x2048 .bf16 :=
  block (BitVec.ofNat 32 (grid0.coords t 0).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- What the step finds in the half it projects: zeros at the first step, the block of the step before at the others. -/
def prev (c : Dev nD) (t : Fin cfg0.N) : Vec F S1x256x2048 .bf16 :=
  if h : t.val = 0 then half 1 k0_pay2 else blk m c ⟨t.val - 1, by omega⟩

/-- What the step stores into the output. -/
def outF (c : Dev nD) (t : Fin cfg0.N) : Vec F S256x2048 .f32 := proj (prev m c t) (iblk m c 14 t) (iblk m c 15 t) (iblk m c 16 t)

/-- What is known of the carried buffer before step `n`: its half holds the block of the step before. -/
def kept (c : Dev nD) (n : ℕ) (y : Vec F S2x256x2048 .bf16) : Prop :=
  ∀ (k : Fin cfg0.N), k.val + 1 = n → half ⟨k.val % 2, Nat.mod_lt _ (by norm_num)⟩ y = blk m c k

/-- The invariant before step `n`. -/
def PhiS (c : Dev nD) (n : ℕ) : sProp 𝕄 :=
  iprop(((∃ y, ⌜kept m c n y⌝ ∗ owns (c : Thread nD τ) scM0 fullShare y) ∗ (∃ u, owns (c : Thread nD τ) scM1 fullShare u)) ∗ (∃ r, prngReg c r))

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outF m c t
    | ⟨n + 18, h⟩ => absurd (show n + 18 < 18 from h) (by omega)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = outF m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl
theorem live_10 : ∀ t : Fin cfg0.N, cfg0.idle 10 (grid0.coords t) = false := fun _ => rfl
theorem live_11 : ∀ t : Fin cfg0.N, cfg0.idle 11 (grid0.coords t) = false := fun _ => rfl
theorem live_12 : ∀ t : Fin cfg0.N, cfg0.idle 12 (grid0.coords t) = false := fun _ => rfl
theorem live_13 : ∀ t : Fin cfg0.N, cfg0.idle 13 (grid0.coords t) = false := fun _ => rfl
theorem live_14 : ∀ t : Fin cfg0.N, cfg0.idle 14 (grid0.coords t) = false := fun _ => rfl
theorem live_15 : ∀ t : Fin cfg0.N, cfg0.idle 15 (grid0.coords t) = false := fun _ => rfl
theorem live_16 : ∀ t : Fin cfg0.N, cfg0.idle 16 (grid0.coords t) = false := fun _ => rfl
theorem live_17 : ∀ t : Fin cfg0.N, cfg0.idle 17 (grid0.coords t) = false := fun _ => rfl

theorem coords_eq (t : Fin cfg0.N) : (grid0.coords t 0).val = t.val := by
  have ht : t.val < 65 := Nat.lt_of_lt_of_eq t.isLt N_0
  have e0 : (grid0.coords t 0).val = t.val / 1 % 65 := Pipeline.Grid.coords_val t 0 (by decide) rfl
  omega

theorem first_iff : ∀ t : Fin cfg0.N, firstStep (grid0.coords t) ↔ t.val = 0 := fun t => by
  have ht : t.val < 65 := Nat.lt_of_lt_of_eq t.isLt N_0
  have e0 : (grid0.coords t 0).val = t.val := coords_eq t
  simp only [firstStep, e0]
  word_cmp

instance (i : grid0.Coords) : Decidable (firstStep i) := inferInstanceAs (Decidable (_ = _))

/-- What a step finds in the half it projects is `prev`. -/
theorem prev_of (c : Dev nD) (t : Fin cfg0.N) (y : Vec F S2x256x2048 .bf16) (hy : kept m c t.val y) (p : Fin 2)
    (hp : p.val = 1 - (grid0.coords t 0).val % 2) :
    half p (if firstStep (grid0.coords t) then k0_pay2 else y) = prev m c t := by
  rw [coords_eq t] at hp
  by_cases h0 : t.val = 0
  · rw [if_pos ((first_iff t).mpr h0), prev, dif_pos h0]
    exact congrArg (fun p => half p k0_pay2) (Fin.ext (by rw [hp, h0]; rfl))
  · rw [if_neg (fun h => h0 ((first_iff t).mp h)), prev, dif_neg h0, ← hy ⟨t.val - 1, by omega⟩ (by show t.val - 1 + 1 = t.val; omega)]
    exact congrArg (fun p => half p y) (Fin.ext (by rw [hp]; show 1 - t.val % 2 = (t.val - 1) % 2; omega))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 4800000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (st0_0 t) fullShare ((dats m 0 c).after 0 t) from by
    unfold Dat.leavesExact; rw [live_0 t], after_0]
  rw [show (dats m 0 c).leavesExact 1 t = owns (c : Thread nD τ) (st0_1 t) fullShare ((dats m 0 c).after 1 t) from by
    unfold Dat.leavesExact; rw [live_1 t], after_1]
  rw [show (dats m 0 c).leavesExact 2 t = owns (c : Thread nD τ) (st0_2 t) fullShare ((dats m 0 c).after 2 t) from by
    unfold Dat.leavesExact; rw [live_2 t], after_2]
  rw [show (dats m 0 c).leavesExact 3 t = owns (c : Thread nD τ) (st0_3 t) fullShare ((dats m 0 c).after 3 t) from by
    unfold Dat.leavesExact; rw [live_3 t], after_3]
  rw [show (dats m 0 c).leavesExact 4 t = owns (c : Thread nD τ) (st0_4 t) fullShare ((dats m 0 c).after 4 t) from by
    unfold Dat.leavesExact; rw [live_4 t], after_4]
  rw [show (dats m 0 c).leavesExact 5 t = owns (c : Thread nD τ) (st0_5 t) fullShare ((dats m 0 c).after 5 t) from by
    unfold Dat.leavesExact; rw [live_5 t], after_5]
  rw [show (dats m 0 c).leavesExact 6 t = owns (c : Thread nD τ) (st0_6 t) fullShare ((dats m 0 c).after 6 t) from by
    unfold Dat.leavesExact; rw [live_6 t], after_6]
  rw [show (dats m 0 c).leavesExact 7 t = owns (c : Thread nD τ) (st0_7 t) fullShare ((dats m 0 c).after 7 t) from by
    unfold Dat.leavesExact; rw [live_7 t], after_7]
  rw [show (dats m 0 c).leavesExact 8 t = owns (c : Thread nD τ) (st0_8 t) fullShare ((dats m 0 c).after 8 t) from by
    unfold Dat.leavesExact; rw [live_8 t], after_8]
  rw [show (dats m 0 c).leavesExact 9 t = owns (c : Thread nD τ) (st0_9 t) fullShare ((dats m 0 c).after 9 t) from by
    unfold Dat.leavesExact; rw [live_9 t], after_9]
  rw [show (dats m 0 c).leavesExact 10 t = owns (c : Thread nD τ) (st0_10 t) fullShare ((dats m 0 c).after 10 t) from by
    unfold Dat.leavesExact; rw [live_10 t], after_10]
  rw [show (dats m 0 c).leavesExact 11 t = owns (c : Thread nD τ) (st0_11 t) fullShare ((dats m 0 c).after 11 t) from by
    unfold Dat.leavesExact; rw [live_11 t], after_11]
  rw [show (dats m 0 c).leavesExact 12 t = owns (c : Thread nD τ) (st0_12 t) fullShare ((dats m 0 c).after 12 t) from by
    unfold Dat.leavesExact; rw [live_12 t], after_12]
  rw [show (dats m 0 c).leavesExact 13 t = owns (c : Thread nD τ) (st0_13 t) fullShare ((dats m 0 c).after 13 t) from by
    unfold Dat.leavesExact; rw [live_13 t], after_13]
  rw [show (dats m 0 c).leavesExact 14 t = owns (c : Thread nD τ) (st0_14 t) fullShare ((dats m 0 c).after 14 t) from by
    unfold Dat.leavesExact; rw [live_14 t], after_14]
  rw [show (dats m 0 c).leavesExact 15 t = owns (c : Thread nD τ) (st0_15 t) fullShare ((dats m 0 c).after 15 t) from by
    unfold Dat.leavesExact; rw [live_15 t], after_15]
  rw [show (dats m 0 c).leavesExact 16 t = owns (c : Thread nD τ) (st0_16 t) fullShare ((dats m 0 c).after 16 t) from by
    unfold Dat.leavesExact; rw [live_16 t], after_16]
  rw [show (dats m 0 c).leavesExact 17 t = owns (c : Thread nD τ) (st0_17 t) fullShare ((dats m 0 c).after 17 t) from by
    unfold Dat.leavesExact; rw [live_17 t], after_17]
  unfold PhiS
  iintro ⟨⟨⟨⟨%y, %hy, HY⟩, ⟨%u, HU⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (step c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y u ⟨1 - (grid0.coords t 0).val % 2, by omega⟩
    ⟨(grid0.coords t 0).val % 2, Nat.mod_lt _ (by norm_num)⟩ rfl rfl (prev m c t) (prev_of m c t y hy _ rfl) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [HY]; · iexact HY
  isplitl [HU]; · iexact HU
  iintro ⟨H0, H1, H2, H3, H4, H5, H6, H7, H8, H9, H10, H11, H12, H13, H14, H15, H16, H17, ⟨%y', %hy', HY⟩, ⟨%u', HU⟩⟩
  isplitl [HY HU Hg]
  · isplitl [HY HU]
    · isplitl [HY]
      · iexists _; isplitr
        swap; · iexact HY
        ipureintro
        intro k hk
        obtain rfl : k = t := Fin.ext (by omega)
        refine Eq.trans ?_ hy'
        exact congrArg (fun p => half p y') (Fin.ext (by show k.val % 2 = (grid0.coords k 0).val % 2; rw [coords_eq k]))
      iexists _; iexact HU
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA_eq]
  unfold PhiS
  iintro ⟨⟨⟨%y, HY⟩, HU⟩, Hg⟩
  isplitl [HY HU]
  · isplitl [HY]
    · iexists _; isplitr
      swap; · iexact HY
      ipureintro; intro k hk; omega
    iexact HU
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨⟨%y, %hy, HY⟩, HU⟩, Hg⟩
  isplitl [HY HU]
  · isplitl [HY]
    · iexists _; iexact HY
    iexact HU
  iexact Hg

set_option backward.isDefEq.respectTransparency.types false in
/-- The launch: it ends, with every array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they began, and every counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main_quiescent m ρ)

end Cert.Att

end
-- ==== Proof.AttValue.lean ====
/- What the attention call leaves: each step's block is a tile of the rows the output product takes, and the step after
   it writes that tile's results. -/
module

public import proofs.«01_k».proof.Proof.AttBlocks
public import proofs.«01_k».proof.Proof.AttBiasTop
public import proofs.«01_k».proof.Proof.AttHead
public import proofs.«01_k».proof.Proof.AttFrame

@[expose] public section

set_option maxRecDepth 16384

noncomputable section

namespace Cert.Att.Value

open Cert.KernelIdeal Cert.KernelIdeal.Gen Idealize.ShloMosaic Idealize.ShloMosaic.TcCoe Idealize.SL.Sem
open Cert.Att Cert.Att.Blocks

variable (m : (ℓ : Loc nD τ sig) → Buf (Elt Ideal) ℓ)

theorem ix3_congr {a b c : ℕ} {α : Type} (X : (⟨3, ![a, b, c]⟩ : Shape).Idx → α) {i i' : Fin a} {j j' : Fin b} {k k' : Fin c}
    (hi : i.val = i'.val) (hj : j.val = j'.val) (hk : k.val = k'.val) : X (ix3 i j k) = X (ix3 i' j' k') := by
  rw [Fin.ext hi, Fin.ext hj, Fin.ext hk]

theorem cols_apply (h : Fin 8) (x : Vec Ideal S256x1024 .bf16) (r : Fin 256) (d : Fin 128) :
    cols h x (ix2 r d) = x (ix2 r ⟨128 * h.val + d.val, by omega⟩) := rfl

variable (c : Dev nD) (t : Fin cfg0.N)

/-- The batch row of a step's tile. -/
def batch (t : ℕ) : Fin 4 := ⟨tile t / 16, by have := tile_lt t; omega⟩

/-- The position of row `r` of a step's tile. -/
def pos (t : ℕ) (r : Fin 256) : Fin 4096 := ⟨place t * 256 + r.val, by unfold place; omega⟩

theorem at0 (r : Fin 256) (k : Fin 1024) :
    (iblk m c 0 t : Vec Ideal S256x1024 .bf16) (ix2 r k) = aQ m c (ix3 (batch t.val) (pos t.val r) ⟨k.val, by omega⟩) := by
  have ht := tile_lt t.val
  refine (view0 _ t r k).trans ((arrQ m c _ _).trans (ix3_congr (aQ m c) ?_ ?_ ?_)) <;> dsimp only [batch, pos, place] <;> omega

theorem at1 (r : Fin 256) (k : Fin 1024) (s : Fin 4096) (hn : 2 ≤ place t.val + 0) (hs : s.val = (place t.val + 0 - 2) * 256 + r.val) :
    (iblk m c 1 t : Vec Ideal S256x1024 .bf16) (ix2 r k) = aQ m c (ix3 (batch t.val) s ⟨1024 + k.val, by omega⟩) := by
  have ht := tile_lt t.val
  have hp : place t.val < 16 := by unfold place; omega
  refine (view1 _ t r k).trans ((arrQ m c _ _).trans (ix3_congr (aQ m c) ?_ ?_ ?_)) <;> dsimp only [batch, near, place] at * <;> omega

theorem at2 (r : Fin 256) (k : Fin 1024) (s : Fin 4096) (hn : 2 ≤ place t.val + 1) (hs : s.val = (place t.val + 1 - 2) * 256 + r.val) :
    (iblk m c 2 t : Vec Ideal S256x1024 .bf16) (ix2 r k) = aQ m c (ix3 (batch t.val) s ⟨1024 + k.val, by omega⟩) := by
  have ht := tile_lt t.val
  have hp : place t.val < 16 := by unfold place; omega
  refine (view2 _ t r k).trans ((arrQ m c _ _).trans (ix3_congr (aQ m c) ?_ ?_ ?_)) <;> dsimp only [batch, near, place] at * <;> omega

theorem at3 (r : Fin 256) (k : Fin 1024) (s : Fin 4096) (hn : 2 ≤ place t.val + 2) (hs : s.val = (place t.val + 2 - 2) * 256 + r.val) :
    (iblk m c 3 t : Vec Ideal S256x1024 .bf16) (ix2 r k) = aQ m c (ix3 (batch t.val) s ⟨1024 + k.val, by omega⟩) := by
  have ht := tile_lt t.val
  have hp : place t.val < 16 := by unfold place; omega
  refine (view3 _ t r k).trans ((arrQ m c _ _).trans (ix3_congr (aQ m c) ?_ ?_ ?_)) <;> dsimp only [batch, near, place] at * <;> omega

theorem at4 (r : Fin 256) (k : Fin 1024) (s : Fin 4096) (hn : 2 ≤ place t.val + 0) (hs : s.val = (place t.val + 0 - 2) * 256 + r.val) :
    (iblk m c 4 t : Vec Ideal S256x1024 .bf16) (ix2 r k) = aQ m c (ix3 (batch t.val) s ⟨2048 + k.val, by omega⟩) := by
  have ht := tile_lt t.val
  have hp : place t.val < 16 := by unfold place; omega
  refine (view4 _ t r k).trans ((arrQ m c _ _).trans (ix3_congr (aQ m c) ?_ ?_ ?_)) <;> dsimp only [batch, near, place] at * <;> omega

theorem at5 (r : Fin 256) (k : Fin 1024) (s : Fin 4096) (hn : 2 ≤ place t.val + 1) (hs : s.val = (place t.val + 1 - 2) * 256 + r.val) :
    (iblk m c 5 t : Vec Ideal S256x1024 .bf16) (ix2 r k) = aQ m c (ix3 (batch t.val) s ⟨2048 + k.val, by omega⟩) := by
  have ht := tile_lt t.val
  have hp : place t.val < 16 := by unfold place; omega
  refine (view5 _ t r k).trans ((arrQ m c _ _).trans (ix3_congr (aQ m c) ?_ ?_ ?_)) <;> dsimp only [batch, near, place] at * <;> omega

theorem at6 (r : Fin 256) (k : Fin 1024) (s : Fin 4096) (hn : 2 ≤ place t.val + 2) (hs : s.val = (place t.val + 2 - 2) * 256 + r.val) :
    (iblk m c 6 t : Vec Ideal S256x1024 .bf16) (ix2 r k) = aQ m c (ix3 (batch t.val) s ⟨2048 + k.val, by omega⟩) := by
  have ht := tile_lt t.val
  have hp : place t.val < 16 := by unfold place; omega
  refine (view6 _ t r k).trans ((arrQ m c _ _).trans (ix3_congr (aQ m c) ?_ ?_ ?_)) <;> dsimp only [batch, near, place] at * <;> omega

theorem cat3_of (A B C : Vec Ideal S256x128 .bf16) (P : ℕ) (hP : P < 16) (f : Fin 4096 → EReal) (j : Fin 768) (d : Fin 128)
    (HA : ∀ (r : Fin 256) (s : Fin 4096), 2 ≤ P + 0 → s.val = (P + 0 - 2) * 256 + r.val → A (ix2 r d) = f s)
    (HB : ∀ (r : Fin 256) (s : Fin 4096), 2 ≤ P + 1 → s.val = (P + 1 - 2) * 256 + r.val → B (ix2 r d) = f s)
    (HC : ∀ (r : Fin 256) (s : Fin 4096), 2 ≤ P + 2 → s.val = (P + 2 - 2) * 256 + r.val → C (ix2 r d) = f s)
    (hj : 512 ≤ P * 256 + j.val) : cat3 A B C j d = f ⟨min (P * 256 + j.val - 512) 4095, by omega⟩ := by
  have hj' := j.isLt
  unfold cat3
  split_ifs with h h'
  · exact HA ⟨j.val, h⟩ _ (by omega) (by dsimp only; omega)
  · exact HB ⟨j.val - 256, h'⟩ _ (by omega) (by dsimp only; omega)
  · exact HC ⟨j.val - 256 - 256, by omega⟩ _ (by omega) (by dsimp only; omega)

/-- A head's row, from what its windows hold. -/
theorem head_gen (q : Goal.Qkv) (rb : Goal.Rel) (hr : Head.RealArgs q rb) (b : Fin 4) (P : ℕ) (hP : P < 16) (s : Fin 4096) (r : Fin 256) (hs : s.val = P * 256 + r.val)
    (h : Fin 8) (d : Fin 128) (x1 x2 x3 x4 x5 x6 x7 : Vec Ideal S256x1024 .bf16) (x8 : Vec Ideal S1x8x256x768 .f32)
    (H1 : ∀ k : Fin 1024, x1 (ix2 r k) = q (ix3 b s ⟨k.val, by omega⟩))
    (H2 : ∀ (r : Fin 256) (k : Fin 1024) (s : Fin 4096), 2 ≤ P + 0 → s.val = (P + 0 - 2) * 256 + r.val → x2 (ix2 r k) = q (ix3 b s ⟨1024 + k.val, by omega⟩))
    (H3 : ∀ (r : Fin 256) (k : Fin 1024) (s : Fin 4096), 2 ≤ P + 1 → s.val = (P + 1 - 2) * 256 + r.val → x3 (ix2 r k) = q (ix3 b s ⟨1024 + k.val, by omega⟩))
    (H4 : ∀ (r : Fin 256) (k : Fin 1024) (s : Fin 4096), 2 ≤ P + 2 → s.val = (P + 2 - 2) * 256 + r.val → x4 (ix2 r k) = q (ix3 b s ⟨1024 + k.val, by omega⟩))
    (H5 : ∀ (r : Fin 256) (k : Fin 1024) (s : Fin 4096), 2 ≤ P + 0 → s.val = (P + 0 - 2) * 256 + r.val → x5 (ix2 r k) = q (ix3 b s ⟨2048 + k.val, by omega⟩))
    (H6 : ∀ (r : Fin 256) (k : Fin 1024) (s : Fin 4096), 2 ≤ P + 1 → s.val = (P + 1 - 2) * 256 + r.val → x6 (ix2 r k) = q (ix3 b s ⟨2048 + k.val, by omega⟩))
    (H7 : ∀ (r : Fin 256) (k : Fin 1024) (s : Fin 4096), 2 ≤ P + 2 → s.val = (P + 2 - 2) * 256 + r.val → x7 (ix2 r k) = q (ix3 b s ⟨2048 + k.val, by omega⟩))
    (H8 : ∀ j : Fin 768, x8 (ix4 0 h r j) = if hj : (64 * (r.val / 64) ≤ j.val ∧ j.val < 64 * (r.val / 64) + 576) ∧ 512 ≤ P * 256 + j.val
      then Goal.bias rb h ⟨r.val % 64, by omega⟩ ⟨j.val - 64 * (r.val / 64), by omega⟩ else ⊥) :
    head x1 x2 x3 x4 x5 x6 x7 x8 h (ix3 0 r d) = Goal.attend (Goal.score q rb b s h) (Goal.val q b s h d) := by
  have hsP : P = s.val / 256 := by omega
  subst hsP
  refine Head.head_apply q rb hr b s h d r (by omega) x1 x2 x3 x4 x5 x6 x7 x8
    (fun d => (cols_apply h x1 r d).trans (H1 _)) (fun j d hj => ?_) (fun j d hj => ?_) H8
  · exact cat3_of _ _ _ (s.val / 256) hP (fun s => q (ix3 b s ⟨1024 + (128 * h.val + d.val), by omega⟩)) j d
      (fun r s hn hs => (cols_apply h x2 r d).trans (H2 r _ s hn hs)) (fun r s hn hs => (cols_apply h x3 r d).trans (H3 r _ s hn hs))
      (fun r s hn hs => (cols_apply h x4 r d).trans (H4 r _ s hn hs)) hj
  · exact cat3_of _ _ _ (s.val / 256) hP (fun s => q (ix3 b s ⟨2048 + (128 * h.val + d.val), by omega⟩)) j d
      (fun r s hn hs => (cols_apply h x5 r d).trans (H5 r _ s hn hs)) (fun r s hn hs => (cols_apply h x6 r d).trans (H6 r _ s hn hs))
      (fun r s hn hs => (cols_apply h x7 r d).trans (H7 r _ s hn hs)) hj

theorem bias_at (h : Fin 8) (r : Fin 256) (j : Fin 768) : (iblk m c 7 t : Vec Ideal S1x8x256x768 .f32) (ix4 0 h r j) =
    if hj : (64 * (r.val / 64) ≤ j.val ∧ j.val < 64 * (r.val / 64) + 576) ∧ 512 ≤ place t.val * 256 + j.val
      then Goal.bias (aR m c) h ⟨r.val % 64, by omega⟩ ⟨j.val - 64 * (r.val / 64), by omega⟩ else ⊥ :=
  (view7 _ t h r j).trans (Bias.bias_table m c (place t.val) h r j)

theorem head_at (hr : Head.RealArgs (aQ m c) (aR m c)) (r : Fin 256) (h : Fin 8) (d : Fin 128) :
    head (iblk m c 0 t) (iblk m c 1 t) (iblk m c 2 t) (iblk m c 3 t) (iblk m c 4 t) (iblk m c 5 t) (iblk m c 6 t) (iblk m c 7 t) h (ix3 0 r d) =
      Goal.attend (Goal.score (aQ m c) (aR m c) (batch t.val) (pos t.val r) h) (Goal.val (aQ m c) (batch t.val) (pos t.val r) h d) :=
  head_gen (aQ m c) (aR m c) hr (batch t.val) (place t.val) (by unfold place; omega) (pos t.val r) r rfl h d _ _ _ _ _ _ _ _
    (fun k => at0 m c t r k) (fun r k s hn hs => at1 m c t r k s hn hs) (fun r k s hn hs => at2 m c t r k s hn hs) (fun r k s hn hs => at3 m c t r k s hn hs)
    (fun r k s hn hs => at4 m c t r k s hn hs) (fun r k s hn hs => at5 m c t r k s hn hs) (fun r k s hn hs => at6 m c t r k s hn hs)
    (fun j => bias_at m c t h r j)

theorem urows_lt (a : BitVec 32) (x10 x11 : Vec Ideal S256x1024 .f32) (x12 x13 : Vec Ideal S8x1024 .f32) (R : Fin 264) (j : Fin 1024) (h : R.val < 8) :
    urows a x10 x11 x12 x13 (ix2 R j) = k0_pay6 a x12 x13 (ix2 (⟨R.val, h⟩ : Fin 8) j) := by
  unfold urows
  exact dif_pos h

theorem urows_ge (a : BitVec 32) (x10 x11 : Vec Ideal S256x1024 .f32) (x12 x13 : Vec Ideal S8x1024 .f32) (R : Fin 264) (j : Fin 1024) (h : ¬ R.val < 8) :
    urows a x10 x11 x12 x13 (ix2 R j) = k0_pay7 x10 x11 (ix2 (⟨R.val - 8, by omega⟩ : Fin 256) j) := by
  unfold urows
  exact dif_neg h

/-- The gated rows of a step. -/
theorem gate_at (R : Fin 264) (hR : 6 ≤ R.val) (j : Fin 1024) :
    urows (BitVec.ofNat 32 t.val) (iblk m c 9 t) (iblk m c 10 t) (iblk m c 11 t) (iblk m c 12 t) (ix2 R j) =
      Goal.gated (aA m c) (batch t.val) (place t.val * 256 + (R.val - 6)) j := by
  have ht := tile_lt t.val
  have ht' : t.val < 65 := t.isLt
  have hp : place t.val < 16 := by unfold place; omega
  have hR' := R.isLt
  unfold Goal.gated
  by_cases h : R.val < 8
  · refine (urows_lt _ _ _ _ _ R j h).trans ?_
    refine (pay6 t.val ht' _ _ _ _).trans ?_
    by_cases h0 : min t.val 63 % 16 = 0
    · rw [if_pos h0, dif_neg]
      have : place t.val = 0 := h0
      omega
    · rw [if_neg h0, dif_pos (by have : place t.val ≠ 0 := h0; omega)]
      have h0' : place t.val ≠ 0 := h0
      refine congrArg₂ (· * ·) ?_ ?_
      · refine (view11 _ t _ j).trans ((arrA m c _ _).trans (ix3_congr (aA m c) ?_ ?_ ?_)) <;> dsimp only [batch, place] at * <;> omega
      · refine (view12 _ t _ j).trans ((arrA m c _ _).trans (ix3_congr (aA m c) ?_ ?_ ?_)) <;> dsimp only [batch, place] at * <;> omega
  · refine (urows_ge _ _ _ _ _ R j h).trans ?_
    refine (pay7 _ _ _ _).trans ?_
    rw [dif_pos (by omega)]
    refine congrArg₂ (· * ·) ?_ ?_
    · refine (view9 _ t _ j).trans ((arrA m c _ _).trans (ix3_congr (aA m c) ?_ ?_ ?_)) <;> dsimp only [batch, place] at * <;> omega
    · refine (view10 _ t _ j).trans ((arrA m c _ _).trans (ix3_congr (aA m c) ?_ ?_ ?_)) <;> dsimp only [batch, place] at * <;> omega

theorem conv_at (r : Fin 256) (j : Fin 1024) :
    conv (BitVec.ofNat 32 t.val) (iblk m c 8 t) (iblk m c 9 t) (iblk m c 10 t) (iblk m c 11 t) (iblk m c 12 t) (iblk m c 13 t) (ix3 0 r j) =
      Goal.conv (aA m c) (aC m c) (batch t.val) (pos t.val r) j := by
  have ht := tile_lt t.val
  have hp : place t.val < 16 := by unfold place; omega
  refine (pay8 _ _ _ _ _ r j).trans ?_
  unfold Goal.conv
  have e0 : (iblk m c 8 t : Vec Ideal S256x1024 .f32) (ix2 r j) = aA m c (ix3 (batch t.val) (pos t.val r) ⟨j.val, by omega⟩) := by
    refine (view8 _ t r j).trans ((arrA m c _ _).trans (ix3_congr (aA m c) ?_ ?_ ?_)) <;> dsimp only [batch, pos, place] <;> omega
  have ew (n : Fin 3) : (iblk m c 13 t : Vec Ideal S3x1024 .f32) (ix2 n j) = aC m c (ix3 0 n j) := (view13 _ t n j).trans (arrC m c n j)
  have eu (o : Fin 9) (ho : 6 ≤ o.val) : from_ o (urows (BitVec.ofNat 32 t.val) (iblk m c 9 t) (iblk m c 10 t) (iblk m c 11 t) (iblk m c 12 t)) (ix2 r j) =
      Goal.gated (aA m c) (batch t.val) ((pos t.val r).val + (o.val - 6)) j := by
    refine (gate_at m c t ⟨o.val + r.val, by omega⟩ (by dsimp only; omega) j).trans ?_
    refine congrArg (fun p => Goal.gated (aA m c) (batch t.val) p j) ?_
    show place t.val * 256 + (o.val + r.val - 6) = place t.val * 256 + r.val + (o.val - 6)
    omega
  rw [e0, ew, ew, ew]
  exact congrArg _ (congrArg₂ (· + ·) (congrArg₂ (· + ·) (congrArg _ (eu 6 (by decide))) (congrArg _ (eu 7 (by decide)))) (congrArg _ (eu 8 (by decide))))

/-- The block of a step is its tile of the rows. -/
theorem blk_at (hr : Head.RealArgs (aQ m c) (aR m c)) (r : Fin 256) (k : Fin 2048) :
    blk m c t (ix3 0 r k) = Goal.row (aA m c) (aQ m c) (aC m c) (aR m c) (batch t.val) (pos t.val r) k := by
  unfold blk Goal.row
  rw [coords_eq t]
  by_cases hk : k.val < 1024
  · rw [dif_pos hk]
    exact (dif_pos hk).trans (conv_at m c t r ⟨k.val, hk⟩)
  · rw [dif_neg hk]
    exact (dif_neg hk).trans (head_at m c t hr r _ _)

/-- The result at row `R` and column `j`. -/
def outAt (R : Fin 16384) (j : Fin 2048) : EReal :=
  Goal.out (aA m c) (aQ m c) (aX m c) (aG m c) (aC m c) (aR m c) (aW m c) ⟨R.val / 4096, by omega⟩ ⟨R.val % 4096, by omega⟩ j

theorem outF_at (hr : Head.RealArgs (aQ m c) (aR m c)) (ht : t.val ≠ 0) (r : Fin 256) (j : Fin 2048) :
    outF m c t (ix2 r j) = outAt m c ⟨(t.val - 1) * 256 + r.val, by have : t.val < 65 := t.isLt; omega⟩ j := by
  have ht' : t.val < 65 := t.isLt
  have hb : batch (t.val - 1) = ⟨((t.val - 1) * 256 + r.val) / 4096, by omega⟩ := Fin.ext (by dsimp only [batch, tile]; omega)
  have hs : pos (t.val - 1) r = ⟨((t.val - 1) * 256 + r.val) % 4096, by omega⟩ := Fin.ext (by dsimp only [pos, place, tile]; omega)
  unfold outF outAt Goal.out
  refine (proj_apply _ _ _ _ r j).trans ?_
  have eg (i : Fin 2048) : (iblk m c 16 t : Vec Ideal S1x2048 .f32) (ix2 0 i) = aG m c (ix3 0 1 i) := (view16 _ t i).trans (arrG m c i)
  have ew (k i : Fin 2048) : (iblk m c 14 t : Vec Ideal S1x2048x2048 .bf16) (ix3 0 k i) = aW m c (ix3 0 k i) := (view14 _ t k i).trans (arrW m c k i)
  have ey (k : Fin 2048) : prev m c t (ix3 0 r k) = Goal.row (aA m c) (aQ m c) (aC m c) (aR m c)
      ⟨((t.val - 1) * 256 + r.val) / 4096, by omega⟩ ⟨((t.val - 1) * 256 + r.val) % 4096, by omega⟩ k := by
    unfold prev
    rw [dif_neg ht, ← hb, ← hs]
    exact blk_at m c ⟨t.val - 1, _⟩ hr r k
  refine congrArg₂ (· + ·) ((view15 _ t r j).trans (arrX m c _ j)) ?_
  refine congrArg₂ (fun x g => Cert.Rows.rms x g j) (funext fun i => Finset.sum_congr rfl fun k _ => ?_) (funext fun i => eg i)
  exact congrArg₂ (· * ·) (ey k) (ew k i)

/-- What the output array ends holding. -/
def result : FVec Ideal S16384x2048 .f32 := fun i => outAt m c (i 0) (i 1)

theorem flush_pos : ∀ t : Fin cfg0.N, (cfg0.win 17).flush t = true → t.val ≠ 0 := by decide +kernel

theorem emb_at (y : S256x2048.Idx) : result m c (((cfg0.win 17).blk t).view.emb y) =
    outAt m c ⟨(t.val - 1) * 256 + (y 0).val, by have : t.val < 65 := t.isLt; have : (y 0).val < 256 := (y 0).isLt; omega⟩ (y 1) := by
  unfold result
  refine congrArg₂ (outAt m c) (Fin.ext ?_) (Fin.ext ?_)
  · blk_simp [idx17 t]
  · blk_simp [idx17 t]

theorem arr_eq (hr : Head.RealArgs (aQ m c) (aR m c)) : (dats m 0 c).arrAt 17 cfg0.N = result m c := by
  refine (dats m 0 c).arrAt_eq_of_covers 17 (result m c) (by decide +kernel) fun t hf y => ?_
  rw [after_17]
  refine Eq.trans ?_ (emb_at m c t y).symm
  refine Eq.trans ?_ (outF_at m c t hr (flush_pos t hf) (y 0) (y 1))
  exact congrArg (outF m c t) (ValueIdx.eq_ix2 y)

end Cert.Att.Value

end
-- ==== Proof.AttPre.lean ====
/- What the precondition of the attention's value claim says: the queries, the keys and the bias table are real numbers. -/
module

public import proofs.«01_k».proof.Pre_finite_scores
public import proofs.«01_k».proof.Proof.AttHead
public import Idealize.ShloMosaic.Lib.Tactic

@[expose] public section

noncomputable section

namespace Cert.Att.Pre

open Cert.Pre_finite_scores Idealize.ShloMosaic

instance facts : Cert.Pre_finite_scores.Facts where
  slices_S4x4096x3072_S4x4096x2048_0_0_0 := by decide
  bitsLt_bf16_f32 := by decide
  bcast_S_S4x4096x2048 := by decide
  bcast_S_S1x8x320 := by decide

theorem ofBits_inf : Ideal.ofBits .f32 0x7F800000#32 = ⊤ := by
  simp [Ideal.ofBits, Ideal.ieee]

/-- A number whose size compares below `+∞` is real. -/
theorem real_of (x : EReal) (h : Ideal.cmp .olt (max x (-x)) (Ideal.ofBits .f32 0x7F800000#32) = 1#1) : ∃ z : ℝ, x = (z : EReal) := by
  rw [ofBits_inf] at h
  induction x using EReal.rec with
  | bot => simp [Ideal.cmp] at h
  | coe z => exact ⟨z, rfl⟩
  | top => simp [Ideal.cmp] at h

theorem real_args (a0 : FVec Ideal S4x4096x3072 .f32) (q : FVec Ideal S4x4096x3072 .bf16) (a2 : FVec Ideal S4x4096x2048 .f32)
    (a3 : FVec Ideal S2x4x2048 .f32) (a4 : FVec Ideal S1x3x1024 .f32) (rb : FVec Ideal S1x8x320 .f32) (a6 : FVec Ideal S1x2048x2048 .bf16)
    (h1 : (fn (F := Ideal) a0 q a2 a3 a4 rb a6).1 = fun _ => 1#1) (h2 : (fn (F := Ideal) a0 q a2 a3 a4 rb a6).2 = fun _ => 1#1) :
    Head.RealArgs q rb := by
  refine ⟨fun b s k hk => real_of _ ?_, fun h k => real_of _ ?_⟩
  · refine Eq.trans ?_ (congrFun h1 (ix3 b s ⟨k.val, hk⟩))
    pointwise [fn]
    rfl
  · refine Eq.trans ?_ (congrFun h2 (ix3 0 h k))
    pointwise [fn]
    rfl

end Cert.Att.Pre

end
-- ==== Proof.AttRefIdx.lean ====
/- The words of the reference: which table entry a query takes at a band position, and which positions are keys. -/
module

public import proofs.«01_k».proof.Proof.AttGoal
public import proofs.«01_k».proof.Proof.Gen.ReferenceIdeal.Run
public import Idealize.ShloMosaic.Lib.Pipeline.Value
public import Idealize.ShloMosaic.Lib.Tactic

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Rows

def posn : IVec S1x576 32 := broadcastInDim S1x576 ![1] bcast_S576_S1x576_1 (iotaInDim S576 32 0)
def dist : IVec S64x576 32 := addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 posn)))) (broadcastInDim S64x576 ![] bcast_S_S64x576 (constantI S_ 32 63#32))
def wrapped : IVec S64x576 32 := (select (cmpi .slt dist (broadcastInDim S64x576 ![] bcast_S_S64x576 (constantI S_ 32 0#32))) (addi dist (broadcastInDim S64x576 ![] bcast_S_S64x576 (constantI S_ 32 320#32))) dist)
def chunkOf : IVec S1x576 32 := (select (andi (cmpi .ne (signi posn) (broadcastInDim S1x576 ![] bcast_S_S1x576 (signi (id (constantI S_ 32 64#32))))) (cmpi .ne (Host.remsi posn (broadcastInDim S1x576 ![] bcast_S_S1x576 (id (constantI S_ 32 64#32)))) (broadcastInDim S1x576 ![] bcast_S_S1x576 (constantI S_ 32 0#32)))) (subi (Host.divsi posn (broadcastInDim S1x576 ![] bcast_S_S1x576 (id (constantI S_ 32 64#32)))) (broadcastInDim S1x576 ![] bcast_S_S1x576 (constantI S_ 32 1#32))) (Host.divsi posn (broadcastInDim S1x576 ![] bcast_S_S1x576 (id (constantI S_ 32 64#32)))))
def valid : IVec S64x576 1 := (cmpi .sge (addi (broadcastInDim S64x576 ![0, 1] bcast_S64x1_S64x576_0_1 (broadcastInDim S64x1 ![0] bcast_S64_S64x1_0 (iotaInDim S64 32 0))) (broadcastInDim S64x576 ![0, 1] bcast_S1x576_S64x576_0_1 chunkOf)) (broadcastInDim S64x576 ![] bcast_S_S64x576 (constantI S_ 32 8#32)))

theorem clip_word : ∀ n : Fin 639, (fun w : BitVec 32 => Scalar.select (IntOp.cmpi .slt w 0#32) (w + 320#32) w)
    (IntOp.minsi 256#32 (IntOp.maxsi 4294967233#32 (BitVec.ofNat 32 n.val - 63#32)) + 63#32) = BitVec.ofNat 32 (min 319 n.val) := by
  decide +kernel

theorem sub_word (qi : Fin 64) (i : Fin 576) : (512#32 + BitVec.ofNat 32 qi.val) - BitVec.ofNat 32 i.val = BitVec.ofNat 32 (575 + qi.val - i.val) - 63#32 := by
  apply BitVec.eq_of_toNat_eq
  simp only [BitVec.toNat_sub, BitVec.toNat_add, BitVec.toNat_ofNat]
  omega

theorem dist_apply (qi : Fin 64) (i : Fin 576) : wrapped (ix2 qi i) = BitVec.ofNat 32 (min 319 (575 + qi.val - i.val)) := by
  refine Eq.trans ?_ (clip_word ⟨575 + qi.val - i.val, by omega⟩)
  dsimp only
  rw [← sub_word]
  rfl

theorem chunk_word : ∀ i : Fin 576, chunkOf (ix2 0 i) = BitVec.ofNat 32 (i.val / 64) := by
  decide +kernel

theorem valid_word : ∀ (n : Fin 64) (c : Fin 9), IntOp.cmpi .sge (BitVec.ofNat 32 n.val + BitVec.ofNat 32 c.val) 8#32 = if 8 ≤ n.val + c.val then 1#1 else 0#1 := by
  decide +kernel

theorem valid_apply (n : Fin 64) (i : Fin 576) : valid (ix2 n i) = if 8 ≤ n.val + i.val / 64 then 1#1 else 0#1 := by
  refine Eq.trans ?_ (valid_word n ⟨i.val / 64, by omega⟩)
  unfold valid
  pointwise
  rw [chunk_word]
  rfl

end Cert.ReferenceIdeal.Val

end
-- ==== Proof.AttRefScores.lean ====
/- The reference's result, stage by stage, is the plain formula. -/
module

public import proofs.«01_k».proof.Proof.AttGoal
public import proofs.«01_k».proof.Proof.AttRefIdx
public import Idealize.ShloMosaic.Lib.Pipeline.Value
public import Idealize.ShloMosaic.Lib.Tactic

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Rows

/-- Every query against every key of its band. -/
def scores (Q : FVec Ideal S4x64x64x8x128 .f32) (K : FVec Ideal S4x64x576x8x128 .f32) : FVec Ideal S4x8x64x64x576 .f32 :=
  Host.divf (F := Ideal) (Host.dotGeneral dot_S4x64x64x8x128_S4x64x576x8x128_S4x8x64x64x576_4_4_2_2_031_031 none Q K)
    (broadcastInDim S4x8x64x64x576 ![] bcast_S_S4x8x64x64x576 (Host.sqrt (constant S_ .f32 0x43000000#32)))

theorem root : Ideal.sqrt (Ideal.ofBits .f32 0x43000000#32) = ((Real.sqrt 128 : ℝ) : EReal) := by
  rw [show Ideal.ofBits .f32 0x43000000#32 = ((128 : ℝ) : EReal) by simp [Ideal.ofBits, Ideal.ieee, -EReal.coe_mul]; norm_num, Ideal.sqrt_coe, if_neg (by norm_num)]

theorem scores_apply (Q : FVec Ideal S4x64x64x8x128 .f32) (K : FVec Ideal S4x64x576x8x128 .f32) (b : Fin 4) (h : Fin 8) (n qi : Fin 64) (i : Fin 576) :
    scores Q K (ix5 b h n qi i) = Ideal.div (∑ d : Fin 128, Q (ix5 b n qi h d) * K (ix5 b n i h d)) ((Real.sqrt 128 : ℝ) : EReal) := by
  rw [← root]
  unfold scores
  pointwise

end Cert.ReferenceIdeal.Val

end
-- ==== Proof.AttRefMasked.lean ====
/- The reference's result, stage by stage, is the plain formula. -/
module

public import proofs.«01_k».proof.Proof.AttGoal
public import proofs.«01_k».proof.Proof.AttRefIdx
public import Idealize.ShloMosaic.Lib.Pipeline.Value
public import Idealize.ShloMosaic.Lib.Tactic

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Rows

/-- The scores with the table added, nothing where there is no key. -/
def masked (S : FVec Ideal S4x8x64x64x576 .f32) (B : FVec Ideal S8x64x576 .f32) : FVec Ideal S4x8x64x64x576 .f32 :=
  select (broadcastInDim S4x8x64x64x576 ![0, 1, 2, 3, 4] bcast_S1x1x64x1x576_S4x8x64x64x576_0_1_2_3_4 (broadcastInDim S1x1x64x1x576 ![2, 4] bcast_S64x576_S1x1x64x1x576_2_4 valid))
    (addf S (broadcastInDim S4x8x64x64x576 ![0, 1, 2, 3, 4] bcast_S1x8x1x64x576_S4x8x64x64x576_0_1_2_3_4 (broadcastInDim S1x8x1x64x576 ![1, 3, 4] bcast_S8x64x576_S1x8x1x64x576_1_3_4 B)))
    (broadcastInDim S4x8x64x64x576 ![] bcast_S_S4x8x64x64x576 (id (constant (F := Ideal) S_ .f32 0xFF800000#32)))

theorem masked_apply (S : FVec Ideal S4x8x64x64x576 .f32) (B : FVec Ideal S8x64x576 .f32) (b : Fin 4) (h : Fin 8) (n qi : Fin 64) (i : Fin 576) :
    masked S B (ix5 b h n qi i) = if 8 ≤ n.val + i.val / 64 then S (ix5 b h n qi i) + B (ix3 h qi i) else ⊥ := by
  unfold masked
  pointwise
  rw [valid_apply]
  have e : (id (constant (F := Ideal) S_ .f32 4286578688#32) ix0 : EReal) = ⊥ := by
    show Ideal.ofBits .f32 0xFF800000#32 = ⊥
    simp [Ideal.ofBits, Ideal.ieee]
  rw [e]
  split <;> rfl

end Cert.ReferenceIdeal.Val

end
-- ==== Proof.AttRefMixed.lean ====
/- The reference's result, stage by stage, is the plain formula. -/
module

public import proofs.«01_k».proof.Proof.AttGoal
public import proofs.«01_k».proof.Proof.AttRefIdx
public import Idealize.ShloMosaic.Lib.Pipeline.Value
public import Idealize.ShloMosaic.Lib.Tactic

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Rows

/-- The weighted values, by batch, position and column. -/
def mixed (E : FVec Ideal S4x8x64x64x576 .f32) (V : FVec Ideal S4x64x576x8x128 .f32) : FVec Ideal S4x4096x1024 .f32 :=
  shapeCast _ (transpose S4x64x64x8x128 [0, 1, 4, 2, 3] (Host.dotGeneral dot_S4x64x576x8x128_S4x8x64x64x576_S4x64x8x128x64_2_4_4_3_013_021 none V (Host.divf (F := Ideal) E (broadcastInDim S4x8x64x64x576 ![0, 1, 2, 3, 4] bcast_S4x8x64x64x1_S4x8x64x64x576_0_1_2_3_4 (broadcastInDim S4x8x64x64x1 ![0, 1, 2, 3] bcast_S4x8x64x64_S4x8x64x64x1_0_1_2_3 (Host.reduceAdd E (constant S_ .f32 0x00000000#32) reducesTo_S4x8x64x64x576_S4x8x64x64_d4 h_S_))))) transposes_S4x64x8x128x64_S4x64x64x8x128_0_1_4_2_3) shapeCasts_S4x64x64x8x128_S4x4096x1024

theorem mixed_apply (E : FVec Ideal S4x8x64x64x576 .f32) (V : FVec Ideal S4x64x576x8x128 .f32) (b : Fin 4) (s : Fin 4096) (k : Fin 1024) :
    mixed E V (ix3 b s k) = ∑ i : Fin 576, Ideal.div (E (ix5 b ⟨k.val / 128, by omega⟩ ⟨s.val / 64, by omega⟩ ⟨s.val % 64, by omega⟩ i))
      (∑ i', E (ix5 b ⟨k.val / 128, by omega⟩ ⟨s.val / 64, by omega⟩ ⟨s.val % 64, by omega⟩ i')) * V (ix5 b ⟨s.val / 64, by omega⟩ i ⟨k.val / 128, by omega⟩ ⟨k.val % 128, by omega⟩) := by
  unfold mixed
  pointwise
  exact Finset.sum_congr rfl fun _ _ => mul_comm _ _

end Cert.ReferenceIdeal.Val

end
-- ==== Proof.AttRefConv.lean ====
/- The reference's result, stage by stage, is the plain formula. -/
module

public import proofs.«01_k».proof.Proof.AttGoal
public import proofs.«01_k».proof.Proof.AttRefIdx
public import Idealize.ShloMosaic.Lib.Pipeline.Value
public import Idealize.ShloMosaic.Lib.Tactic

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Rows

/-- The convolution. -/
def convd (a : FVec Ideal S4x4096x3072 .f32) (G : FVec Ideal S4x4098x1024 .f32) (cw : FVec Ideal S1x3x1024 .f32) : FVec Ideal S4x4096x1024 .f32 :=
  (mulf (extractStridedSlice S4x4096x1024 ![0, 0, 0] a slices_S4x4096x3072_S4x4096x1024_0_0_0) (addf (addf (mulf (broadcastInDim S4x4096x1024 ![0, 1, 2] bcast_S1x1x1024_S4x4096x1024_0_1_2 (broadcastInDim S1x1x1024 ![2] bcast_S1024_S1x1x1024_2 (shapeCast S1024 (extractStridedSlice S1x1024 ![0, 0] (shapeCast S3x1024 cw shapeCasts_S1x3x1024_S3x1024) slices_S3x1024_S1x1024_0_0) shapeCasts_S1x1024_S1024))) (extractStridedSlice S4x4096x1024 ![0, 0, 0] G slices_S4x4098x1024_S4x4096x1024_0_0_0)) (mulf (broadcastInDim S4x4096x1024 ![0, 1, 2] bcast_S1x1x1024_S4x4096x1024_0_1_2 (broadcastInDim S1x1x1024 ![2] bcast_S1024_S1x1x1024_2 (shapeCast S1024 (extractStridedSlice S1x1024 ![1, 0] (shapeCast S3x1024 cw shapeCasts_S1x3x1024_S3x1024) slices_S3x1024_S1x1024_1_0) shapeCasts_S1x1024_S1024))) (extractStridedSlice S4x4096x1024 ![0, 1, 0] G slices_S4x4098x1024_S4x4096x1024_0_1_0))) (mulf (broadcastInDim S4x4096x1024 ![0, 1, 2] bcast_S1x1x1024_S4x4096x1024_0_1_2 (broadcastInDim S1x1x1024 ![2] bcast_S1024_S1x1x1024_2 (shapeCast S1024 (extractStridedSlice S1x1024 ![2, 0] (shapeCast S3x1024 cw shapeCasts_S1x3x1024_S3x1024) slices_S3x1024_S1x1024_2_0) shapeCasts_S1x1024_S1024))) (extractStridedSlice S4x4096x1024 ![0, 2, 0] G slices_S4x4098x1024_S4x4096x1024_0_2_0))))

theorem convd_apply (a : FVec Ideal S4x4096x3072 .f32) (G : FVec Ideal S4x4098x1024 .f32) (cw : FVec Ideal S1x3x1024 .f32) (b : Fin 4) (s : Fin 4096) (j : Fin 1024) :
    convd a G cw (ix3 b s j) = a (ix3 b s ⟨j.val, by omega⟩) * (cw (ix3 0 0 j) * G (ix3 b ⟨s.val, by omega⟩ j) + cw (ix3 0 1 j) * G (ix3 b ⟨1 + s.val, by omega⟩ j) + cw (ix3 0 2 j) * G (ix3 b ⟨2 + s.val, by omega⟩ j)) := by
  unfold convd
  pointwise

end Cert.ReferenceIdeal.Val

end
-- ==== Proof.AttRefBand.lean ====
/- The reference's result, stage by stage, is the plain formula. -/
module

public import proofs.«01_k».proof.Proof.AttGoal
public import proofs.«01_k».proof.Proof.AttRefIdx
public import Idealize.ShloMosaic.Lib.Pipeline.Value
public import Idealize.ShloMosaic.Lib.Tactic

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Rows

/-- The zero word stands for zero. -/
theorem zeroWord : (FloatOps.sitofp .f32 0#32 : Ideal .f32) = (0 : EReal) := by
  show ((((0#32 : BitVec 32).toInt : ℝ)) : EReal) = 0
  simp

/-- The queries by batch, chunk, place in the chunk, head and column. -/
def queries (X : FVec Ideal S4x4096x3072 .f32) : FVec Ideal S4x64x64x8x128 .f32 :=
  shapeCast _ (shapeCast (s := S4x4096x1024) S4x4096x8x128 (extractStridedSlice S4x4096x1024 ![0, 0, 0] X slices_S4x4096x3072_S4x4096x1024_0_0_0) shapeCasts_S4x4096x1024_S4x4096x8x128) shapeCasts_S4x4096x8x128_S4x64x64x8x128

theorem queries_apply (X : FVec Ideal S4x4096x3072 .f32) (b : Fin 4) (n qi : Fin 64) (h : Fin 8) (d : Fin 128) :
    queries X (ix5 b n qi h d) = X (ix3 b ⟨n.val * 64 + qi.val, by omega⟩ ⟨h.val * 128 + d.val, by omega⟩) := by
  unfold queries
  pointwise

/-- Keys or values by chunk, eight empty chunks in front. -/
def padded (X : FVec Ideal S4x4096x1024 .f32) : FVec Ideal S4x72x64x8x128 .f32 :=
  shapeCast _ (pad S4x4608x8x128 ![0, 512, 0, 0] ![0, 0, 0, 0] ![0, 0, 0, 0] (shapeCast (s := S4x4096x1024) S4x4096x8x128 X shapeCasts_S4x4096x1024_S4x4096x8x128) (sitofp (F := Ideal) .f32 (constantI S_ 32 0#32)) pads_S4x4096x8x128_S4x4608x8x128_000_51200_000_000 h_S_) shapeCasts_S4x4608x8x128_S4x72x64x8x128

theorem padded_apply (X : FVec Ideal S4x4096x1024 .f32) (b : Fin 4) (n : Fin 72) (e : Fin 64) (h : Fin 8) (d : Fin 128) :
    padded X (ix5 b n e h d) = if hp : 512 ≤ n.val * 64 + e.val then X (ix3 b ⟨n.val * 64 + e.val - 512, by omega⟩ ⟨h.val * 128 + d.val, by omega⟩) else 0 := by
  unfold padded
  pointwise
  by_cases hp : 512 ≤ n.val * 64 + e.val
  · rw [dif_pos ⟨hp, by omega⟩, dif_pos hp]
  · rw [dif_neg (fun h => hp h.1), dif_neg hp]
    exact zeroWord

theorem slices9 : ∀ n : Fin 9, S4x72x64x8x128.Slices ![0, n.val, 0, 0, 0] S4x64x64x8x128 := by decide

/-- The band of nine chunks that ends at each chunk. -/
def band (P : FVec Ideal S4x72x64x8x128 .f32) : FVec Ideal S4x64x576x8x128 .f32 :=
  concatenate S4x64x576x8x128 2 (List.ofFn fun n : Fin 9 => ⟨S4x64x64x8x128, extractStridedSlice S4x64x64x8x128 ![0, n.val, 0, 0, 0] P (slices9 n)⟩) concatenates_S4x64x64x8x128_S4x64x64x8x128_S4x64x64x8x128_S4x64x64x8x128_S4x64x64x8x128_S4x64x64x8x128_S4x64x64x8x128_S4x64x64x8x128_S4x64x64x8x128_S4x64x576x8x128_d2

theorem band_apply (P : FVec Ideal S4x72x64x8x128 .f32) (b : Fin 4) (n : Fin 64) (i : Fin 576) (h : Fin 8) (d : Fin 128) :
    band P (ix5 b n i h d) = P (ix5 b ⟨n.val + i.val / 64, by omega⟩ ⟨i.val % 64, by omega⟩ h d) := by
  unfold band
  refine (concatenate_ofFn_apply (t := S4x64x576x8x128) (s₁ := S4x64x64x8x128) 2 (fun n : Fin 9 => extractStridedSlice S4x64x64x8x128 ![0, n.val, 0, 0, 0] P (slices9 n)) _ rfl 64 rfl
    (ix5 b n i h d) ⟨i.val / 64, by omega⟩ rfl (ix5 b n ⟨i.val % 64, by omega⟩ h d) rfl ?_).trans ?_
  · intro a ha
    fin_cases a <;> first | rfl | exact absurd rfl ha
  · unfold extractStridedSlice
    congr 1
    funext a
    fin_cases a <;> (refine Fin.ext ?_; simp [ix5]; try omega)

end Cert.ReferenceIdeal.Val

end
-- ==== Proof.AttRefGates.lean ====
/- The reference's result, stage by stage, is the plain formula. -/
module

public import proofs.«01_k».proof.Proof.AttGoal
public import proofs.«01_k».proof.Proof.AttRefBand
public import Idealize.ShloMosaic.Lib.Pipeline.Value
public import Idealize.ShloMosaic.Lib.Tactic

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Rows

/-- The gated rows with two empty rows in front. -/
def gates (a : FVec Ideal S4x4096x3072 .f32) : FVec Ideal S4x4098x1024 .f32 :=
  pad S4x4098x1024 ![0, 2, 0] ![0, 0, 0] ![0, 0, 0] (mulf (extractStridedSlice S4x4096x1024 ![0, 0, 1024] a slices_S4x4096x3072_S4x4096x1024_0_0_1024) (extractStridedSlice S4x4096x1024 ![0, 0, 2048] a slices_S4x4096x3072_S4x4096x1024_0_0_2048)) (sitofp (F := Ideal) .f32 (constantI S_ 32 0#32)) pads_S4x4096x1024_S4x4098x1024_000_200_000 h_S_

theorem gates_apply (a : FVec Ideal S4x4096x3072 .f32) (b : Fin 4) (p : Fin 4098) (j : Fin 1024) : gates a (ix3 b p j) = Cert.Goal.gated a b p.val j := by
  unfold gates Cert.Goal.gated
  pointwise
  rw [zeroWord]

end Cert.ReferenceIdeal.Val

end
-- ==== Proof.AttRefProd.lean ====
/- The reference's result, stage by stage, is the plain formula. -/
module

public import proofs.«01_k».proof.Proof.AttGoal
public import proofs.«01_k».proof.Proof.AttRefIdx
public import Idealize.ShloMosaic.Lib.Pipeline.Value
public import Idealize.ShloMosaic.Lib.Tactic

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Rows

/-- The output product of the two halves. -/
def prod (A B : FVec Ideal S4x4096x1024 .f32) (w : FVec Ideal S1x2048x2048 .f32) : FVec Ideal S4x4096x2048 .f32 :=
  Host.dotGeneral dot_S4x4096x2048_S2048x2048_S4x4096x2048_2_0_01_1_n_n none (concatenate S4x4096x2048 2 [⟨S4x4096x1024, A⟩, ⟨S4x4096x1024, B⟩] concatenates_S4x4096x1024_S4x4096x1024_S4x4096x2048_d2) (shapeCast _ w shapeCasts_S1x2048x2048_S2048x2048)

theorem prod_apply (A B : FVec Ideal S4x4096x1024 .f32) (w : FVec Ideal S1x2048x2048 .f32) (b : Fin 4) (s : Fin 4096) (j : Fin 2048) :
    prod A B w (ix3 b s j) = ∑ k : Fin 2048, (if hk : k.val < 1024 then A (ix3 b s ⟨k.val, hk⟩) else B (ix3 b s ⟨k.val - 1024, by omega⟩)) * w (ix3 0 k j) := by
  unfold prod
  rw [Fin.sum_univ_two_halves 1024 1024 rfl]
  pointwise

end Cert.ReferenceIdeal.Val

end
-- ==== Proof.AttRefTable.lean ====
/- The reference's result, stage by stage, is the plain formula. -/
module

public import proofs.«01_k».proof.Proof.AttGoal
public import proofs.«01_k».proof.Proof.AttRefIdx
public import Idealize.ShloMosaic.Lib.Pipeline.Value
public import Idealize.ShloMosaic.Lib.Tactic

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Rows

/-- The table entries. -/
def table (rb : FVec Ideal S1x8x320 .f32) : FVec Ideal S8x64x576 .f32 :=
  Host.gather gather_S8x320_S64x576x1_S8x64x576_0_1_n_n_1_2_81 (shapeCast S8x320 rb shapeCasts_S1x8x320_S8x320) (broadcastInDim S64x576x1 ![0, 1] bcast_S64x576_S64x576x1_0_1 wrapped)

theorem gather_apply (x : FVec Ideal S8x320 .f32) (w : IVec S64x576x1 32) (h : Fin 8) (qi : Fin 64) (i : Fin 576) :
    Host.gather gather_S8x320_S64x576x1_S8x64x576_0_1_n_n_1_2_81 x w (ix3 h qi i) = x (ix2 h ⟨min (w (ix3 qi i 0)).toInt.toNat 319, by omega⟩) := by
  unfold Host.gather
  congr 1
  funext a
  refine Fin.ext ?_
  match a with
  | ⟨0, _⟩ =>
    show gather_S8x320_S64x576x1_S8x64x576_0_1_n_n_1_2_81.start (ix3 h qi i) w 0 + gather_S8x320_S64x576x1_S8x64x576_0_1_n_n_1_2_81.batchCoord (ix3 h qi i) 0 + gather_S8x320_S64x576x1_S8x64x576_0_1_n_n_1_2_81.offCoord (ix3 h qi i) 0 = h.val
    rw [GatherDims.batchCoord_eq_zero _ _ _ List.not_mem_nil]
    unfold GatherDims.start
    rw [dif_neg (show (0 : Fin 2) ∉ gather_S8x320_S64x576x1_S8x64x576_0_1_n_n_1_2_81.startIndexMap by decide)]
    rw [Nat.add_zero, Nat.zero_add]
    rfl
  | ⟨1, _⟩ =>
    show gather_S8x320_S64x576x1_S8x64x576_0_1_n_n_1_2_81.start (ix3 h qi i) w 1 + gather_S8x320_S64x576x1_S8x64x576_0_1_n_n_1_2_81.batchCoord (ix3 h qi i) 1 + gather_S8x320_S64x576x1_S8x64x576_0_1_n_n_1_2_81.offCoord (ix3 h qi i) 1 = _
    rw [GatherDims.batchCoord_eq_zero _ _ _ List.not_mem_nil,
      GatherDims.offCoord_eq_zero _ _ _ (fun h => ((GatherDims.mem_sKept _ _).mp h).1 (List.mem_singleton.mpr rfl))]
    rw [Nat.add_zero]
    unfold GatherDims.start
    rw [dif_pos (show (1 : Fin 2) ∈ gather_S8x320_S64x576x1_S8x64x576_0_1_n_n_1_2_81.startIndexMap from List.mem_singleton.mpr rfl)]
    have hsi : gather_S8x320_S64x576x1_S8x64x576_0_1_n_n_1_2_81.siIdx (ix3 h qi i) ⟨List.idxOf (1 : Fin 2) gather_S8x320_S64x576x1_S8x64x576_0_1_n_n_1_2_81.startIndexMap,
        List.idxOf_lt_length_iff.2 (List.mem_singleton.mpr rfl)⟩ = ix3 qi i 0 := by
      funext b; refine Fin.ext ?_
      match b with
      | ⟨0, _⟩ => rfl
      | ⟨1, _⟩ => rfl
      | ⟨2, _⟩ => rfl
    rw [hsi]
    rfl

theorem flat_apply (rb : FVec Ideal S1x8x320 .f32) (h : Fin 8) (k : Fin 320) :
    shapeCast S8x320 rb shapeCasts_S1x8x320_S8x320 (ix2 h k) = rb (ix3 0 h k) := by
  pointwise

theorem column_apply (w : IVec S64x576 32) (qi : Fin 64) (i : Fin 576) :
    broadcastInDim S64x576x1 ![0, 1] bcast_S64x576_S64x576x1_0_1 w (ix3 qi i 0) = w (ix2 qi i) := by
  pointwise

theorem word_nat (n : ℕ) (hn : n < 640) : (BitVec.ofNat 32 (min 319 n)).toInt.toNat = min 319 n := by
  have e : (BitVec.ofNat 32 (min 319 n)).toInt = ((min 319 n : ℕ) : ℤ) := by
    rw [BitVec.toInt_eq_toNat_of_lt (by rw [BitVec.toNat_ofNat]; omega), BitVec.toNat_ofNat]; omega
  rw [e, Int.toNat_natCast]

theorem entry_nat (qi : Fin 64) (i : Fin 576) :
    min (broadcastInDim S64x576x1 ![0, 1] bcast_S64x576_S64x576x1_0_1 wrapped (ix3 qi i 0)).toInt.toNat 319 = min 319 (575 + qi.val - i.val) := by
  rw [column_apply, dist_apply, word_nat _ (by omega)]
  omega

attribute [local irreducible] wrapped in
theorem table_apply (rb : FVec Ideal S1x8x320 .f32) (h : Fin 8) (qi : Fin 64) (i : Fin 576) :
    table rb (ix3 h qi i) = Cert.Goal.bias rb h qi i := by
  have e : table rb (ix3 h qi i) = rb (ix3 0 h ⟨min (broadcastInDim S64x576x1 ![0, 1] bcast_S64x576_S64x576x1_0_1 wrapped (ix3 qi i 0)).toInt.toNat 319, by omega⟩) :=
    (gather_apply _ _ h qi i).trans (flat_apply rb h _)
  rw [e]
  exact congrArg rb (congrArg (ix3 0 h) (Fin.ext (entry_nat qi i)))

end Cert.ReferenceIdeal.Val

end
-- ==== Proof.AttRefExp.lean ====
/- The reference's result, stage by stage, is the plain formula. -/
module

public import proofs.«01_k».proof.Proof.AttGoal
public import proofs.«01_k».proof.Proof.AttRefIdx
public import Idealize.ShloMosaic.Lib.Pipeline.Value
public import Idealize.ShloMosaic.Lib.Tactic

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Rows

/-- The exponentials of a score array, given the largest score of every row. -/
def expd (x : FVec Ideal S4x8x64x64x576 .f32) (M : FVec Ideal S4x8x64x64 .f32) : FVec Ideal S4x8x64x64x576 .f32 :=
  Host.exp (F := Ideal) (subf x (broadcastInDim S4x8x64x64x576 ![0, 1, 2, 3, 4] bcast_S4x8x64x64x1_S4x8x64x64x576_0_1_2_3_4 (broadcastInDim S4x8x64x64x1 ![0, 1, 2, 3] bcast_S4x8x64x64_S4x8x64x64x1_0_1_2_3 (maximumf (broadcastInDim S4x8x64x64 ![] bcast_S_S4x8x64x64 (constant S_ .f32 0xFF800000#32)) M))))

theorem bot_word : Ideal.ofBits .f32 0xFF800000#32 = ⊥ := by
  simp [Ideal.ofBits, Ideal.ieee]

theorem expd_apply (x : FVec Ideal S4x8x64x64x576 .f32) (M : FVec Ideal S4x8x64x64 .f32) (b : Fin 4) (h : Fin 8) (n qi : Fin 64) (i : Fin 576) :
    expd x M (ix5 b h n qi i) = Ideal.exp (x (ix5 b h n qi i) - M (ix4 b h n qi)) := by
  unfold expd
  pointwise
  rw [show (4286578688#32) = 0xFF800000#32 from rfl, bot_word, max_bot_left]

end Cert.ReferenceIdeal.Val

end
-- ==== Proof.AttRefMax.lean ====
/- The reference's result, stage by stage, is the plain formula. -/
module

public import proofs.«01_k».proof.Proof.AttGoal
public import proofs.«01_k».proof.Proof.AttRefIdx
public import Idealize.ShloMosaic.Lib.Pipeline.Value
public import Idealize.ShloMosaic.Lib.Tactic

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Rows

/-- The largest score of every row. -/
def rowmax (x : FVec Ideal S4x8x64x64x576 .f32) : FVec Ideal S4x8x64x64 .f32 :=
  Host.reduce FloatOps.maximumf x (constant (F := Ideal) S_ .f32 0xFF800000#32) reducesTo_S4x8x64x64x576_S4x8x64x64_d4 h_S_

theorem maxStart : Ideal.ofBits .f32 0xFF800000#32 = ⊥ := by
  simp [Ideal.ofBits, Ideal.ieee]

theorem rowmax_apply (x : FVec Ideal S4x8x64x64x576 .f32) (b : Fin 4) (h : Fin 8) (n qi : Fin 64) :
    rowmax x (ix4 b h n qi) = Finset.univ.sup fun i => x (ix5 b h n qi i) := by
  unfold rowmax
  pointwise
  rw [show (4286578688#32) = 0xFF800000#32 from rfl, maxStart]
  rfl

end Cert.ReferenceIdeal.Val

end
-- ==== Proof.AttRef.lean ====
/- The reference's result, stage by stage, is the plain formula. -/
module

public import proofs.«01_k».proof.Proof.Gen.ReferenceIdeal.Run
public import proofs.«01_k».proof.Proof.AttRefScores
public import proofs.«01_k».proof.Proof.AttRefMasked
public import proofs.«01_k».proof.Proof.AttRefMixed
public import proofs.«01_k».proof.Proof.AttRefConv
public import proofs.«01_k».proof.Proof.AttRefGates
public import proofs.«01_k».proof.Proof.AttRefProd
public import proofs.«01_k».proof.Proof.AttRefTable
public import proofs.«01_k».proof.Proof.AttRefExp
public import proofs.«01_k».proof.Proof.AttRefMax

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem Idealize.ShloMosaic.StableHlo Cert.Rows

/-- The key columns and the value columns. -/
def keys (X : FVec Ideal S4x4096x3072 .f32) : FVec Ideal S4x4096x1024 .f32 := extractStridedSlice S4x4096x1024 ![0, 0, 1024] X slices_S4x4096x3072_S4x4096x1024_0_0_1024
def values (X : FVec Ideal S4x4096x3072 .f32) : FVec Ideal S4x4096x1024 .f32 := extractStridedSlice S4x4096x1024 ![0, 0, 2048] X slices_S4x4096x3072_S4x4096x1024_0_0_2048

theorem keys_apply (X : FVec Ideal S4x4096x3072 .f32) (b : Fin 4) (s : Fin 4096) (k : Fin 1024) : keys X (ix3 b s k) = X (ix3 b s ⟨1024 + k.val, by omega⟩) := by
  unfold keys; pointwise
theorem values_apply (X : FVec Ideal S4x4096x3072 .f32) (b : Fin 4) (s : Fin 4096) (k : Fin 1024) : values X (ix3 b s k) = X (ix3 b s ⟨2048 + k.val, by omega⟩) := by
  unfold values; pointwise

variable (W : Valuation τ sig (Elt Ideal))

abbrev gA : Goal.Conv := W (Proc.devRef .tc main_arg0)
abbrev gQ : Goal.Qkv := W (Proc.devRef .tc main_arg1)
abbrev gX : Goal.Hid := W (Proc.devRef .tc main_arg2)
abbrev gG : Goal.Gain := W (Proc.devRef .tc main_arg3)
abbrev gC : Goal.ConvW := W (Proc.devRef .tc main_arg4)
abbrev gR : Goal.Rel := W (Proc.devRef .tc main_arg5)
abbrev gW : Goal.OutW := W (Proc.devRef .tc main_arg6)

theorem wide_apply (i : S4x4096x3072.Idx) : (res_main_v0 (F := Ideal) W : FVec Ideal S4x4096x3072 .f32) i = gQ W i := rfl

theorem masked_eq : (res_main_v95 (F := Ideal) W : FVec Ideal S4x8x64x64x576 .f32)
    = masked (scores (queries (res_main_v0 W)) (band (padded (keys (res_main_v0 W))))) (table (gR W)) := rfl

theorem expd_eq : (res_main_v102 (F := Ideal) W : FVec Ideal S4x8x64x64x576 .f32) = expd (res_main_v95 W) (rowmax (res_main_v95 W)) := rfl

theorem prod_eq : (res_main_v112 (F := Ideal) W : FVec Ideal S4x4096x2048 .f32)
    = prod (convd (gA W) (gates (gA W)) (gC W)) (mixed (res_main_v102 W) (band (padded (values (res_main_v0 W))))) (gW W) := rfl

theorem score_apply (b : Fin 4) (s : Fin 4096) (h : Fin 8) (i : Fin 576) :
    (res_main_v95 (F := Ideal) W : FVec Ideal S4x8x64x64x576 .f32) (ix5 b h ⟨s.val / 64, by omega⟩ ⟨s.val % 64, by omega⟩ i) = Goal.score (gQ W) (gR W) b s h i := by
  rw [masked_eq, masked_apply]
  unfold Goal.score
  by_cases hi : 512 ≤ 64 * (s.val / 64) + i.val
  · rw [if_pos (show 8 ≤ s.val / 64 + i.val / 64 by omega), dif_pos hi, scores_apply, table_apply]
    refine congrArg (fun z => Ideal.div z _ + _) (Finset.sum_congr rfl fun d _ => ?_)
    rw [queries_apply, band_apply, padded_apply, dif_pos (show 512 ≤ (s.val / 64 + i.val / 64) * 64 + i.val % 64 by omega), keys_apply, wide_apply, wide_apply]
    refine congrArg₂ (· * ·) (congrArg (gQ W) (congrArg₂ (ix3 b) (Fin.ext ?_) (Fin.ext ?_))) (congrArg (gQ W) (congrArg₂ (ix3 b) (Fin.ext ?_) (Fin.ext ?_)))
    · show s.val / 64 * 64 + s.val % 64 = s.val; omega
    · show h.val * 128 + d.val = 128 * h.val + d.val; omega
    · show (s.val / 64 + i.val / 64) * 64 + i.val % 64 - 512 = 64 * (s.val / 64) + i.val - 512; omega
    · show 1024 + (h.val * 128 + d.val) = 1024 + (128 * h.val + d.val); omega
  · rw [if_neg (show ¬ 8 ≤ s.val / 64 + i.val / 64 by omega), dif_neg hi]

theorem exp_apply (b : Fin 4) (s : Fin 4096) (h : Fin 8) (i : Fin 576) :
    (res_main_v102 (F := Ideal) W : FVec Ideal S4x8x64x64x576 .f32) (ix5 b h ⟨s.val / 64, by omega⟩ ⟨s.val % 64, by omega⟩ i)
      = Ideal.exp (Goal.score (gQ W) (gR W) b s h i - Finset.univ.sup (Goal.score (gQ W) (gR W) b s h)) := by
  rw [expd_eq, expd_apply, rowmax_apply, score_apply]
  simp only [score_apply]

theorem value_apply (b : Fin 4) (s : Fin 4096) (h : Fin 8) (d : Fin 128) (i : Fin 576) :
    band (padded (values (res_main_v0 (F := Ideal) W))) (ix5 b ⟨s.val / 64, by omega⟩ i h d) = Goal.val (gQ W) b s h d i := by
  rw [band_apply, padded_apply]
  unfold Goal.val
  by_cases hi : 512 ≤ 64 * (s.val / 64) + i.val
  · rw [dif_pos (show 512 ≤ (s.val / 64 + i.val / 64) * 64 + i.val % 64 by omega), dif_pos hi, values_apply, wide_apply]
    refine congrArg (gQ W) (congrArg₂ (ix3 b) (Fin.ext ?_) (Fin.ext ?_))
    · show (s.val / 64 + i.val / 64) * 64 + i.val % 64 - 512 = 64 * (s.val / 64) + i.val - 512; omega
    · show 2048 + (h.val * 128 + d.val) = 2048 + (128 * h.val + d.val); omega
  · rw [dif_neg (show ¬ 512 ≤ (s.val / 64 + i.val / 64) * 64 + i.val % 64 by omega), dif_neg hi]

theorem attend_apply (b : Fin 4) (s : Fin 4096) (k : Fin 1024) :
    mixed (res_main_v102 W) (band (padded (values (res_main_v0 (F := Ideal) W)))) (ix3 b s k)
      = Goal.attend (Goal.score (gQ W) (gR W) b s ⟨k.val / 128, by omega⟩) (Goal.val (gQ W) b s ⟨k.val / 128, by omega⟩ ⟨k.val % 128, by omega⟩) := by
  rw [mixed_apply]
  simp only [exp_apply, value_apply]
  rfl

theorem conv_apply (b : Fin 4) (s : Fin 4096) (j : Fin 1024) : convd (gA W) (gates (gA W)) (gC W) (ix3 b s j) = Goal.conv (gA W) (gC W) b s j := by
  rw [convd_apply, gates_apply, gates_apply, gates_apply]
  unfold Goal.conv
  dsimp only
  rw [Nat.add_comm 1 s.val, Nat.add_comm 2 s.val]

theorem prod_row (b : Fin 4) (s : Fin 4096) (j : Fin 2048) :
    (res_main_v112 (F := Ideal) W : FVec Ideal S4x4096x2048 .f32) (ix3 b s j) = (∑ k : Fin 2048, Goal.row (gA W) (gQ W) (gC W) (gR W) b s k * gW W (ix3 0 k j) : EReal) := by
  show (res_main_v112 (F := Ideal) W : S4x4096x2048.Idx → EReal) (ix3 b s j) = _
  rw [prod_eq, prod_apply]
  refine Finset.sum_congr (M := EReal) rfl fun k _ => congrArg (fun z : EReal => z * gW W (ix3 0 k j)) ?_
  unfold Goal.row
  by_cases hk : k.val < 1024
  · rw [dif_pos hk, dif_pos hk, conv_apply]
  · rw [dif_neg hk, dif_neg hk, attend_apply]

/-- The normalization of every row of `X` by the weights `G`. -/
def normed (X : FVec Ideal S4x4096x2048 .f32) (G : FVec Ideal S2048 .f32) : FVec Ideal S4x4096x2048 .f32 :=
  mulf (mulf X (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf X X) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 G))

theorem normed_apply (X : FVec Ideal S4x4096x2048 .f32) (G : FVec Ideal S2048 .f32) (b : Fin 4) (s : Fin 4096) (k : Fin 2048) :
    normed X G (ix3 b s k) = rms (fun k => X (ix3 b s k)) (fun k => G (ix1 k)) k := by
  unfold normed
  pointwise [rms]

/-- The second row of the first layer's normalization weights. -/
def gain (g : FVec Ideal S2x4x2048 .f32) : FVec Ideal S2048 .f32 :=
  shapeCast _ (extractStridedSlice S1x2048 ![1, 0] (shapeCast _ (extractStridedSlice S1x4x2048 ![0, 0, 0] g slices_S2x4x2048_S1x4x2048_0_0_0) shapeCasts_S1x4x2048_S4x2048) slices_S4x2048_S1x2048_1_0) shapeCasts_S1x2048_S2048

theorem gain_apply (g : FVec Ideal S2x4x2048 .f32) (k : Fin 2048) : gain g (ix1 k) = g (ix3 0 1 k) := by
  unfold gain; pointwise

/-- The result in its stages. -/
def final (X P : FVec Ideal S4x4096x2048 .f32) (g : FVec Ideal S2x4x2048 .f32) : FVec Ideal S16384x2048 .f32 :=
  shapeCast S16384x2048 (addf X (normed P (gain g))) shapeCasts_S4x4096x2048_S16384x2048

theorem final_apply (X P : FVec Ideal S4x4096x2048 .f32) (g : FVec Ideal S2x4x2048 .f32) (R : Fin 16384) (j : Fin 2048) :
    final X P g (ix2 R j) = X (ix3 ⟨R.val / 4096, by omega⟩ ⟨R.val % 4096, by omega⟩ j)
      + rms (fun k => P (ix3 ⟨R.val / 4096, by omega⟩ ⟨R.val % 4096, by omega⟩ k)) (fun k => g (ix3 0 1 k)) j := by
  unfold final
  pointwise
  simp only [normed_apply, gain_apply]

theorem out_apply (R : Fin 16384) (j : Fin 2048) : final (gX W) (res_main_v112 W) (gG W) (ix2 R j)
    = Goal.out (gA W) (gQ W) (gX W) (gG W) (gC W) (gR W) (gW W) ⟨R.val / 4096, by omega⟩ ⟨R.val % 4096, by omega⟩ j := by
  rw [final_apply]
  simp only [prod_row]
  rfl

theorem run_final (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v131) = final (gX (launchContents m c)) (res_main_v112 (launchContents m c)) (gG (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ReferenceIdeal.Value.run (F := Ideal) m ρ

end Cert.ReferenceIdeal.Val

end
-- ==== Proof.AttClaims.lean ====
/- The attention's two programs agree: both end at the same formula. -/
module

public import proofs.«01_k».proof.Defs
public import proofs.«01_k».proof.Proof.AttValue
public import proofs.«01_k».proof.Proof.AttPre
public import proofs.«01_k».proof.Proof.AttRef
public import Idealize.ShloMosaic.Lib.Claim
public import Idealize.ShloMosaic.Lib.Quiescent

@[expose] public section

set_option maxRecDepth 16384

noncomputable section

namespace Cert.Att.Value

open Cert.KernelIdeal Cert.KernelIdeal.Gen Idealize.ShloMosaic Idealize.ShloMosaic.TcCoe Idealize.SL.Sem
open Cert.Att Cert.Att.Blocks

variable (m : (ℓ : Loc nD τ sig) → Buf (Elt Ideal) ℓ) (ρ : Dev nD → PrngReg)

/-- The attention runs, and its output array ends holding the formula. -/
theorem run_result (hr : ∀ c : Dev nD, Head.RealArgs (aQ m c) (aR m c)) :
    θ_run defs (onTc (τ := τ) (main (F := Ideal))) ⟨m, fun _ => 0, ρ⟩ (fun r => ∀ c : Dev nD,
      r.2.mem ((c.tc : Thread nD τ).loc main_v169) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 17).trans (arr_eq m c (hr c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Att.Value

namespace Cert.AttClaims

open Idealize.ShloMosaic Idealize.ShloMosaic.TcCoe Idealize.SL.Sem Cert.Att.Blocks

theorem kernel_quiescent : Cert.quiescent_KernelIdeal (hKernelIdeal := Cert.KernelIdeal.Gen.facts) :=
  fun m ρ _ => Cert.Att.frame_main (F := Ideal) m ρ

theorem kernel_quiescent_pre : Cert.quiescent_KernelIdeal_pre_finite_scores (hKernelIdeal := Cert.KernelIdeal.Gen.facts)
    (hPre_finite_scores := Cert.Att.Pre.facts) := fun m ρ _ => Cert.Att.frame_main (F := Ideal) m ρ

theorem reference_quiescent : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Val.run_final m ρ)

theorem reference_quiescent_pre : Cert.quiescent_ReferenceIdeal_pre_finite_scores (hReferenceIdeal := Cert.ReferenceIdeal.Gen.facts)
    (hPre_finite_scores := Cert.Att.Pre.facts) := fun m ρ _ =>
  (θ_run Cert.ReferenceIdeal.defs _ _).mono (fun r h => ⟨fun c => (h c).2, Idealize.ShloMosaic.sem_eq_zero_of_no_sems (by decide) r.2⟩)
    (Cert.ReferenceIdeal.Val.run_final m ρ)

theorem preserves : Cert.preserves_Kernel_KernelIdeal :=
  ⟨IdealRules.named_const.statement _ _ _ _ _ rfl, IdealRules.named_const.statement _ _ _ _ _ rfl⟩

theorem out_congr {a a' : Cert.Goal.Conv} {q q' : Cert.Goal.Qkv} {x x' : Cert.Goal.Hid} {g g' : Cert.Goal.Gain} {cw cw' : Cert.Goal.ConvW}
    {rb rb' : Cert.Goal.Rel} {w w' : Cert.Goal.OutW} (h0 : a = a') (h1 : q = q') (h2 : x = x') (h3 : g = g') (h4 : cw = cw') (h5 : rb = rb')
    (h6 : w = w') (b : Fin 4) (s : Fin 4096) (j : Fin 2048) : Cert.Goal.out a q x g cw rb w b s j = Cert.Goal.out a' q' x' g' cw' rb' w' b s j := by
  subst h0 h1 h2 h3 h4 h5 h6
  rfl

/-- The attention and its reference end at the same array. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Att.Pre.facts) := by
  intro m g m' g' hpre hagree
  have hr (c : Dev Cert.KernelIdeal.nD) : Cert.Att.Head.RealArgs (aQ m c) (aR m c) :=
    Cert.Att.Pre.real_args _ _ _ _ _ _ _ (hpre c).1 (hpre c).2
  refine ⟨fun c => Cert.Att.Value.result m c, Cert.Att.Value.run_result m g hr, ?_⟩
  refine (θ_run _ _ _).mono (fun r h c => ?_) (Cert.ReferenceIdeal.Val.run_final m' g')
  obtain ⟨h0, h1⟩ := h c
  refine ⟨h0.trans ?_, h1⟩
  obtain ⟨a0, a1, a2, a3, a4, a5, a6⟩ := hagree c
  funext i
  rw [ValueIdx.eq_ix2 i]
  refine (Cert.ReferenceIdeal.Val.out_apply _ (i 0) (i 1)).trans ?_
  exact out_congr a0 a1 a2 a3 a4 a5 a6 _ _ _

end Cert.AttClaims

end
-- ==== Proof.lean ====
/- The certificate: the attention call and the feed-forward call, each with its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.ReferenceIdeal.Run
public import proofs.«01_k».proof.Proof.MlpRef
public import proofs.«01_k».proof.Proof.AttBits
public import proofs.«01_k».proof.Proof.AttClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts, Cert.Att.Pre.facts,
  Cert.AttBits.kernel_quiescent, Cert.AttClaims.kernel_quiescent, Cert.AttClaims.kernel_quiescent_pre,
  Cert.AttClaims.reference_quiescent, Cert.AttClaims.reference_quiescent_pre,
  fun m ρ _ => Cert.Mlp.Gen.frame m ρ, fun m ρ _ => Cert.MlpIdeal.Gen.frame m ρ, Cert.MlpClaims.reference_quiescent,
  Cert.AttClaims.preserves, Cert.AttClaims.algebraic, trivial, Cert.MlpClaims.algebraic⟩

end Cert.Proof

end
